-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_in_range [hPre_bias_in_range : Cert.Pre_bias_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_bias_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_in_range [hPre_bias_in_range : Cert.Pre_bias_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bias_in_range [hKernelIdeal : Cert.KernelIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bias_in_range [hReferenceIdeal : Cert.ReferenceIdeal.Facts] [hPre_bias_in_range : Cert.Pre_bias_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bias_in_range [hKernelIdeal : Cert.KernelIdeal.Facts] [hReferenceIdeal : Cert.ReferenceIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bias_in_range : Cert.Pre_bias_in_range.Facts),
    quiescent_Kernel (hKernel := hKernel)
    ∧ quiescent_KernelIdeal (hKernelIdeal := hKernelIdeal)
    ∧ quiescent_KernelIdeal_pre_bias_in_range (hKernelIdeal := hKernelIdeal) (hPre_bias_in_range := hPre_bias_in_range)
    ∧ quiescent_ReferenceIdeal (hReferenceIdeal := hReferenceIdeal)
    ∧ quiescent_ReferenceIdeal_pre_bias_in_range (hReferenceIdeal := hReferenceIdeal) (hPre_bias_in_range := hPre_bias_in_range)
    ∧ preserves_Kernel_KernelIdeal
    ∧ algebraic_KernelIdeal_ReferenceIdeal_pre_bias_in_range (hKernelIdeal := hKernelIdeal) (hReferenceIdeal := hReferenceIdeal) (hPre_bias_in_range := hPre_bias_in_range)
-- ==== Pre_bias_in_range.lean ====
abbrev S8x4096x2816 : Shape := ⟨3, ![8, 4096, 2816]⟩
abbrev S8x4096x22 : Shape := ⟨3, ![8, 4096, 22]⟩
abbrev S2816x32 : Shape := ⟨2, ![2816, 32]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S8x4096x2816 .fp8e4m3) (main_arg1 : FVec F S8x4096x22 .f32) (main_arg2 : FVec F S2816x32 .fp8e4m3) (main_arg3 : FVec F S32 .f32) (main_arg4 : FVec F S32 .f32) : IVec S32 1 :=
  let main_cst : FVec F S_ .f32 := constant S_ .f32 0xFF7FFFFF#32
  let main_v0 : FVec F S32 .f32 := broadcastInDim S32 ![] bcast_S_S32 main_cst
  let main_v1 : IVec S32 1 := cmpf .ogt main_arg4 main_v0
  let main_cst_0 : FVec F S_ .f32 := constant S_ .f32 0xFF800000#32
  let main_v2 : FVec F S32 .f32 := broadcastInDim S32 ![] bcast_S_S32 main_cst_0
  let main_v3 : IVec S32 1 := cmpf .oeq main_arg4 main_v2
  let main_v4 : IVec S32 1 := ori main_v1 main_v3
  main_v4
-- ==== Kernel.lean ====
abbrev S8x4096x2816 : Shape := ⟨3, ![8, 4096, 2816]⟩
abbrev S8x4096x22 : Shape := ⟨3, ![8, 4096, 22]⟩
abbrev S2816x32 : Shape := ⟨2, ![2816, 32]⟩
abbrev S32 : Shape := ⟨1, ![32]⟩
abbrev S32768x2816 : Shape := ⟨2, ![32768, 2816]⟩
abbrev S8x22x4096 : Shape := ⟨3, ![8, 22, 4096]⟩
abbrev S32x2816 : Shape := ⟨2, ![32, 2816]⟩
abbrev S8x4x4096 : Shape := ⟨3, ![8, 4, 4096]⟩
abbrev S1024x2816 : Shape := ⟨2, ![1024, 2816]⟩
abbrev S1x22x1024 : Shape := ⟨3, ![1, 22, 1024]⟩
abbrev S1x4x1024 : Shape := ⟨3, ![1, 4, 1024]⟩
abbrev S11x64x256 : Shape := ⟨3, ![11, 64, 256]⟩
abbrev S288x128 : Shape := ⟨2, ![288, 128]⟩
abbrev S32x128 : Shape := ⟨2, ![32, 128]⟩
abbrev S1x32x128 : Shape := ⟨3, ![1, 32, 128]⟩
abbrev S1x64x256 : Shape := ⟨3, ![1, 64, 256]⟩
abbrev S64x256 : Shape := ⟨2, ![64, 256]⟩
abbrev S256x256 : Shape := ⟨2, ![256, 256]⟩
abbrev S1x1x256 : Shape := ⟨3, ![1, 1, 256]⟩
abbrev S1x256 : Shape := ⟨2, ![1, 256]⟩
abbrev S32x256 : Shape := ⟨2, ![32, 256]⟩
abbrev S8x128 : Shape := ⟨2, ![8, 128]⟩
abbrev S1 : Shape := ⟨1, ![1]⟩
abbrev S4x128 : Shape := ⟨2, ![4, 128]⟩
abbrev S1x4x128 : Shape := ⟨3, ![1, 4, 128]⟩
abbrev S8x4096x4 : Shape := ⟨3, ![8, 4096, 4]⟩

abbrev nBuf : Space → Nat
  | .hbm => 12
  | .vmem => 13
  | .smem => 2
  | _ => 0

abbrev bufTy : (tb : Table) → Fin (tcTables nBuf tb) → BufTy
  | .hbm, ⟨0, _⟩ => ⟨S8x4096x2816, .fp8e4m3⟩
  | .hbm, ⟨1, _⟩ => ⟨S8x4096x22, .f32⟩
  | .hbm, ⟨2, _⟩ => ⟨S2816x32, .fp8e4m3⟩
  | .hbm, ⟨3, _⟩ => ⟨S32, .f32⟩
  | .hbm, ⟨4, _⟩ => ⟨S32, .f32⟩
  | .hbm, ⟨5, _⟩ => ⟨S32768x2816, .fp8e4m3⟩
  | .hbm, ⟨6, _⟩ => ⟨S8x22x4096, .f32⟩
  | .hbm, ⟨7, _⟩ => ⟨S32x2816, .fp8e4m3⟩
  | .hbm, ⟨8, _⟩ => ⟨S8x4x4096, .i32⟩
  | .hbm, ⟨9, _⟩ => ⟨S8x4x4096, .f32⟩
  | .hbm, ⟨10, _⟩ => ⟨S8x4096x4, .i32⟩
  | .hbm, ⟨11, _⟩ => ⟨S8x4096x4, .f32⟩
  | .local _ .vmem, ⟨0, _⟩ => ⟨S1024x2816, .fp8e4m3⟩
  | .local _ .vmem, ⟨1, _⟩ => ⟨S1024x2816, .fp8e4m3⟩
  | .local _ .vmem, ⟨2, _⟩ => ⟨S1x22x1024, .f32⟩
  | .local _ .vmem, ⟨3, _⟩ => ⟨S1x22x1024, .f32⟩
  | .local _ .vmem, ⟨4, _⟩ => ⟨S32x2816, .fp8e4m3⟩
  | .local _ .vmem, ⟨5, _⟩ => ⟨S1x4x1024, .i32⟩
  | .local _ .vmem, ⟨6, _⟩ => ⟨S1x4x1024, .i32⟩
  | .local _ .vmem, ⟨7, _⟩ => ⟨S1x4x1024, .f32⟩
  | .local _ .vmem, ⟨8, _⟩ => ⟨S1x4x1024, .f32⟩
  | .local _ .vmem, ⟨9, _⟩ => ⟨S11x64x256, .bf16⟩
  | .local _ .vmem, ⟨10, _⟩ => ⟨S288x128, .f32⟩
  | .local _ .vmem, ⟨11, _⟩ => ⟨S32x128, .i32⟩
  | .local _ .vmem, ⟨12, _⟩ => ⟨S32x128, .f32⟩
  | .local _ .smem, ⟨0, _⟩ => ⟨S32, .f32⟩
  | .local _ .smem, ⟨1, _⟩ => ⟨S32, .f32⟩
  | _, _ => ⟨S8x4096x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x22x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x4096x2816 : Shape := ⟨3, ![8, 4096, 2816]⟩
abbrev S8x4096x22 : Shape := ⟨3, ![8, 4096, 22]⟩
abbrev S2816x32 : Shape := ⟨2, ![2816, 32]⟩
abbrev S32 : Shape := ⟨1, ![32]⟩
abbrev S32768x22x128 : Shape := ⟨3, ![32768, 22, 128]⟩
abbrev S22x128x32 : Shape := ⟨3, ![22, 128, 32]⟩
abbrev S22x32768x32 : Shape := ⟨3, ![22, 32768, 32]⟩
abbrev S32768x22 : Shape := ⟨2, ![32768, 22]⟩
abbrev S22x32768 : Shape := ⟨2, ![22, 32768]⟩
abbrev S22x32768x1 : Shape := ⟨3, ![22, 32768, 1]⟩
abbrev S_ : Shape := ⟨0, ![]⟩
abbrev S32768x32 : Shape := ⟨2, ![32768, 32]⟩
abbrev S1x32 : Shape := ⟨2, ![1, 32]⟩
abbrev S262144x4 : Shape := ⟨2, ![262144, 4]⟩
abbrev S262144x1x4 : Shape := ⟨3, ![262144, 1, 4]⟩
abbrev S262144x4x1 : Shape := ⟨3, ![262144, 4, 1]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x4 : Shape := ⟨3, ![1, 4, 4]⟩
abbrev S262144x4x4 : Shape := ⟨3, ![262144, 4, 4]⟩
abbrev S262144 : Shape := ⟨1, ![262144]⟩
abbrev S32768x8 : Shape := ⟨2, ![32768, 8]⟩
abbrev S32768x1x8 : Shape := ⟨3, ![32768, 1, 8]⟩
abbrev S32768x8x1 : Shape := ⟨3, ![32768, 8, 1]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S1x8x8 : Shape := ⟨3, ![1, 8, 8]⟩
abbrev S32768x8x8 : Shape := ⟨3, ![32768, 8, 8]⟩
abbrev S32768x8x4 : Shape := ⟨3, ![32768, 8, 4]⟩
abbrev S32768x1x32 : Shape := ⟨3, ![32768, 1, 32]⟩
abbrev S32768x32x1 : Shape := ⟨3, ![32768, 32, 1]⟩
abbrev S32x1 : Shape := ⟨2, ![32, 1]⟩
abbrev S32x32 : Shape := ⟨2, ![32, 32]⟩
abbrev S1x32x32 : Shape := ⟨3, ![1, 32, 32]⟩
abbrev S32768x32x32 : Shape := ⟨3, ![32768, 32, 32]⟩
abbrev S1x4x1 : Shape := ⟨3, ![1, 4, 1]⟩
abbrev S32768x4x32 : Shape := ⟨3, ![32768, 4, 32]⟩
abbrev S1x1x32 : Shape := ⟨3, ![1, 1, 32]⟩
abbrev S32768x4 : Shape := ⟨2, ![32768, 4]⟩
abbrev S32768 : Shape := ⟨1, ![32768]⟩
abbrev S32768x1 : Shape := ⟨2, ![32768, 1]⟩
abbrev S8x4096x4 : Shape := ⟨3, ![8, 4096, 4]⟩

abbrev nBuf : Space → Nat
  | .hbm => 152
  | .vmem => 4
  | .smem => 0
  | _ => 0

abbrev hbmTy0_0 (i : Nat) : BufTy := match i % 128 with
  | 0 => ⟨S8x4096x2816, .fp8e4m3⟩
  | 1 => ⟨S8x4096x22, .f32⟩
  | 2 => ⟨S2816x32, .fp8e4m3⟩
  | 3 => ⟨S32, .f32⟩
  | 4 => ⟨S32, .f32⟩
  | 5 => ⟨S8x4096x2816, .bf16⟩
  | 6 => ⟨S2816x32, .bf16⟩
  | 7 => ⟨S32768x22x128, .bf16⟩
  | 8 => ⟨S22x128x32, .bf16⟩
  | 9 => ⟨S22x32768x32, .f32⟩
  | 10 => ⟨S32768x22, .f32⟩
  | 11 => ⟨S22x32768, .f32⟩
  | 12 => ⟨S22x32768x1, .f32⟩
  | 13 => ⟨S22x32768x32, .f32⟩
  | 14 => ⟨S22x32768x32, .f32⟩
  | 15 => ⟨S_, .f32⟩
  | 16 => ⟨S32768x32, .f32⟩
  | 17 => ⟨S1x32, .f32⟩
  | 18 => ⟨S32768x32, .f32⟩
  | 19 => ⟨S32768x32, .f32⟩
  | 20 => ⟨S32768x32, .f32⟩
  | 21 => ⟨S32768x32, .f32⟩
  | 22 => ⟨S_, .f32⟩
  | 23 => ⟨S32768x32, .f32⟩
  | 24 => ⟨S32768x32, .f32⟩
  | 25 => ⟨S_, .f32⟩
  | 26 => ⟨S32768x32, .f32⟩
  | 27 => ⟨S32768x32, .f32⟩
  | 28 => ⟨S1x32, .f32⟩
  | 29 => ⟨S32768x32, .f32⟩
  | 30 => ⟨S32768x32, .f32⟩
  | 31 => ⟨S262144x4, .f32⟩
  | 32 => ⟨S262144x1x4, .f32⟩
  | 33 => ⟨S262144x4x1, .f32⟩
  | 34 => ⟨S4, .i32⟩
  | 35 => ⟨S1x4, .i32⟩
  | 36 => ⟨S4, .i32⟩
  | 37 => ⟨S4x1, .i32⟩
  | 38 => ⟨S4x4, .i32⟩
  | 39 => ⟨S4x4, .i32⟩
  | 40 => ⟨S4x4, .i1⟩
  | 41 => ⟨S1x4x4, .i1⟩
  | 42 => ⟨S262144x4x4, .f32⟩
  | 43 => ⟨S262144x4x4, .f32⟩
  | 44 => ⟨S262144x4x4, .i1⟩
  | 45 => ⟨S262144x4x4, .f32⟩
  | 46 => ⟨S262144x4x4, .f32⟩
  | 47 => ⟨S262144x4x4, .i1⟩
  | 48 => ⟨S262144x4x4, .i1⟩
  | 49 => ⟨S262144x4x4, .i1⟩
  | 50 => ⟨S262144x4x4, .i1⟩
  | 51 => ⟨S262144x4x4, .i32⟩
  | 52 => ⟨S_, .i32⟩
  | 53 => ⟨S262144x4, .i32⟩
  | 54 => ⟨S_, .i32⟩
  | 55 => ⟨S262144x4, .i32⟩
  | 56 => ⟨S262144x4, .i1⟩
  | 57 => ⟨S_, .f32⟩
  | 58 => ⟨S_, .f32⟩
  | 59 => ⟨S262144x4, .f32⟩
  | 60 => ⟨S262144x4, .f32⟩
  | 61 => ⟨S_, .f32⟩
  | 62 => ⟨S262144, .f32⟩
  | 63 => ⟨S32768x8, .f32⟩
  | 64 => ⟨S32768x1x8, .f32⟩
  | 65 => ⟨S32768x8x1, .f32⟩
  | 66 => ⟨S8, .i32⟩
  | 67 => ⟨S1x8, .i32⟩
  | 68 => ⟨S8, .i32⟩
  | 69 => ⟨S8x1, .i32⟩
  | 70 => ⟨S8x8, .i32⟩
  | 71 => ⟨S8x8, .i32⟩
  | 72 => ⟨S8x8, .i1⟩
  | 73 => ⟨S1x8x8, .i1⟩
  | 74 => ⟨S32768x8x8, .f32⟩
  | 75 => ⟨S32768x8x8, .f32⟩
  | 76 => ⟨S32768x8x8, .i1⟩
  | 77 => ⟨S32768x8x8, .f32⟩
  | 78 => ⟨S32768x8x8, .f32⟩
  | 79 => ⟨S32768x8x8, .i1⟩
  | 80 => ⟨S32768x8x8, .i1⟩
  | 81 => ⟨S32768x8x8, .i1⟩
  | 82 => ⟨S32768x8x8, .i1⟩
  | 83 => ⟨S32768x8x8, .i32⟩
  | 84 => ⟨S_, .i32⟩
  | 85 => ⟨S32768x8, .i32⟩
  | 86 => ⟨S_, .i32⟩
  | 87 => ⟨S32768x8, .i32⟩
  | 88 => ⟨S32768x8, .i1⟩
  | 89 => ⟨S32768x8x1, .i1⟩
  | 90 => ⟨S32768x8x4, .f32⟩
  | 91 => ⟨S_, .f32⟩
  | 92 => ⟨S_, .f32⟩
  | 93 => ⟨S32768x8x4, .i1⟩
  | 94 => ⟨S32768x8x4, .f32⟩
  | 95 => ⟨S32768x8x4, .f32⟩
  | 96 => ⟨S32768x32, .f32⟩
  | 97 => ⟨S32768x1x32, .f32⟩
  | 98 => ⟨S32768x32x1, .f32⟩
  | 99 => ⟨S32, .i32⟩
  | 100 => ⟨S1x32, .i32⟩
  | 101 => ⟨S32, .i32⟩
  | 102 => ⟨S32x1, .i32⟩
  | 103 => ⟨S32x32, .i32⟩
  | 104 => ⟨S32x32, .i32⟩
  | 105 => ⟨S32x32, .i1⟩
  | 106 => ⟨S1x32x32, .i1⟩
  | 107 => ⟨S32768x32x32, .f32⟩
  | 108 => ⟨S32768x32x32, .f32⟩
  | 109 => ⟨S32768x32x32, .i1⟩
  | 110 => ⟨S32768x32x32, .f32⟩
  | 111 => ⟨S32768x32x32, .f32⟩
  | 112 => ⟨S32768x32x32, .i1⟩
  | 113 => ⟨S32768x32x32, .i1⟩
  | 114 => ⟨S32768x32x32, .i1⟩
  | 115 => ⟨S32768x32x32, .i1⟩
  | 116 => ⟨S32768x32x32, .i32⟩
  | 117 => ⟨S_, .i32⟩
  | 118 => ⟨S32768x32, .i32⟩
  | 119 => ⟨S32768x1x32, .i32⟩
  | 120 => ⟨S4, .i32⟩
  | 121 => ⟨S1x4x1, .i32⟩
  | 122 => ⟨S32768x4x32, .i32⟩
  | 123 => ⟨S32768x4x32, .i32⟩
  | 124 => ⟨S32768x4x32, .i1⟩
  | 125 => ⟨S32, .i32⟩
  | 126 => ⟨S1x1x32, .i32⟩
  | 127 => ⟨S_, .i32⟩
  | _ => ⟨S8x4096x2816, .fp8e4m3⟩

abbrev hbmTy0_1 (i : Nat) : BufTy := match i % 128 with
  | 0 => ⟨S_, .i32⟩
  | 1 => ⟨S32768x4x32, .i32⟩
  | 2 => ⟨S32768x4x32, .i32⟩
  | 3 => ⟨S32768x4x32, .i32⟩
  | 4 => ⟨S_, .i32⟩
  | 5 => ⟨S32768x4, .i32⟩
  | 6 => ⟨S32768x1x32, .f32⟩
  | 7 => ⟨S_, .f32⟩
  | 8 => ⟨S_, .f32⟩
  | 9 => ⟨S32768x4x32, .f32⟩
  | 10 => ⟨S32768x4x32, .f32⟩
  | 11 => ⟨S32768x4x32, .f32⟩
  | 12 => ⟨S_, .f32⟩
  | 13 => ⟨S32768x4, .f32⟩
  | 14 => ⟨S_, .f32⟩
  | 15 => ⟨S32768, .f32⟩
  | 16 => ⟨S32768x1, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S8x4096x4, .i32⟩
  | 23 => ⟨S8x4096x4, .f32⟩
  | _ => ⟨S8x4096x2816, .fp8e4m3⟩

abbrev hbmTy (i : Nat) : BufTy := match i / 128 with
  | 0 => hbmTy0_0 i
  | 1 => hbmTy0_1 i
  | _ => ⟨S8x4096x2816, .fp8e4m3⟩

abbrev bufTy : (tb : Table) → Fin (tcTables nBuf tb) → BufTy
  | .hbm, ⟨i, _⟩ => hbmTy i
  | .local _ .vmem, ⟨0, _⟩ => ⟨S8x4096x2816, .fp8e4m3⟩
  | .local _ .vmem, ⟨1, _⟩ => ⟨S2816x32, .fp8e4m3⟩
  | .local _ .vmem, ⟨2, _⟩ => ⟨S8x4096x2816, .bf16⟩
  | .local _ .vmem, ⟨3, _⟩ => ⟨S2816x32, .bf16⟩
  | _, _ => ⟨S8x4096x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c : Ref sig .tc := ⟨.hbm, 52, rfl⟩
abbrev main_v43 : Ref sig .tc := ⟨.hbm, 53, rfl⟩
abbrev main_c_2 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_call0_v0 : Ref sig .tc := ⟨.hbm, 58, rfl⟩
abbrev main_call0_v1 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_5 : Ref sig .tc := ⟨.hbm, 84, rfl⟩
abbrev main_v69 : Ref sig .tc := ⟨.hbm, 85, rfl⟩
abbrev main_c_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_8 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_c_9 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v105 : Ref sig .tc := ⟨.hbm, 131, rfl⟩
abbrev main_c_10 : Ref sig .tc := ⟨.hbm, 132, rfl⟩
abbrev main_v106 : Ref sig .tc := ⟨.hbm, 133, rfl⟩
abbrev main_v107 : Ref sig .tc := ⟨.hbm, 134, rfl⟩
abbrev main_cst_11 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v108 : Ref sig .tc := ⟨.hbm, 139, rfl⟩
abbrev main_cst_12 : Ref sig .tc := ⟨.hbm, 140, rfl⟩
abbrev main_v109 : Ref sig .tc := ⟨.hbm, 141, rfl⟩
abbrev main_cst_13 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_14 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x4096x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Blocks.lean ====
/- The blocks of the arguments that a step of the router finds. -/
module

public import proofs.«01_k».proof.Proof.Gen.KernelIdeal.Frame
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal

open Idealize.ShloMosaic Idealize.ShloMosaic.TcCoe Idealize.SL.Sem Cert.KernelIdeal.Gen

variable (m : (ℓ : Loc nD τ sig) → Buf (Elt Ideal) ℓ)

theorem idx : ∀ t : Fin cfg0.N, win0_0.index t = ![0] ∧ win0_1.index t = ![0] ∧ win0_2.index t = ![t.val, 0] ∧ win0_3.index t = ![t.val / 4, 0, t.val % 4]
    ∧ win0_4.index t = ![0, 0] ∧ win0_5.index t = ![t.val / 4, 0, t.val % 4] ∧ win0_6.index t = ![t.val / 4, 0, t.val % 4] :=
  (by decide +kernel : ∀ t : Fin grid0.N, _)

theorem step_lt (t : Fin cfg0.N) : (t : ℕ) < 32 := lt_of_lt_of_eq t.isLt (show cfg0.N = 32 from N_0)

/-- The weights' scales, whole at every step. -/
theorem blk0 (c : Dev nD) (t : Fin cfg0.N) (e : Fin 32) : (iblk m c 0 t : S32.Idx → EReal) (ix1 e) = (m ((c.tc : Thread nD τ).loc main_arg3) : S32.Idx → EReal) (ix1 e) := by
  blk_point [iblk, V, idx t]

/-- The biases, whole at every step. -/
theorem blk1 (c : Dev nD) (t : Fin cfg0.N) (e : Fin 32) : (iblk m c 1 t : S32.Idx → EReal) (ix1 e) = (m ((c.tc : Thread nD τ).loc main_arg4) : S32.Idx → EReal) (ix1 e) := by
  blk_point [iblk, V, idx t]

/-- The activations' codes with all the tokens in a row. -/
theorem host0 (W : Valuation τ sig (Elt Ideal)) (n : Fin 32768) (k : Fin 2816) : (StableHlo.after hostOps0 W (Proc.devRef .tc main_v0) : S32768x2816.Idx → EReal) (ix2 n k)
    = (W (Proc.devRef .tc main_arg0) : S8x4096x2816.Idx → EReal) (ix3 ⟨n / 4096, by omega⟩ ⟨n % 4096, by omega⟩ k) := by
  after_reads_at

/-- Their scales, a tile to a row. -/
theorem host1 (W : Valuation τ sig (Elt Ideal)) (a : Fin 8) (k : Fin 22) (n : Fin 4096) : (StableHlo.after hostOps0 W (Proc.devRef .tc main_v1) : S8x22x4096.Idx → EReal) (ix3 a k n)
    = (W (Proc.devRef .tc main_arg1) : S8x4096x22.Idx → EReal) (ix3 a n k) := by
  after_reads_at

/-- The weights' codes, an expert to a row. -/
theorem host2 (W : Valuation τ sig (Elt Ideal)) (e : Fin 32) (k : Fin 2816) : (StableHlo.after hostOps0 W (Proc.devRef .tc main_v2) : S32x2816.Idx → EReal) (ix2 e k)
    = (W (Proc.devRef .tc main_arg2) : S2816x32.Idx → EReal) (ix2 k e) := by
  after_reads_at

theorem cut2 (X : S32768x2816.Idx → EReal) (t : Fin cfg0.N) (n : Fin 1024) (k : Fin 2816) :
    X ((win0_2.blk t).view.emb (ix2 n k)) = X (ix2 ⟨t * 1024 + n, by have := step_lt t; omega⟩ k) := by
  blk_point [idx t]

theorem cut3 (X : S8x22x4096.Idx → EReal) (t : Fin cfg0.N) (k : Fin 22) (n : Fin 1024) :
    X ((win0_3.blk t).view.emb (ix3 0 k n)) = X (ix3 ⟨t / 4, by have := step_lt t; omega⟩ k ⟨t % 4 * 1024 + n, by omega⟩) := by
  blk_point [idx t]

theorem cut4 (X : S32x2816.Idx → EReal) (t : Fin cfg0.N) (e : Fin 32) (k : Fin 2816) :
    X ((win0_4.blk t).view.emb (ix2 e k)) = X (ix2 e k) := by
  blk_point [idx t]

/-- The activations' codes of the step's 1024 tokens. -/
theorem blk2 (c : Dev nD) (t : Fin cfg0.N) (n : Fin 1024) (k : Fin 2816) : (iblk m c 2 t : S1024x2816.Idx → EReal) (ix2 n k)
    = (m ((c.tc : Thread nD τ).loc main_arg0) : S8x4096x2816.Idx → EReal)
      (ix3 ⟨(t * 1024 + n) / 4096, by have := step_lt t; omega⟩ ⟨(t * 1024 + n) % 4096, by omega⟩ k) :=
  (cut2 (V m c main_v0) t n k).trans (host0 (fun b => m (c, b)) _ k)

/-- Their scales. -/
theorem blk3 (c : Dev nD) (t : Fin cfg0.N) (k : Fin 22) (n : Fin 1024) : (iblk m c 3 t : S1x22x1024.Idx → EReal) (ix3 0 k n)
    = (m ((c.tc : Thread nD τ).loc main_arg1) : S8x4096x22.Idx → EReal) (ix3 ⟨t / 4, by have := step_lt t; omega⟩ ⟨t % 4 * 1024 + n, by omega⟩ k) :=
  (cut3 (V m c main_v1) t k n).trans (host1 (fun b => m (c, b)) _ k _)

/-- The weights' codes, whole at every step, an expert to a row. -/
theorem blk4 (c : Dev nD) (t : Fin cfg0.N) (e : Fin 32) (k : Fin 2816) : (iblk m c 4 t : S32x2816.Idx → EReal) (ix2 e k)
    = (m ((c.tc : Thread nD τ).loc main_arg2) : S2816x32.Idx → EReal) (ix2 k e) :=
  (cut4 (V m c main_v2) t e k).trans (host2 (fun b => m (c, b)) e k)

end Cert.KernelIdeal
-- ==== Proof.Rank.lean ====
/- Ranks, tournaments and repeated maxima over the extended reals: the arithmetic of choosing the four largest of
   thirty-two numbers, earlier ones first among equals. -/
module

public import Idealize.ShloMosaic.Lib.Pointwise

@[expose] public section

noncomputable section

namespace Cert.Rank

open Classical

/-- `k` comes before `e` in decreasing order of `m`, the earlier position first among equals. -/
def Before (m : ℕ → EReal) (k e : ℕ) : Prop := m e < m k ∨ (m k = m e ∧ k < e)

theorem before_irrefl (m : ℕ → EReal) (e : ℕ) : ¬ Before m e e := by
  rintro (h | h)
  · exact lt_irrefl _ h
  · exact lt_irrefl _ h.2

theorem before_trans {m : ℕ → EReal} {a b c : ℕ} (h : Before m a b) (h' : Before m b c) : Before m a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem before_total (m : ℕ → EReal) {a b : ℕ} (h : a ≠ b) : Before m a b ∨ Before m b a := by
  rcases lt_trichotomy (m a) (m b) with h' | h' | h'
  · exact .inr (.inl h')
  · rcases lt_or_gt_of_ne h with hl | hl
    · exact .inl (.inr ⟨h', hl⟩)
    · exact .inr (.inr ⟨h'.symm, hl⟩)
  · exact .inl (.inl h')

/-- How many of the first `n` entries of `m` come before entry `e`. -/
def rank (n : ℕ) (m : ℕ → EReal) (e : ℕ) : ℕ := ((Finset.range n).filter fun k => Before m k e).card

theorem rank_lt_of_before {n : ℕ} {m : ℕ → EReal} {a b : ℕ} (ha : a < n) (h : Before m a b) :
    rank n m a < rank n m b := by
  refine Finset.card_lt_card (Finset.ssubset_iff_subset_ne.2 ⟨fun k hk => ?_, fun he => ?_⟩)
  · simp only [Finset.mem_filter] at hk ⊢
    exact ⟨hk.1, before_trans hk.2 h⟩
  · have : a ∈ (Finset.range n).filter fun k => Before m k b := by simp [ha, h]
    rw [← he] at this
    exact before_irrefl m a (Finset.mem_filter.1 this).2

theorem rank_inj {n : ℕ} {m : ℕ → EReal} {a b : ℕ} (ha : a < n) (hb : b < n) (h : rank n m a = rank n m b) : a = b := by
  by_contra hne
  rcases before_total m hne with hlt | hlt
  · exact absurd h (rank_lt_of_before ha hlt).ne
  · exact absurd h (rank_lt_of_before hb hlt).ne'

/-- Ranks depend only on how the entries compare. -/
theorem rank_congr {n : ℕ} {m m' : ℕ → EReal} {e : ℕ} (h : ∀ k < n, Before m k e ↔ Before m' k e) :
    rank n m e = rank n m' e := by
  unfold rank
  congr 1
  exact Finset.filter_congr fun k hk => h k (Finset.mem_range.1 hk)

/-- The largest of the `2 ^ d` entries from `o`, found by comparing halves. -/
def tv (m : ℕ → EReal) : ℕ → ℕ → EReal
  | 0, o => m o
  | d + 1, o => max (tv m d o) (tv m d (o + 2 ^ d))

/-- What is carried along with the largest: the right half's only where its largest is strictly larger. -/
def tw {β : Type} (m : ℕ → EReal) (x : ℕ → β) : ℕ → ℕ → β
  | 0, o => x o
  | d + 1, o => if tv m d o < tv m d (o + 2 ^ d) then tw m x d (o + 2 ^ d) else tw m x d o

theorem tw_eq {β : Type} (m : ℕ → EReal) (x : ℕ → β) : ∀ d o, tw m x d o = x (tw m id d o)
  | 0, _ => rfl
  | d + 1, o => by
    simp only [tw]
    split <;> exact tw_eq m x d _

theorem tw_spec (m : ℕ → EReal) : ∀ d o, o ≤ tw m id d o ∧ tw m id d o < o + 2 ^ d ∧ m (tw m id d o) = tv m d o
    ∧ ∀ k, o ≤ k → k < o + 2 ^ d → k ≠ tw m id d o → Before m (tw m id d o) k
  | 0, o => by
    refine ⟨le_rfl, by simp [tw], rfl, fun k h1 h2 h3 => absurd ?_ h3⟩
    simp only [tw, id]; omega
  | d + 1, o => by
    obtain ⟨a1, a2, a3, a4⟩ := tw_spec m d o
    obtain ⟨b1, b2, b3, b4⟩ := tw_spec m d (o + 2 ^ d)
    have hp : 2 ^ (d + 1) = 2 ^ d + 2 ^ d := by ring
    simp only [tw, tv]
    split
    · rename_i h
      refine ⟨by omega, by omega, by rw [b3, max_eq_right h.le], fun k h1 h2 h3 => ?_⟩
      by_cases hk : k < o + 2 ^ d
      · have hlt : Before m (tw m id d (o + 2 ^ d)) (tw m id d o) := .inl (by rw [a3, b3]; exact h)
        by_cases hka : k = tw m id d o
        · rw [hka]; exact hlt
        · exact before_trans hlt (a4 k h1 hk hka)
      · exact b4 k (by omega) (by omega) h3
    · rename_i h
      rw [not_lt] at h
      refine ⟨by omega, by omega, by rw [a3, max_eq_left h], fun k h1 h2 h3 => ?_⟩
      by_cases hk : k < o + 2 ^ d
      · exact a4 k h1 hk h3
      · have hlt : Before m (tw m id d o) (tw m id d (o + 2 ^ d)) := by
          rcases h.lt_or_eq with h | h
          · exact .inl (by rw [a3, b3]; exact h)
          · exact .inr ⟨by rw [a3, b3, h], by omega⟩
        by_cases hkb : k = tw m id d (o + 2 ^ d)
        · rw [hkb]; exact hlt
        · exact before_trans hlt (b4 k (by omega) (by omega) hkb)

/-- The entries with those chosen in earlier rounds set to minus infinity. -/
def masked (m : ℕ → EReal) : ℕ → ℕ → EReal
  | 0 => m
  | r + 1 => fun e => if tw (masked m r) id 5 0 = e then ⊥ else masked m r e

/-- The entry chosen in round `r`. -/
def pick (m : ℕ → EReal) (r : ℕ) : ℕ := tw (masked m r) id 5 0

theorem pick_lt (m : ℕ → EReal) (r : ℕ) : pick m r < 32 := by
  have := (tw_spec (masked m r) 5 0).2.1
  unfold pick; omega

/-- Before round `r` exactly `r` entries are set to minus infinity, and each comes before all others. -/
theorem rounds (m : ℕ → EReal) (hm : ∀ e, ⊥ < m e) : ∀ r, r ≤ 32 → ∃ S : Finset ℕ, S ⊆ Finset.range 32 ∧ S.card = r
    ∧ (∀ e, masked m r e = if e ∈ S then ⊥ else m e) ∧ ∀ s ∈ S, ∀ k < 32, k ∉ S → Before m s k
  | 0, _ => ⟨∅, by simp, rfl, fun e => by simp [masked], by simp⟩
  | r + 1, hr => by
    obtain ⟨S, hS, hc, hv, hb⟩ := rounds m hm r (by omega)
    obtain ⟨h1, h2, h3, h4⟩ := tw_spec (masked m r) 5 0
    set i := tw (masked m r) id 5 0 with hi
    obtain ⟨k, hk, hkS⟩ : ∃ k ∈ Finset.range 32, k ∉ S := by
      by_contra hcon
      push Not at hcon
      have := Finset.card_le_card (show Finset.range 32 ⊆ S from hcon)
      simp at this; omega
    have hkS' : masked m r k = m k := by rw [hv, if_neg hkS]
    have hiS : i ∉ S := by
      intro hin
      have hbot : masked m r i = ⊥ := by rw [hv, if_pos hin]
      have hne : k ≠ i := fun h => hkS (h ▸ hin)
      rcases h4 k (by omega) (by have := Finset.mem_range.1 hk; omega) hne with h | h
      · rw [hbot] at h; exact not_lt_bot h
      · rw [hbot, hkS'] at h; exact absurd h.1 (hm k).ne
    have hiv : masked m r i = m i := by rw [hv, if_neg hiS]
    refine ⟨insert i S, ?_, by rw [Finset.card_insert_of_notMem hiS, hc], fun e => ?_, fun s hs k hk hks => ?_⟩
    · intro x hx
      rcases Finset.mem_insert.1 hx with rfl | hx
      · exact Finset.mem_range.2 (by omega)
      · exact hS hx
    · simp only [masked, ← hi, Finset.mem_insert]
      by_cases he : i = e
      · simp [he]
      · rw [if_neg he, hv]; simp [Ne.symm he]
    · rw [Finset.mem_insert, not_or] at hks
      rcases Finset.mem_insert.1 hs with rfl | hs
      · have hkv : masked m r k = m k := by rw [hv, if_neg hks.2]
        rcases h4 k (by omega) (by omega) hks.1 with h | h
        · rw [hiv, hkv] at h; exact .inl h
        · rw [hiv, hkv] at h; exact .inr h
      · exact hb s hs k hk hks.2

/-- The entry chosen in round `r` is the one of rank `r`. -/
theorem rank_pick (m : ℕ → EReal) (hm : ∀ e, ⊥ < m e) (r : ℕ) (hr : r < 32) : rank 32 m (pick m r) = r := by
  obtain ⟨S, hS, hc, hv, hb⟩ := rounds m hm r hr.le
  obtain ⟨S', hS', hc', hv', hb'⟩ := rounds m hm (r + 1) hr
  have hp := pick_lt m r
  have hiS' : pick m r ∈ S' := by
    by_contra h
    have h1 := hv' (pick m r)
    rw [if_neg h] at h1
    simp only [masked, pick, if_true] at h1
    exact (hm _).ne h1
  have hiS : pick m r ∉ S := by
    intro h
    have : S' = S := by
      ext e
      have h1 := hv' e
      simp only [masked] at h1
      rw [hv e] at h1
      constructor
      · intro he
        by_contra hne
        rw [if_neg hne, if_pos he] at h1
        split at h1
        · rename_i h2; exact hne (h2 ▸ h)
        · exact (hm _).ne' h1
      · intro he
        by_contra hne
        rw [if_pos he, if_neg hne] at h1
        simp only [ite_self] at h1
        exact (hm _).ne h1
    rw [this] at hc'; omega
  have hSS' : ∀ e, e ∈ S' ↔ e = pick m r ∨ e ∈ S := by
    intro e
    have h1 := hv' e
    simp only [masked] at h1
    rw [hv e] at h1
    by_cases he : pick m r = e
    · subst he; simp [hiS']
    · rw [if_neg (show ¬ tw (masked m r) id 5 0 = e from he)] at h1
      have he' : e ≠ pick m r := Ne.symm he
      simp only [he', false_or]
      by_cases ha : e ∈ S <;> by_cases hb : e ∈ S' <;> simp only [ha, hb, if_true, if_false] at h1 ⊢
      · exact absurd h1.symm (hm _).ne'
      · exact absurd h1 (hm _).ne'
  have : (Finset.range 32).filter (fun k => Before m k (pick m r)) = S := by
    ext k
    simp only [Finset.mem_filter, Finset.mem_range]
    constructor
    · rintro ⟨hk, hkb⟩
      by_contra hkS
      by_cases hki : k = pick m r
      · rw [hki] at hkb; exact before_irrefl _ _ hkb
      · have := hb' _ hiS' k hk (by rw [hSS']; simp [hki, hkS])
        exact before_irrefl _ _ (before_trans hkb this)
    · intro hk
      exact ⟨Finset.mem_range.1 (hS hk), hb k hk _ hp hiS⟩
  unfold rank
  rw [this, hc]

theorem rank_eq_iff (m : ℕ → EReal) (hm : ∀ e, ⊥ < m e) (r : ℕ) (hr : r < 32) (e : ℕ) (he : e < 32) :
    rank 32 m e = r ↔ e = pick m r :=
  ⟨fun h => rank_inj he (pick_lt m r) (h.trans (rank_pick m hm r hr).symm), fun h => h ▸ rank_pick m hm r hr⟩

/-- Adding up the entries of `f` where the rank is `r` leaves the one chosen in round `r`. -/
theorem sum_rank {M : Type} [AddCommMonoid M] (m : ℕ → EReal) (hm : ∀ e, ⊥ < m e) (r : ℕ) (hr : r < 32) (f : ℕ → M) :
    (∑ e : Fin 32, if rank 32 m e = r then f e else 0) = f (pick m r) := by
  rw [Finset.sum_eq_single (⟨pick m r, pick_lt m r⟩ : Fin 32)]
  · rw [if_pos (rank_pick m hm r hr)]
  · intro e _ hne
    rw [if_neg]
    intro h
    exact hne (Fin.ext ((rank_eq_iff m hm r hr e e.2).1 h))
  · intro h; exact absurd (Finset.mem_univ _) h

/-- Raising minus infinity to a bound all other entries exceed changes no rank. -/
theorem rank_max (L : EReal) (hL : ⊥ < L) (n : ℕ) (m : ℕ → EReal) (hm : ∀ e, m e = ⊥ ∨ L < m e) (e : ℕ) :
    rank n (fun k => max (m k) L) e = rank n m e := by
  refine rank_congr fun k _ => ?_
  unfold Before
  rcases hm k with hk | hk <;> rcases hm e with he | he
  · simp [hk, he]
  · have h1 : max (m k) L = L := by rw [hk]; exact max_eq_right bot_le
    have h2 : max (m e) L = m e := max_eq_left he.le
    simp only [h1, h2, hk]
    have h3 : ¬ m e < L := not_lt.2 he.le
    have h4 : ¬ L = m e := he.ne
    have h5 : ¬ ⊥ = m e := (hL.trans he).ne
    simp [h3, h4, h5]
  · have h1 : max (m e) L = L := by rw [he]; exact max_eq_right bot_le
    have h2 : max (m k) L = m k := max_eq_left hk.le
    simp only [h1, h2, he]
    simp [hk, hL.trans hk]
  · simp only [max_eq_left hk.le, max_eq_left he.le]

end Cert.Rank

end
-- ==== Proof.Groups.lean ====
module

public import proofs.«01_k».proof.Proof.Rank

/-! The kernel's way to rank the eight groups, and to sum the two best of a group of four, against counting the entries that come before each one. -/

@[expose] public section

namespace Cert.Rank

open Classical in
theorem rank_sum (n : ℕ) (m : ℕ → EReal) (e : ℕ) :
    rank n m e = ∑ k ∈ Finset.range n, (if Before m k e then 1 else 0) := by
  unfold rank
  rw [Finset.card_filter]

theorem before_lt {m : ℕ → EReal} {h g : ℕ} (hg : h < g) : Before m h g ↔ m g ≤ m h := by
  unfold Before
  constructor
  · rintro (h | ⟨h, -⟩)
    · exact h.le
    · exact h.ge
  · intro h
    rcases h.lt_or_eq with h | h
    · exact .inl h
    · exact .inr ⟨h.symm, hg⟩

theorem before_gt {m : ℕ → EReal} {h g : ℕ} (hg : g < h) : Before m h g ↔ ¬ m h ≤ m g := by
  unfold Before
  rw [not_le]
  constructor
  · rintro (h | ⟨-, h⟩)
    · exact h
    · omega
  · exact .inl

open Classical in
/-- A truth value as a 32-bit number. -/
noncomputable def bit (p : Prop) : BitVec 32 := by
  exact if p then 1#32 else 0#32

/-- The rank of group `g`: the later groups, and the earlier groups at least as large, less the later groups at most as large. -/
noncomputable def grank (s : ℕ → EReal) (g : ℕ) : BitVec 32 :=
  (List.range (7 - g)).foldl (fun r k => r - bit (s (g + 1 + k) ≤ s g))
    ((List.range g).foldl (fun r h => r + bit (s g ≤ s h)) (BitVec.ofNat 32 (7 - g)))

/-- `grank` over truth values. -/
def grankB (β : ℕ → Bool) (g : ℕ) : BitVec 32 :=
  (List.range (7 - g)).foldl (fun r k => r - (if β (g + 1 + k) then 1#32 else 0#32))
    ((List.range g).foldl (fun r h => r + (if β h then 1#32 else 0#32)) (BitVec.ofNat 32 (7 - g)))

/-- The truth value of "`k` comes before `g`" from that of the comparison which the kernel makes. -/
def befB (β : ℕ → Bool) (g k : ℕ) : ℕ := if k < g then (if β k then 1 else 0) else if k = g then 0 else if β k then 0 else 1

/-- Eight truth values as a function of the position. -/
def lst (p0 p1 p2 p3 p4 p5 p6 p7 : Bool) (k : ℕ) : Bool := [p0, p1, p2, p3, p4, p5, p6, p7].getD k false

theorem grankB_eq : ∀ g : Fin 8, ∀ p0 p1 p2 p3 p4 p5 p6 p7 : Bool, grankB (lst p0 p1 p2 p3 p4 p5 p6 p7) g =
    BitVec.ofNat 32 ((List.range 8).map (befB (lst p0 p1 p2 p3 p4 p5 p6 p7) g)).sum := by decide +kernel

theorem exists_lst (P : ℕ → Bool) : ∃ p0 p1 p2 p3 p4 p5 p6 p7 : Bool, ∀ k < 8, lst p0 p1 p2 p3 p4 p5 p6 p7 k = P k := by
  refine ⟨P 0, P 1, P 2, P 3, P 4, P 5, P 6, P 7, fun k hk => ?_⟩
  interval_cases k <;> rfl

theorem grank_eq (s : ℕ → EReal) (g : ℕ) (hg : g < 8) : grank s g = BitVec.ofNat 32 (rank 8 s g) := by
  classical
  obtain ⟨p0, p1, p2, p3, p4, p5, p6, p7, hb⟩ := exists_lst fun k => if k < g then decide (s g ≤ s k) else decide (s k ≤ s g)
  have h := grankB_eq ⟨g, hg⟩ p0 p1 p2 p3 p4 p5 p6 p7
  generalize lst p0 p1 p2 p3 p4 p5 p6 p7 = β at hb h
  have h1 : grank s g = grankB β g := by
    unfold grank grankB
    have e1 : (List.range g).foldl (fun r h => r + bit (s g ≤ s h)) (BitVec.ofNat 32 (7 - g))
        = (List.range g).foldl (fun r h => r + (if β h then 1#32 else 0#32)) (BitVec.ofNat 32 (7 - g)) := by
      refine List.foldl_ext _ _ _ fun r h hh => ?_
      have hh := List.mem_range.1 hh
      rw [hb h (by omega), if_pos hh]
      simp [bit]
    rw [e1]
    refine List.foldl_ext _ _ _ fun r k hk => ?_
    have hk := List.mem_range.1 hk
    have hk8 : g + 1 + k < 8 := by omega
    have hkg : ¬ g + 1 + k < g := by omega
    simp only [hb _ hk8, if_neg hkg, bit]
    by_cases h4 : s (g + 1 + k) ≤ s g <;> simp [h4]
  rw [h1, h, rank_sum, Finset.sum_range, show (List.range 8).map (befB β g) = List.ofFn fun k : Fin 8 => befB β g k from rfl]
  rw [List.sum_ofFn]
  congr 1
  refine Finset.sum_congr rfl fun k _ => ?_
  show befB _ g k = _
  unfold befB
  rw [hb k k.2]
  by_cases h1 : k.val < g
  · simp [h1, before_lt h1]
  · by_cases h2 : k.val = g
    · rw [if_neg h1, if_pos h2, if_neg (by rw [h2]; exact before_irrefl s g)]
    · have h3 : g < k.val := by omega
      by_cases h4 : s k ≤ s g <;> simp [h1, h2, before_gt h3, h4]

/-- The largest two of four: the larger of the two pairs' larger ones, and the larger of what is left. -/
theorem best_two (f : ℕ → EReal) : (∑ i ∈ Finset.range 4, if rank 4 f i < 2 then f i else 0)
    = max (max (f 0) (f 1)) (max (f 2) (f 3)) + max (min (max (f 0) (f 1)) (max (f 2) (f 3))) (max (min (f 0) (f 1)) (min (f 2) (f 3))) := by
  classical
  simp only [rank_sum, Finset.sum_range_succ, Finset.sum_range_zero, zero_add, before_irrefl, if_false,
    before_lt (m := f) (show 0 < 1 by omega), before_lt (m := f) (show 0 < 2 by omega), before_lt (m := f) (show 0 < 3 by omega),
    before_lt (m := f) (show 1 < 2 by omega), before_lt (m := f) (show 1 < 3 by omega), before_lt (m := f) (show 2 < 3 by omega),
    before_gt (m := f) (show 0 < 1 by omega), before_gt (m := f) (show 0 < 2 by omega), before_gt (m := f) (show 0 < 3 by omega),
    before_gt (m := f) (show 1 < 2 by omega), before_gt (m := f) (show 1 < 3 by omega), before_gt (m := f) (show 2 < 3 by omega)]
  generalize f 0 = a, f 1 = b, f 2 = c, f 3 = d
  have M : ∀ x y : EReal, max x y = if y ≤ x then x else y := fun x y => by rw [max_comm, max_def]
  have N : ∀ x y : EReal, min x y = if y ≤ x then y else x := fun x y => by rw [min_comm, min_def]
  by_cases h1 : b ≤ a <;> by_cases h2 : d ≤ c <;> by_cases h3 : c ≤ a <;>
    by_cases h4 : d ≤ a <;> by_cases h5 : c ≤ b <;> by_cases h6 : d ≤ b <;>
    simp [M, N, h1, h2, h3, h4, h5, h6] <;> first
      | exact add_comm _ _
      | (exfalso; order)
      | (split_ifs <;> first | rfl | exact add_comm _ _ | (exfalso; order))

end Cert.Rank
-- ==== Proof.Spec.lean ====
/- What both programs compute for one token, from the thirty-two scores and biases: the four chosen experts and their weights. -/
module

public import proofs.«01_k».proof.Proof.Groups
public import Idealize.ShloMosaic.Lib.Pointwise

@[expose] public section

noncomputable section

namespace Cert.Spec

open Classical Cert.Rank Idealize.ShloMosaic

/-- A function of `n` positions, continued periodically to all numbers. -/
def cyc {α : Type} {n : ℕ} [NeZero n] (f : Fin n → α) (k : ℕ) : α := f (Fin.ofNat n k)

theorem cyc_val {α : Type} {n : ℕ} [NeZero n] (f : Fin n → α) (k : Fin n) : cyc f k = f k := by
  unfold cyc; congr 1; ext; simp [Fin.ofNat, Nat.mod_eq_of_lt k.2]

theorem cyc_of_lt {α : Type} {n : ℕ} [NeZero n] (f : Fin n → α) {k : ℕ} (h : k < n) : cyc f k = f ⟨k, h⟩ := cyc_val f ⟨k, h⟩

/-- The sum of the two largest choices of group `g`. -/
def best2 (ch : ℕ → EReal) (g : ℕ) : EReal :=
  ∑ i ∈ Finset.range 4, if rank 4 (fun k => ch (g * 4 + k)) i < 2 then ch (g * 4 + i) else 0

/-- The choices of the four best groups, minus infinity elsewhere. -/
def kept (ch : ℕ → EReal) (e : ℕ) : EReal := if rank 8 (best2 ch) (e / 4) < 4 then ch e else ⊥

/-- The expert of rank `j`. -/
def ids (ch : ℕ → EReal) (j : ℕ) : BitVec 32 :=
  Finset.fold IntOp.addi 0#32 (fun e : Fin 32 => if rank 32 (kept ch) e = j then BitVec.ofNat 32 e else 0#32) Finset.univ

/-- The score of the expert of rank `j`. -/
def sel (s ch : ℕ → EReal) (j : ℕ) : EReal := ∑ e : Fin 32, if rank 32 (kept ch) e = j then s e else 0

/-- Its share of the four scores' sum, scaled. -/
def wt (s ch : ℕ → EReal) (j : ℕ) : EReal := Ideal.div (sel s ch j) (∑ i : Fin 4, sel s ch i) * Ideal.ofBits .f32 0x40200000#32

theorem rank_lt_n {n : ℕ} {m : ℕ → EReal} {e : ℕ} (he : e < n) : rank n m e < n := by
  unfold rank
  refine (Finset.card_lt_card (t := Finset.range n) ?_).trans_eq (Finset.card_range n)
  refine Finset.filter_ssubset.2 ⟨e, Finset.mem_range.2 he, before_irrefl m e⟩

/-- Counting with 32-bit numbers the entries that come before entry `j`. -/
theorem count_eq (n : ℕ) (hn : n ≤ 32) (m : ℕ → EReal) (j : Fin n) (P : Fin n → BitVec 1)
    (hP : ∀ x : Fin n, P x = BitVec.ofBool (decide (Before m x j))) :
    Finset.fold IntOp.addi (0#32) (fun x => BitVec.setWidth 32 (P x)) Finset.univ = BitVec.ofNat 32 (rank n m j) := by
  rw [rank_sum, Finset.sum_range]
  have : ∀ S : Finset (Fin n), Finset.fold IntOp.addi (0#32) (fun x => BitVec.setWidth 32 (P x)) S
      = BitVec.ofNat 32 (∑ k ∈ S, if Before m k j then 1 else 0) := by
    intro S
    induction S using Finset.induction_on with
    | empty => rfl
    | insert a S ha ih =>
      rw [Finset.fold_insert ha, Finset.sum_insert ha, ih, hP a, BitVec.ofNat_add]
      by_cases h : Before m a j <;> simp [h, IntOp.addi]
  exact this _

/-- A small number less than a literal. -/
theorem slt_lit {a b : ℕ} (ha : a < 64) (hb : b < 64) : IntOp.cmpi .slt (BitVec.ofNat 32 a) (BitVec.ofNat 32 b) = BitVec.ofBool (decide (a < b)) := by
  have : ∀ a b : Fin 64, IntOp.cmpi .slt (BitVec.ofNat 32 a) (BitVec.ofNat 32 b) = BitVec.ofBool (decide (a.val < b.val)) := by decide +kernel
  exact this ⟨a, ha⟩ ⟨b, hb⟩

theorem eq_lit {a b : ℕ} (ha : a < 64) (hb : b < 64) : IntOp.cmpi .eq (BitVec.ofNat 32 a) (BitVec.ofNat 32 b) = BitVec.ofBool (decide (a = b)) := by
  have : ∀ a b : Fin 64, IntOp.cmpi .eq (BitVec.ofNat 32 a) (BitVec.ofNat 32 b) = BitVec.ofBool (decide (a.val = b.val)) := by decide +kernel
  exact this ⟨a, ha⟩ ⟨b, hb⟩

/-- "`x` comes before `j`" as the reference spells it. -/
theorem before_bit (n : ℕ) (hn : n ≤ 32) (m : ℕ → EReal) (x j : Fin n) :
    IntOp.ori (BitVec.ofBool (decide (m j < m x)))
      (IntOp.andi (BitVec.ofBool (decide (m x = m j))) (IntOp.cmpi .slt (BitVec.ofNat 32 x) (BitVec.ofNat 32 j)))
      = BitVec.ofBool (decide (Before m x j)) := by
  have h : IntOp.cmpi .slt (BitVec.ofNat 32 x) (BitVec.ofNat 32 j) = BitVec.ofBool (decide (x.val < j.val)) := slt_lit (by omega) (by omega)
  rw [h]
  unfold Before
  by_cases h1 : m j < m x <;> by_cases h2 : m x = m j <;> by_cases h3 : x.val < j.val <;> simp [h1, h2, h3, IntOp.ori, IntOp.andi] <;> rfl

end Cert.Spec
-- ==== Proof.Model.lean ====
/- The routing half of the router over whole tiles of tokens: the same arithmetic as `Spec`, one vector operation at a
   time. -/
module

public import proofs.«01_k».proof.Proof.Spec
public import proofs.«01_k».proof.Proof.Gen.KernelIdeal.Skeleton
public import Idealize.ShloMosaic.Lib.Pipeline.ValueKit
public import Idealize.ShloMosaic.Lib.Pipeline.FrameBody

@[expose] public section

noncomputable section

namespace Cert.Model

open Idealize.ShloMosaic Idealize.ShloMosaic.ValueKit Cert.KernelIdeal Cert.KernelIdeal.Gen

/-- A number for every token of a tile. -/
abbrev V : Type := FVec Ideal S8x128 .f32

/-- A word for every token of a tile. -/
abbrev VI : Type := IVec S8x128 32

/-- Entry `n` of a list of vectors. -/
def nth {α : Type} [Inhabited α] : List α → ℕ → α
  | [], _ => default
  | a :: _, 0 => a
  | _ :: l, n + 1 => nth l n

/-- The largest of the `2 ^ d` vectors from `o`. -/
def vtv (m : ℕ → V) : ℕ → ℕ → V
  | 0, o => m o
  | d + 1, o => maximumf (vtv m d o) (vtv m d (o + 2 ^ d))

/-- What is carried along with the largest. -/
def vtw {β : Type} (m : ℕ → V) (x : ℕ → S8x128.Idx → β) : ℕ → ℕ → S8x128.Idx → β
  | 0, o => x o
  | d + 1, o => select (cmpf .ogt (vtv m d (o + 2 ^ d)) (vtv m d o)) (vtw m x d (o + 2 ^ d)) (vtw m x d o)

/-- The number of an expert, everywhere. -/
def vid (e : ℕ) : VI := broadcast S8x128 (BitVec.ofNat 32 e)

/-- `m` without what `i` chose. -/
def vmask (m : ℕ → V) (i : VI) (e : ℕ) : V :=
  select (cmpi .eq i (vid e)) (broadcast S8x128 (Scalar.ofBits .f32 0xFF800000#32 : Ideal .f32)) (m e)

/-- Whether one is at least another, as a number. -/
def vbit (a b : V) : VI := extui 32 (cmpf .oge a b) natLt_1_32

/-- The sum of the two best of group `g`. -/
def vgroup (ch : ℕ → V) (g : ℕ) : V :=
  have a := maximumf (ch (4 * g)) (ch (4 * g + 1))
  have b := minimumf (ch (4 * g)) (ch (4 * g + 1))
  have a' := maximumf (ch (4 * g + 2)) (ch (4 * g + 3))
  have b' := minimumf (ch (4 * g + 2)) (ch (4 * g + 3))
  addf (maximumf a a') (maximumf (minimumf a a') (maximumf b b'))

/-- The rank of group `g`. -/
def vgrank (s : ℕ → V) (g : ℕ) : VI :=
  (List.range (7 - g)).foldl (fun r k => subi r (vbit (s g) (s (g + 1 + k))))
    ((List.range g).foldl (fun r h => addi r (vbit (s h) (s g))) (broadcast S8x128 (BitVec.ofNat 32 (7 - g))))

/-- The value of expert `e` where its group is among the first four, the least number elsewhere. -/
def vkept (rk : ℕ → VI) (ch : ℕ → V) (e : ℕ) : V :=
  have low : Ideal .f32 := Scalar.ofBits .f32 0xFF7FFFFF#32
  select (cmpi .slt (rk (e / 4)) (broadcast S8x128 4#32)) (maximumf (ch e) (broadcast S8x128 low)) (broadcast S8x128 low)

/-- The score of a logit under its scale. -/
def vscore (l : V) (w : Ideal .f32) : V := logistic (mulf l (broadcast S8x128 w))

/-- The score with its bias. -/
def vchoice (s : V) (b : Ideal .f32) : V := addf s (broadcast S8x128 b)

/-- A word loaded from a scalar memory is the entry it names. -/
theorem smem_word (M : Memref sig .tc .smem S32 .f32) (h : M.IsWhole) (x : Vec Ideal S32 .f32) {k : ℕ}
    (inb : ∀ a, (![k] : Fin 1 → ℕ) a + S1.size a ≤ S32.size a) (hne) :
    View.readAt (Elt Ideal) M.view (Rect.unit (s := S32) ![k] S1.size inb).toLoadRect (h.unread x) (Shape.Idx.first hne)
      = x (ix1 (Fin.ofNat 32 k)) := by
  have hk : k + 1 ≤ 32 := inb 0
  rw [View.readAt_apply, h.read_unread]
  congr 1
  funext a
  fin_cases a
  refine Fin.ext ?_
  show k + 1 * 0 = k % 32
  omega

theorem smem_word' (M : Memref sig .tc .smem S32 .f32) (h : M.IsWhole) (x : Vec Ideal S32 .f32) {k : ℕ}
    (inb : ∀ a, (![k] : Fin 1 → ℕ) a + (![1] : Fin 1 → ℕ) a ≤ S32.size a) (hne) :
    View.readAt (Elt Ideal) M.view (Rect.unit (s := S32) ![k] ![1] inb).toLoadRect (h.unread x) (Shape.Idx.first hne)
      = x (ix1 (Fin.ofNat 32 k)) := smem_word M h x inb hne

end Cert.Model
-- ==== Proof.Tile.lean ====
/- How the router's body lays its vectors out: logits stored by rows of experts and read back one expert at a time,
   results stored by ranks and read back one row of tokens at a time. -/
module

public import proofs.«01_k».proof.Proof.Model

@[expose] public section

noncomputable section

namespace Cert.Model

open Idealize.ShloMosaic Idealize.ShloMosaic.ValueKit Cert.KernelIdeal Cert.KernelIdeal.Gen

variable {e : EltTy}

theorem rows4_aux {α : Type} (w : Fin 4 → S8x128.Idx → α) (y : S32x128.Idx) (j : Fin 4) (x : S8x128.Idx)
    (h0 : (y 0 : ℕ) = j + 4 * (x 0 : ℕ)) (h1 : (y 1 : ℕ) = x 1) :
    w j x = w (Fin.ofNat 4 (y 0)) (ix2 (Fin.ofNat 8 ((y 0 : ℕ) / 4)) (y 1)) := by
  have hx : (x 0 : ℕ) < 8 := (x 0).isLt
  congr 1
  · congr 1
    ext; simp only [Fin.ofNat]; omega
  · funext a
    fin_cases a
    · ext; simp only [Fin.ofNat]; show (x 0 : ℕ) = (y 0 : ℕ) / 4 % 8; omega
    · ext; exact h1.symm

/-- Eight rows of a tile, stored four rows apart: row `4 a + j` is row `a` of the `j`-th vector. -/
theorem rows4 (w0 w1 w2 w3 : S8x128.Idx → Elt Ideal e) (i0 i1 i2 i3 s0 s1 s2 s3) (y : S32x128.Idx) :
    View.canon (Val := Elt Ideal) (s := S32x128) (e := e)
      [⟨{ off := ![3, 0], size := S8x128.size, stride := ![4, 1], inb := i3, stride_pos := s3 }, w3⟩,
       ⟨{ off := ![2, 0], size := S8x128.size, stride := ![4, 1], inb := i2, stride_pos := s2 }, w2⟩,
       ⟨{ off := ![1, 0], size := S8x128.size, stride := ![4, 1], inb := i1, stride_pos := s1 }, w1⟩,
       ⟨{ off := ![0, 0], size := S8x128.size, stride := ![4, 1], inb := i0, stride_pos := s0 }, w0⟩] y
      = (![w0, w1, w2, w3] : Fin 4 → S8x128.Idx → Elt Ideal e) (Fin.ofNat 4 (y 0)) (ix2 (Fin.ofNat 8 ((y 0 : ℕ) / 4)) (y 1)) := by
  refine View.canon_apply_of_pieces (fun y : S32x128.Idx =>
    (![w0, w1, w2, w3] : Fin 4 → S8x128.Idx → Elt Ideal e) (Fin.ofNat 4 (y 0)) (ix2 (Fin.ofNat 8 ((y 0 : ℕ) / 4)) (y 1))) _ ?_ y ?_
  · simp only [List.mem_cons, List.not_mem_nil, or_false, forall_eq_or_imp, forall_eq]
    refine ⟨fun x => ?_, fun x => ?_, fun x => ?_, fun x => ?_⟩
    · refine rows4_aux ![w0, w1, w2, w3] _ 3 x rfl ?_
      show 0 + 1 * (x 1 : ℕ) = _
      omega
    · refine rows4_aux ![w0, w1, w2, w3] _ 2 x rfl ?_
      show 0 + 1 * (x 1 : ℕ) = _
      omega
    · refine rows4_aux ![w0, w1, w2, w3] _ 1 x rfl ?_
      show 0 + 1 * (x 1 : ℕ) = _
      omega
    · refine rows4_aux ![w0, w1, w2, w3] _ 0 x rfl ?_
      show 0 + 1 * (x 1 : ℕ) = _
      omega
  · have h0 : (y 0 : ℕ) < 32 := (y 0).isLt
    have h1 : (y 1 : ℕ) < 128 := (y 1).isLt
    have hm : ∀ b : ℕ, (y 0 : ℕ) % 4 = b → ∀ c, ∃ j < S8x128.size c, (y c : ℕ) = (![b, 0] : Fin 2 → ℕ) c + (![4, 1] : Fin 2 → ℕ) c * j := by
      intro b hb c
      match c with
      | 0 => exact ⟨(y 0 : ℕ) / 4, by show _ < 8; omega, by show (y 0 : ℕ) = b + 4 * ((y 0 : ℕ) / 4); omega⟩
      | 1 => exact ⟨(y 1 : ℕ), h1, by show (y 1 : ℕ) = 0 + 1 * (y 1 : ℕ); omega⟩
    have hc : (y 0 : ℕ) % 4 = 3 ∨ (y 0 : ℕ) % 4 = 2 ∨ (y 0 : ℕ) % 4 = 1 ∨ (y 0 : ℕ) % 4 = 0 := by omega
    simp only [List.mem_cons, List.not_mem_nil, or_false, exists_eq_or_imp, exists_eq_left]
    exact hc.imp (fun h => (LoadRect.mem_set _).2 (hm 3 h)) (Or.imp (fun h => (LoadRect.mem_set _).2 (hm 2 h))
      (Or.imp (fun h => (LoadRect.mem_set _).2 (hm 1 h)) (fun h => (LoadRect.mem_set _).2 (hm 0 h))))

/-- Thirty-two rows of a tile, stored thirty-six rows apart for each row of tokens: reading every thirty-sixth row from
    row `k` gives expert `k`, the rows of tokens in order. -/
theorem rows36 (P : Fin 8 → S32x128.Idx → Elt Ideal e) (i0 i1 i2 i3 i4 i5 i6 i7) (y : S288x128.Idx) (a : Fin 8) (k : Fin 32)
    (hy : (y 0 : ℕ) = k + 36 * (a : ℕ)) :
    View.canon (Val := Elt Ideal) (s := S288x128) (e := e)
      [⟨Rect.unit ![252, 0] S32x128.size i7, P 7⟩, ⟨Rect.unit ![216, 0] S32x128.size i6, P 6⟩,
       ⟨Rect.unit ![180, 0] S32x128.size i5, P 5⟩, ⟨Rect.unit ![144, 0] S32x128.size i4, P 4⟩,
       ⟨Rect.unit ![108, 0] S32x128.size i3, P 3⟩, ⟨Rect.unit ![72, 0] S32x128.size i2, P 2⟩,
       ⟨Rect.unit ![36, 0] S32x128.size i1, P 1⟩, ⟨Rect.unit ![0, 0] S32x128.size i0, P 0⟩] y
      = P a (ix2 k (y 1)) := by
  have h0 : (y 0 : ℕ) < 288 := (y 0).isLt
  have h1 : (y 1 : ℕ) < 128 := (y 1).isLt
  have hk : (k : ℕ) < 32 := k.isLt
  have aux : ∀ (b : Fin 8) (x : S32x128.Idx), (y 0 : ℕ) = 36 * (b : ℕ) + 1 * (x 0 : ℕ) → (y 1 : ℕ) = 0 + 1 * (x 1 : ℕ) →
      P b x = P a (ix2 k (y 1)) := by
    intro b x hb h1
    have hx : (x 0 : ℕ) < 32 := (x 0).isLt
    obtain rfl : b = a := Fin.ext (by omega)
    congr 1
    funext c
    fin_cases c
    · ext; show (x 0 : ℕ) = k; omega
    · ext; show (x 1 : ℕ) = y 1; omega
  refine View.canon_eq_of_allAt _ y _ ?_ ?_
  · simp only [List.mem_cons, List.not_mem_nil, or_false, exists_eq_or_imp, exists_eq_left]
    have hm : ∀ b : ℕ, (a : ℕ) = b → ∀ c, ∃ j < S32x128.size c, (y c : ℕ) = (![36 * b, 0] : Fin 2 → ℕ) c + 1 * j := by
      intro b hb c
      match c with
      | 0 => exact ⟨k, hk, by show (y 0 : ℕ) = 36 * b + 1 * (k : ℕ); omega⟩
      | 1 => exact ⟨(y 1 : ℕ), h1, by show (y 1 : ℕ) = 0 + 1 * (y 1 : ℕ); omega⟩
    have hc : (a : ℕ) = 7 ∨ (a : ℕ) = 6 ∨ (a : ℕ) = 5 ∨ (a : ℕ) = 4 ∨ (a : ℕ) = 3 ∨ (a : ℕ) = 2 ∨ (a : ℕ) = 1 ∨ (a : ℕ) = 0 := by omega
    have hs : ∀ b : ℕ, (a : ℕ) = b → ∀ i, y ∈ (Rect.unit (s := S288x128) ![36 * b, 0] S32x128.size i).set :=
      fun b hb i => (LoadRect.mem_set _).2 (hm b hb)
    exact hc.imp (hs 7 · _) (Or.imp (hs 6 · _) (Or.imp (hs 5 · _) (Or.imp (hs 4 · _) (Or.imp (hs 3 · _) (Or.imp (hs 2 · _)
      (Or.imp (hs 1 · _) (hs 0 · _)))))))
  · intro p hp x hx
    have e0 := congrArg (fun y => (y 0 : ℕ)) hx
    have e1 := congrArg (fun y => (y 1 : ℕ)) hx
    simp only [List.mem_cons, List.not_mem_nil, or_false] at hp
    rcases hp with rfl | rfl | rfl | rfl | rfl | rfl | rfl | rfl
    · exact aux 7 x e0.symm e1.symm
    · exact aux 6 x e0.symm e1.symm
    · exact aux 5 x e0.symm e1.symm
    · exact aux 4 x e0.symm e1.symm
    · exact aux 3 x e0.symm e1.symm
    · exact aux 2 x e0.symm e1.symm
    · exact aux 1 x e0.symm e1.symm
    · exact aux 0 x e0.symm e1.symm

end Cert.Model
-- ==== Proof.Tile2.lean ====
/- The block of results the router's body stores: eight rows of tokens, each loaded as four ranks and stored side by side. -/
module

public import proofs.«01_k».proof.Proof.Tile

@[expose] public section

noncomputable section

namespace Cert.Model

open Idealize.ShloMosaic Idealize.ShloMosaic.ValueKit Cert.KernelIdeal Cert.KernelIdeal.Gen

variable {e : EltTy}

/-- Where rank `y 1` of token `y 2` was stored: four rows for each row of tokens. -/
def rankRow (y : S1x4x1024.Idx) : S32x128.Idx :=
  ix2 (Fin.ofNat 32 (4 * ((y 2 : ℕ) / 128) + (y 1 : ℕ))) (Fin.ofNat 128 (y 2))

/-- One row of tokens of the block, as the body loads it and casts it to the block's rank. -/
theorem row_piece {α : Type} (G : S32x128.Idx → α) (b : ℕ) (hb : b < 8) (hi hs) (x : S1x4x128.Idx) (y : S1x4x1024.Idx)
    (h1 : (y 1 : ℕ) = x 1) (h2 : (y 2 : ℕ) = 128 * b + x 2) :
    shapeCast S1x4x128 (fun j : S4x128.Idx => G ((Rect.unit (s := S32x128) ![4 * b, 0] S4x128.size hi).toLoadRect.idx j)) hs x
      = G (rankRow y) := by
  have hx0 : (x 0 : ℕ) < 1 := (x 0).isLt
  have hx1 : (x 1 : ℕ) < 4 := (x 1).isLt
  have hx2 : (x 2 : ℕ) < 128 := (x 2).isLt
  refine (_root_.Idealize.ShloMosaic.shapeCast_apply _ hs x (ix2 (x 1) (x 2) : S4x128.Idx) ?_).trans (congrArg G ?_)
  · have e2 := Shape.rowMajor_val_two (ix2 (x 1) (x 2) : S4x128.Idx)
    have e3 := Shape.rowMajor_val_three x
    refine e2.trans (Eq.trans ?_ e3.symm)
    show (x 1 : ℕ) * 128 + (x 2 : ℕ) = ((x 0 : ℕ) * 4 + (x 1 : ℕ)) * 128 + (x 2 : ℕ)
    omega
  · funext a
    match a with
    | 0 =>
      refine Fin.ext ?_
      show 4 * b + 1 * (x 1 : ℕ) = (4 * ((y 2 : ℕ) / 128) + (y 1 : ℕ)) % 32
      omega
    | 1 =>
      refine Fin.ext ?_
      show 0 + 1 * (x 2 : ℕ) = (y 2 : ℕ) % 128
      omega

/-- The block of results the body stores. -/
theorem out_tile {κ : Kind} {sp : Space} (M : View sig κ sp S32x128 e) (H : List (View.Piece (Elt Ideal) S32x128 e))
    (l0 : ∀ a : Fin S32x128.rank, (![0, 0] : Fin 2 → ℕ) a + S4x128.size a ≤ S32x128.size a) (o0 : ∀ a : Fin S1x4x1024.rank, (![0, 0, 0] : Fin 3 → ℕ) a + S1x4x128.size a ≤ S1x4x1024.size a)
    (l1 : ∀ a : Fin S32x128.rank, (![4, 0] : Fin 2 → ℕ) a + S4x128.size a ≤ S32x128.size a) (o1 : ∀ a : Fin S1x4x1024.rank, (![0, 0, 128] : Fin 3 → ℕ) a + S1x4x128.size a ≤ S1x4x1024.size a)
    (l2 : ∀ a : Fin S32x128.rank, (![8, 0] : Fin 2 → ℕ) a + S4x128.size a ≤ S32x128.size a) (o2 : ∀ a : Fin S1x4x1024.rank, (![0, 0, 256] : Fin 3 → ℕ) a + S1x4x128.size a ≤ S1x4x1024.size a)
    (l3 : ∀ a : Fin S32x128.rank, (![12, 0] : Fin 2 → ℕ) a + S4x128.size a ≤ S32x128.size a) (o3 : ∀ a : Fin S1x4x1024.rank, (![0, 0, 384] : Fin 3 → ℕ) a + S1x4x128.size a ≤ S1x4x1024.size a)
    (l4 : ∀ a : Fin S32x128.rank, (![16, 0] : Fin 2 → ℕ) a + S4x128.size a ≤ S32x128.size a) (o4 : ∀ a : Fin S1x4x1024.rank, (![0, 0, 512] : Fin 3 → ℕ) a + S1x4x128.size a ≤ S1x4x1024.size a)
    (l5 : ∀ a : Fin S32x128.rank, (![20, 0] : Fin 2 → ℕ) a + S4x128.size a ≤ S32x128.size a) (o5 : ∀ a : Fin S1x4x1024.rank, (![0, 0, 640] : Fin 3 → ℕ) a + S1x4x128.size a ≤ S1x4x1024.size a)
    (l6 : ∀ a : Fin S32x128.rank, (![24, 0] : Fin 2 → ℕ) a + S4x128.size a ≤ S32x128.size a) (o6 : ∀ a : Fin S1x4x1024.rank, (![0, 0, 768] : Fin 3 → ℕ) a + S1x4x128.size a ≤ S1x4x1024.size a)
    (l7 : ∀ a : Fin S32x128.rank, (![28, 0] : Fin 2 → ℕ) a + S4x128.size a ≤ S32x128.size a) (o7 : ∀ a : Fin S1x4x1024.rank, (![0, 0, 896] : Fin 3 → ℕ) a + S1x4x128.size a ≤ S1x4x1024.size a)
    (c : S4x128.ShapeCasts S1x4x128)
    (L : List (View.Piece (Elt Ideal) S1x4x1024 e)) (hL : L =
      [⟨Rect.unit (s := S1x4x1024) ![0, 0, 896] S1x4x128.size o7, shapeCast S1x4x128 (M.readCov H (Rect.unit (s := S32x128) ![28, 0] S4x128.size l7).toLoadRect) c⟩,
       ⟨Rect.unit (s := S1x4x1024) ![0, 0, 768] S1x4x128.size o6, shapeCast S1x4x128 (M.readCov H (Rect.unit (s := S32x128) ![24, 0] S4x128.size l6).toLoadRect) c⟩,
       ⟨Rect.unit (s := S1x4x1024) ![0, 0, 640] S1x4x128.size o5, shapeCast S1x4x128 (M.readCov H (Rect.unit (s := S32x128) ![20, 0] S4x128.size l5).toLoadRect) c⟩,
       ⟨Rect.unit (s := S1x4x1024) ![0, 0, 512] S1x4x128.size o4, shapeCast S1x4x128 (M.readCov H (Rect.unit (s := S32x128) ![16, 0] S4x128.size l4).toLoadRect) c⟩,
       ⟨Rect.unit (s := S1x4x1024) ![0, 0, 384] S1x4x128.size o3, shapeCast S1x4x128 (M.readCov H (Rect.unit (s := S32x128) ![12, 0] S4x128.size l3).toLoadRect) c⟩,
       ⟨Rect.unit (s := S1x4x1024) ![0, 0, 256] S1x4x128.size o2, shapeCast S1x4x128 (M.readCov H (Rect.unit (s := S32x128) ![8, 0] S4x128.size l2).toLoadRect) c⟩,
       ⟨Rect.unit (s := S1x4x1024) ![0, 0, 128] S1x4x128.size o1, shapeCast S1x4x128 (M.readCov H (Rect.unit (s := S32x128) ![4, 0] S4x128.size l1).toLoadRect) c⟩,
       ⟨Rect.unit (s := S1x4x1024) ![0, 0, 0] S1x4x128.size o0, shapeCast S1x4x128 (M.readCov H (Rect.unit (s := S32x128) ![0, 0] S4x128.size l0).toLoadRect) c⟩])
    (y : S1x4x1024.Idx) (hy : ∃ p ∈ L, y ∈ p.1.set) : View.canon L y = View.canon H (rankRow y) := by
  subst hL
  refine View.canon_apply_of_pieces (fun y => View.canon H (rankRow y)) _ ?_ y hy
  have aux : ∀ (b : ℕ) (o : ∀ a : Fin S1x4x1024.rank, ![0, 0, 128 * b] a + S1x4x128.size a ≤ S1x4x1024.size a) (x : S1x4x128.Idx), (((Rect.unit (s := S1x4x1024) ![0, 0, 128 * b] S1x4x128.size o).emb x 1 : Fin _) : ℕ) = x 1
      ∧ (((Rect.unit (s := S1x4x1024) ![0, 0, 128 * b] S1x4x128.size o).emb x 2 : Fin _) : ℕ) = 128 * b + x 2 := by
    intro b o x
    constructor <;> rw [Rect.emb_apply]
    · show 0 + 1 * (x 1 : ℕ) = (x 1 : ℕ)
      omega
    · show 128 * b + 1 * (x 2 : ℕ) = 128 * b + (x 2 : ℕ)
      omega
  have one : ∀ (b b4 b128 : ℕ) (hb : b < 8) (h4 : b4 = 4 * b) (h128 : b128 = 128 * b) (l : ∀ a : Fin S32x128.rank, ![b4, 0] a + S4x128.size a ≤ S32x128.size a)
      (o : ∀ a : Fin S1x4x1024.rank, ![0, 0, b128] a + S1x4x128.size a ≤ S1x4x1024.size a) (c : S4x128.ShapeCasts S1x4x128) (x : S1x4x128.Idx),
      shapeCast S1x4x128 (M.readCov H (Rect.unit (s := S32x128) ![b4, 0] S4x128.size l).toLoadRect) c x
        = View.canon H (rankRow ((Rect.unit (s := S1x4x1024) ![0, 0, b128] S1x4x128.size o).emb x)) := by
    intro b b4 b128 hb h4 h128 l o c x
    subst h4 h128
    rw [View.readCov_eq_canon']
    exact row_piece (View.canon H) b hb l c x _ (aux b o x).1 (aux b o x).2
  intro p hp
  simp only [List.mem_cons, List.not_mem_nil, or_false] at hp
  rcases hp with rfl | rfl | rfl | rfl | rfl | rfl | rfl | rfl
  · exact fun x => one 7 28 896 (by decide) rfl rfl l7 o7 c x
  · exact fun x => one 6 24 768 (by decide) rfl rfl l6 o6 c x
  · exact fun x => one 5 20 640 (by decide) rfl rfl l5 o5 c x
  · exact fun x => one 4 16 512 (by decide) rfl rfl l4 o4 c x
  · exact fun x => one 3 12 384 (by decide) rfl rfl l3 o3 c x
  · exact fun x => one 2 8 256 (by decide) rfl rfl l2 o2 c x
  · exact fun x => one 1 4 128 (by decide) rfl rfl l1 o1 c x
  · exact fun x => one 0 0 0 (by decide) rfl rfl l0 o0 c x

end Cert.Model
-- ==== Proof.Logit.lean ====
/- The matrix product of the router's body, read as the logits: the eleven products of a chunk of tokens with two blocks of the
   weights at once, each half scaled and added up, are the twenty-two scaled sums of the contraction. -/
module

public import proofs.«01_k».proof.Proof.Tile2

@[expose] public section

noncomputable section

namespace Cert.Model

open Idealize.ShloMosaic Idealize.ShloMosaic.ValueKit Cert.KernelIdeal Cert.KernelIdeal.Gen

/-- A tile of the tokens, as loaded: rows from `r`, columns from `k`. -/
def tx (x : Vec Ideal S1024x2816 .fp8e4m3) (r k : ℕ) : Vec Ideal S256x256 .fp8e4m3 :=
  fun j => x (ix2 (Fin.ofNat 1024 (r + (j 0 : ℕ))) (Fin.ofNat 2816 (k + (j 1 : ℕ))))

/-- A row of the scales, as loaded: block `t`, tokens from `r`. -/
def ts (x : Vec Ideal S1x22x1024 .f32) (t r : ℕ) : Vec Ideal S1x1x256 .f32 :=
  fun j => x (ix3 0 (Fin.ofNat 22 t) (Fin.ofNat 1024 (r + (j 2 : ℕ))))

/-- One pair of blocks of the widened weights, as loaded. -/
def tw (x : Vec Ideal S11x64x256 .bf16) (t : ℕ) : Vec Ideal S1x64x256 .bf16 :=
  fun j => x (ix3 (Fin.ofNat 11 t) (j 1) (j 2))

theorem load_x (M : Memref sig .tc .vmem S1024x2816 .fp8e4m3) (h : M.IsWhole) (x : Vec Ideal S1024x2816 .fp8e4m3) {r k : ℕ}
    (inb : ∀ a, (![r, k] : Fin 2 → ℕ) a + S256x256.size a ≤ S1024x2816.size a) :
    View.readAt (Elt Ideal) M.view (Rect.unit (s := S1024x2816) ![r, k] S256x256.size inb).toLoadRect (h.unread x) = tx x r k := by
  have h0 : r + 256 ≤ 1024 := inb 0
  have h1 : k + 256 ≤ 2816 := inb 1
  funext j
  have j0 : (j 0 : ℕ) < 256 := (j 0).isLt
  have j1 : (j 1 : ℕ) < 256 := (j 1).isLt
  rw [View.readAt_apply, h.read_unread, tx]
  congr 1
  funext a
  match a with
  | 0 => refine Fin.ext ?_; show r + 1 * (j 0 : ℕ) = (r + (j 0 : ℕ)) % 1024; omega
  | 1 => refine Fin.ext ?_; show k + 1 * (j 1 : ℕ) = (k + (j 1 : ℕ)) % 2816; omega

theorem load_x' (M : Memref sig .tc .vmem S1024x2816 .fp8e4m3) (h : M.IsWhole) (x : Vec Ideal S1024x2816 .fp8e4m3) {r k : ℕ}
    (inb : ∀ a, (![r, k] : Fin 2 → ℕ) a + (![256, 256] : Fin 2 → ℕ) a ≤ S1024x2816.size a) :
    View.readAt (Elt Ideal) M.view (Rect.unit (s := S1024x2816) ![r, k] ![256, 256] inb).toLoadRect (h.unread x) = tx x r k :=
  load_x M h x inb

theorem load_s (M : Memref sig .tc .vmem S1x22x1024 .f32) (h : M.IsWhole) (x : Vec Ideal S1x22x1024 .f32) {t r : ℕ}
    (inb : ∀ a, (![0, t, r] : Fin 3 → ℕ) a + S1x1x256.size a ≤ S1x22x1024.size a) :
    View.readAt (Elt Ideal) M.view (Rect.unit (s := S1x22x1024) ![0, t, r] S1x1x256.size inb).toLoadRect (h.unread x) = ts x t r := by
  have h1 : t + 1 ≤ 22 := inb 1
  have h2 : r + 256 ≤ 1024 := inb 2
  funext j
  have j0 : (j 0 : ℕ) < 1 := (j 0).isLt
  have j1 : (j 1 : ℕ) < 1 := (j 1).isLt
  have j2 : (j 2 : ℕ) < 256 := (j 2).isLt
  rw [View.readAt_apply, h.read_unread, ts]
  congr 1
  funext a
  match a with
  | 0 => refine Fin.ext ?_; show 0 + 1 * (j 0 : ℕ) = 0; omega
  | 1 => refine Fin.ext ?_; show t + 1 * (j 1 : ℕ) = t % 22; omega
  | 2 => refine Fin.ext ?_; show r + 1 * (j 2 : ℕ) = (r + (j 2 : ℕ)) % 1024; omega

theorem load_s' (M : Memref sig .tc .vmem S1x22x1024 .f32) (h : M.IsWhole) (x : Vec Ideal S1x22x1024 .f32) {t r : ℕ}
    (inb : ∀ a, (![0, t, r] : Fin 3 → ℕ) a + (![1, 1, 256] : Fin 3 → ℕ) a ≤ S1x22x1024.size a) :
    View.readAt (Elt Ideal) M.view (Rect.unit (s := S1x22x1024) ![0, t, r] ![1, 1, 256] inb).toLoadRect (h.unread x) = ts x t r :=
  load_s M h x inb

theorem load_w (M : Memref sig .tc .vmem S11x64x256 .bf16) (h : M.IsWhole) (x : Vec Ideal S11x64x256 .bf16) {t : ℕ}
    (inb : ∀ a, (![t, 0, 0] : Fin 3 → ℕ) a + S1x64x256.size a ≤ S11x64x256.size a) :
    View.readAt (Elt Ideal) M.view (Rect.unit (s := S11x64x256) ![t, 0, 0] S1x64x256.size inb).toLoadRect (h.unread x) = tw x t := by
  have h0 : t + 1 ≤ 11 := inb 0
  funext j
  have j0 : (j 0 : ℕ) < 1 := (j 0).isLt
  rw [View.readAt_apply, h.read_unread, tw]
  congr 1
  funext a
  match a with
  | 0 => refine Fin.ext ?_; show t + 1 * (j 0 : ℕ) = t % 11; omega
  | 1 => refine Fin.ext ?_; show 0 + 1 * (j 1 : ℕ) = j 1; omega
  | 2 => refine Fin.ext ?_; show 0 + 1 * (j 2 : ℕ) = j 2; omega

theorem load_w' (M : Memref sig .tc .vmem S11x64x256 .bf16) (h : M.IsWhole) (x : Vec Ideal S11x64x256 .bf16) {t : ℕ}
    (inb : ∀ a, (![t, 0, 0] : Fin 3 → ℕ) a + (![1, 64, 256] : Fin 3 → ℕ) a ≤ S11x64x256.size a) :
    View.readAt (Elt Ideal) M.view (Rect.unit (s := S11x64x256) ![t, 0, 0] ![1, 64, 256] inb).toLoadRect (h.unread x) = tw x t :=
  load_w M h x inb

/-- The product of a pair of blocks of the weights with a tile of tokens. -/
def mm (w : Vec Ideal S1x64x256 .bf16) (x : Vec Ideal S256x256 .fp8e4m3) : FVec Ideal S64x256 .f32 :=
  matmul dot_S64x256_S256x256_S64x256_1_1_0_0_n_n none (shapeCast S64x256 w shapeCasts_S1x64x256_S64x256 : FVec Ideal S64x256 .bf16)
    (shapeCast S256x256 x shapeCasts_S256x256_S256x256 : FVec Ideal S256x256 .fp8e4m3) (constant S64x256 .f32 0x00000000#32)

/-- The rows of the first block of a product, scaled. -/
def part0 (w : Vec Ideal S1x64x256 .bf16) (x : Vec Ideal S256x256 .fp8e4m3) (s : Vec Ideal S1x1x256 .f32) : FVec Ideal S32x256 .f32 :=
  mulf (extractStridedSlice S32x256 ![0, 0] (mm w x) slices_S64x256_o0_0_S32x256)
    (broadcastTo S32x256 (shapeCast S1x256 s shapeCasts_S1x1x256_S1x256) broadcasts_S1x256_S32x256)

/-- The rows of the second block of a product, scaled. -/
def part1 (w : Vec Ideal S1x64x256 .bf16) (x : Vec Ideal S256x256 .fp8e4m3) (s : Vec Ideal S1x1x256 .f32) : FVec Ideal S32x256 .f32 :=
  mulf (extractStridedSlice S32x256 ![32, 0] (mm w x) slices_S64x256_o32_0_S32x256)
    (broadcastTo S32x256 (shapeCast S1x256 s shapeCasts_S1x1x256_S1x256) broadcasts_S1x256_S32x256)

/-- The scaled products of the pairs up to `n`, added in order. -/
def acc (w : ℕ → Vec Ideal S1x64x256 .bf16) (x : ℕ → Vec Ideal S256x256 .fp8e4m3) (s : ℕ → Vec Ideal S1x1x256 .f32) : ℕ → FVec Ideal S32x256 .f32
  | 0 => addf (part0 (w 0) (x 0) (s 0)) (part1 (w 0) (x 0) (s 1))
  | n + 1 => addf (addf (acc w x s n) (part0 (w (n + 1)) (x (n + 1)) (s (2 * (n + 1))))) (part1 (w (n + 1)) (x (n + 1)) (s (2 * (n + 1) + 1)))

/-- The logits of chunk `c` of the tokens. -/
def chunk (w : ℕ → Vec Ideal S1x64x256 .bf16) (x2 : Vec Ideal S1024x2816 .fp8e4m3) (x3 : Vec Ideal S1x22x1024 .f32) (c : ℕ) : FVec Ideal S32x256 .f32 :=
  acc w (fun t => tx x2 (256 * c) (256 * t)) (fun t => ts x3 t (256 * c)) 10

def half0 (v : FVec Ideal S32x256 .f32) : FVec Ideal S32x128 .f32 :=
  shapeCast S32x128 (extractStridedSlice S32x128 ![0, 0] v slices_S32x256_o0_0_S32x128) shapeCasts_S32x128_S32x128

def half1 (v : FVec Ideal S32x256 .f32) : FVec Ideal S32x128 .f32 :=
  shapeCast S32x128 (extractStridedSlice S32x128 ![0, 128] v slices_S32x256_o0_128_S32x128) shapeCasts_S32x128_S32x128

/-- The logits of each row of tokens of the tile. -/
def rowsOf (w : ℕ → Vec Ideal S1x64x256 .bf16) (x2 : Vec Ideal S1024x2816 .fp8e4m3) (x3 : Vec Ideal S1x22x1024 .f32) : Fin 8 → S32x128.Idx → EReal :=
  ![half0 (chunk w x2 x3 0), half1 (chunk w x2 x3 0), half0 (chunk w x2 x3 1), half1 (chunk w x2 x3 1),
    half0 (chunk w x2 x3 2), half1 (chunk w x2 x3 2), half0 (chunk w x2 x3 3), half1 (chunk w x2 x3 3)]

end Cert.Model
-- ==== Proof.LogitAt.lean ====
/- The logits of the router's body, one at a time. -/
module

public import proofs.«01_k».proof.Proof.Logit

@[expose] public section

noncomputable section

namespace Cert.Model

open Idealize.ShloMosaic Idealize.ShloMosaic.ValueKit Cert.KernelIdeal Cert.KernelIdeal.Gen

theorem mm_at (w : Vec Ideal S1x64x256 .bf16) (x : Vec Ideal S256x256 .fp8e4m3) (i : Fin 64) (j : Fin 256) :
    mm w x (ix2 i j) = ∑ k : Fin 256, w (ix3 (0 : Fin 1) i k) * x (ix2 j k) := by
  pointwise [mm]

theorem part0_at (w : Vec Ideal S1x64x256 .bf16) (x : Vec Ideal S256x256 .fp8e4m3) (s : Vec Ideal S1x1x256 .f32) (i : Fin 32) (j : Fin 256) :
    part0 w x s (ix2 i j) = mm w x (ix2 (⟨i, by omega⟩ : Fin 64) j) * s (ix3 (0 : Fin 1) (0 : Fin 1) j) := by
  pointwise [part0]

theorem part1_at (w : Vec Ideal S1x64x256 .bf16) (x : Vec Ideal S256x256 .fp8e4m3) (s : Vec Ideal S1x1x256 .f32) (i : Fin 32) (j : Fin 256) :
    part1 w x s (ix2 i j) = mm w x (ix2 (⟨32 + i, by omega⟩ : Fin 64) j) * s (ix3 (0 : Fin 1) (0 : Fin 1) j) := by
  pointwise [part1]

theorem half0_at (v : FVec Ideal S32x256 .f32) (i : Fin 32) (j : Fin 128) : half0 v (ix2 i j) = v (ix2 i (⟨j, by omega⟩ : Fin 256)) := by
  pointwise [half0]

theorem half1_at (v : FVec Ideal S32x256 .f32) (i : Fin 32) (j : Fin 128) : half1 v (ix2 i j) = v (ix2 i (⟨128 + j, by omega⟩ : Fin 256)) := by
  pointwise [half1]

/-- A pair of blocks of the weights laid along a diagonal: the rows of block `b` meet only the columns of block `b`. -/
def Diag (w : ℕ → Vec Ideal S1x64x256 .bf16) (W : Fin 32 → ℕ → EReal) : Prop :=
  ∀ t < 11, ∀ (e : Fin 32) (q : Fin 128),
    w t (ix3 (0 : Fin 1) (⟨e, by omega⟩ : Fin 64) (⟨q, by omega⟩ : Fin 256)) = W e (256 * t + q) ∧
    w t (ix3 (0 : Fin 1) (⟨e, by omega⟩ : Fin 64) (⟨128 + q, by omega⟩ : Fin 256)) = 0 ∧
    w t (ix3 (0 : Fin 1) (⟨32 + e, by omega⟩ : Fin 64) (⟨q, by omega⟩ : Fin 256)) = 0 ∧
    w t (ix3 (0 : Fin 1) (⟨32 + e, by omega⟩ : Fin 64) (⟨128 + q, by omega⟩ : Fin 256)) = W e (256 * t + 128 + q)

theorem sum_halves (f : Fin 256 → EReal) :
    ∑ k : Fin 256, f k = (∑ q : Fin 128, f ⟨q, by omega⟩) + ∑ q : Fin 128, f ⟨128 + q, by omega⟩ :=
  Fin.sum_univ_add (a := 128) (b := 128) f

/-- One block's share of a logit: the sum over its 128 columns, scaled. -/
def share (W : Fin 32 → ℕ → EReal) (X : ℕ → EReal) (s : ℕ → EReal) (e : Fin 32) (k : ℕ) : EReal :=
  (∑ q : Fin 128, W e (128 * k + q) * X (128 * k + q)) * s k

/-- The logit of token `n` of a block and expert `e`. -/
def logitOf (W : Fin 32 → ℕ → EReal) (x2 : Vec Ideal S1024x2816 .fp8e4m3) (x3 : Vec Ideal S1x22x1024 .f32) (n : Fin 1024) (e : ℕ) : EReal :=
  ∑ k : Fin 22, (∑ q : Fin 128, W (Fin.ofNat 32 e) (128 * k + q) * x2 (ix2 n (Fin.ofNat 2816 (128 * k + q)))) * x3 (ix3 (0 : Fin 1) k n)

variable {w : ℕ → Vec Ideal S1x64x256 .bf16} {W : Fin 32 → ℕ → EReal} (hw : Diag w W) {x : ℕ → Vec Ideal S256x256 .fp8e4m3}
  {s : ℕ → Vec Ideal S1x1x256 .f32} {X S : ℕ → EReal} {j : Fin 256}

include hw

theorem part0_share {t : ℕ} (ht : t < 11) (hx : ∀ k : Fin 256, x t (ix2 j k) = X (256 * t + k))
    (hs : s (2 * t) (ix3 (0 : Fin 1) (0 : Fin 1) j) = S (2 * t)) (e : Fin 32) :
    part0 (w t) (x t) (s (2 * t)) (ix2 e j) = share W X S e (2 * t) := by
  rw [part0_at, mm_at, sum_halves, hs, share]
  congr 1
  simp only [fun q => (hw t ht e q).1, fun q => (hw t ht e q).2.1, zero_mul, Finset.sum_const_zero, add_zero, hx]
  refine Finset.sum_congr rfl fun q _ => ?_
  show W e (256 * t + (q : ℕ)) * X (256 * t + (q : ℕ)) = _
  rw [show 256 * t + (q : ℕ) = 128 * (2 * t) + q from by omega]

theorem part1_share {t : ℕ} (ht : t < 11) (hx : ∀ k : Fin 256, x t (ix2 j k) = X (256 * t + k))
    (hs : s (2 * t + 1) (ix3 (0 : Fin 1) (0 : Fin 1) j) = S (2 * t + 1)) (e : Fin 32) :
    part1 (w t) (x t) (s (2 * t + 1)) (ix2 e j) = share W X S e (2 * t + 1) := by
  rw [part1_at, mm_at, sum_halves, hs, share]
  congr 1
  simp only [fun q => (hw t ht e q).2.2.1, fun q => (hw t ht e q).2.2.2, zero_mul, Finset.sum_const_zero, zero_add, hx]
  refine Finset.sum_congr rfl fun q _ => ?_
  show W e (256 * t + 128 + (q : ℕ)) * X (256 * t + (128 + (q : ℕ))) = _
  rw [show 256 * t + 128 + (q : ℕ) = 128 * (2 * t + 1) + q from by omega, show 256 * t + (128 + (q : ℕ)) = 128 * (2 * t + 1) + q from by omega]

theorem acc_at (hx : ∀ t < 11, ∀ k : Fin 256, x t (ix2 j k) = X (256 * t + k))
    (hs : ∀ t < 22, s t (ix3 (0 : Fin 1) (0 : Fin 1) j) = S t) (e : Fin 32) :
    ∀ n < 11, acc w x s n (ix2 e j) = ∑ k ∈ Finset.range (2 * n + 2), share W X S e k
  | 0, _ => by
    have h0 := part0_share hw (t := 0) (by omega) (hx 0 (by omega)) (hs 0 (by omega)) e
    have h1 := part1_share hw (t := 0) (by omega) (hx 0 (by omega)) (hs 1 (by omega)) e
    rw [Finset.sum_range_succ, Finset.sum_range_succ, Finset.sum_range_zero, zero_add]
    exact congrArg₂ (fun a b : EReal => a + b) h0 h1
  | n + 1, hn => by
    have h0 := part0_share hw (t := n + 1) (by omega) (hx _ (by omega)) (hs _ (by omega)) e
    have h1 := part1_share hw (t := n + 1) (by omega) (hx _ (by omega)) (hs _ (by omega)) e
    have ih := acc_at hx hs e n (by omega)
    rw [show 2 * (n + 1) + 2 = (2 * n + 2) + 1 + 1 from by ring, Finset.sum_range_succ, Finset.sum_range_succ, ← ih]
    exact congrArg₂ (fun a b : EReal => a + b) (congrArg₂ (fun a b : EReal => a + b) rfl h0) h1

/-- A logit of the chunk `c`. -/
theorem chunk_at (x2 : Vec Ideal S1024x2816 .fp8e4m3) (x3 : Vec Ideal S1x22x1024 .f32) {c : ℕ} (hc : c < 4) (e : Fin 32) (n : Fin 1024)
    (hn : (n : ℕ) = 256 * c + (j : ℕ)) :
    chunk w x2 x3 c (ix2 e j)
      = ∑ k : Fin 22, (∑ q : Fin 128, W e (128 * k + q) * x2 (ix2 n (Fin.ofNat 2816 (128 * k + q)))) * x3 (ix3 (0 : Fin 1) k n) := by
  have h := acc_at hw (x := fun t => tx x2 (256 * c) (256 * t)) (s := fun t => ts x3 t (256 * c)) (j := j)
    (X := fun k => x2 (ix2 n (Fin.ofNat 2816 k))) (S := fun k => x3 (ix3 (0 : Fin 1) (Fin.ofNat 22 k) n)) (fun t ht k => ?_) (fun t ht => ?_) e 10 (by omega)
  · refine h.trans ?_
    rw [Finset.sum_range]
    refine Finset.sum_congr rfl fun k _ => ?_
    rw [share]
    congr 3
    exact Fin.ext (Nat.mod_eq_of_lt k.isLt)
  · show x2 (ix2 (Fin.ofNat 1024 (256 * c + (j : ℕ))) _) = _
    congr 2
    exact Fin.ext ((Nat.mod_eq_of_lt (by omega)).trans hn.symm)
  · show x3 (ix3 0 _ (Fin.ofNat 1024 (256 * c + (j : ℕ)))) = _
    congr 2
    exact Fin.ext ((Nat.mod_eq_of_lt (by omega)).trans hn.symm)

/-- A logit of a row of tokens. -/
theorem rowsOf_at (x2 : Vec Ideal S1024x2816 .fp8e4m3) (x3 : Vec Ideal S1x22x1024 .f32) (a : Fin 8) (e : Fin 32) (l : Fin 128) (n : Fin 1024)
    (hn : (n : ℕ) = 128 * (a : ℕ) + (l : ℕ)) :
    rowsOf w x2 x3 a (ix2 e l)
      = ∑ k : Fin 22, (∑ q : Fin 128, W e (128 * k + q) * x2 (ix2 n (Fin.ofNat 2816 (128 * k + q)))) * x3 (ix3 (0 : Fin 1) k n) := by
  have even : ∀ c, (a : ℕ) = 2 * c → half0 (chunk w x2 x3 c) (ix2 e l) = _ := fun c h =>
    (half0_at _ e l).trans (chunk_at hw x2 x3 (by omega) e n (by show (n : ℕ) = 256 * c + (l : ℕ); omega))
  have odd : ∀ c, (a : ℕ) = 2 * c + 1 → half1 (chunk w x2 x3 c) (ix2 e l) = _ := fun c h =>
    (half1_at _ e l).trans (chunk_at hw x2 x3 (by omega) e n (by show (n : ℕ) = 256 * c + (128 + (l : ℕ)); omega))
  match a with
  | 0 => exact even 0 rfl
  | 1 => exact odd 0 rfl
  | 2 => exact even 1 rfl
  | 3 => exact odd 1 rfl
  | 4 => exact even 2 rfl
  | 5 => exact odd 2 rfl
  | 6 => exact even 3 rfl
  | 7 => exact odd 3 rfl

/-- The rows of logits at the place of token `y 2` of a block. -/
theorem logitOf_at (x2 : Vec Ideal S1024x2816 .fp8e4m3) (x3 : Vec Ideal S1x22x1024 .f32) (y : S1x4x1024.Idx) (e : ℕ) :
    rowsOf w x2 x3 (Fin.ofNat 8 ((y 2 : ℕ) / 128)) (ix2 (Fin.ofNat 32 e) (Fin.ofNat 128 (y 2))) = logitOf W x2 x3 (y 2) e := by
  have y2 : (y 2 : ℕ) < 1024 := (y 2).isLt
  refine rowsOf_at hw x2 x3 _ _ _ (y 2) ?_
  show (y 2 : ℕ) = 128 * ((y 2 : ℕ) / 128 % 8) + (y 2 : ℕ) % 128
  omega

end Cert.Model
-- ==== Proof.StoredA.lean ====
/- The matrix product of the router's body at the first step, which also widens the weights: what it stores, named by what it means. -/
module

public import proofs.«01_k».proof.Proof.Logit
public import proofs.«01_k».proof.Proof.Gen.KernelIdeal.Frame

@[expose] public section

set_option maxRecDepth 16384

noncomputable section

namespace Cert.RouteA

open Idealize.ShloMosaic Idealize.ShloMosaic.ValueKit Cert.KernelIdeal Cert.KernelIdeal.Gen Cert.Model

variable (c : Dev nD) (arg3 : Memref sig .tc .vmem S1024x2816 .fp8e4m3) (harg3 : arg3.IsWhole) (arg4 : Memref sig .tc .vmem S1x22x1024 .f32) (harg4 : arg4.IsWhole) (arg5 : Memref sig .tc .vmem S32x2816 .fp8e4m3) (harg5 : arg5.IsWhole) (arg8 : Memref sig .tc .vmem S11x64x256 .bf16)
  (x2 : Vec Ideal S1024x2816 .fp8e4m3) (x3 : Vec Ideal S1x22x1024 .f32) (x4 : Vec Ideal S32x2816 .fp8e4m3)

/-- The pairs of blocks of the widened weights, as the body loads them back. -/
def wl : ℕ → Vec Ideal S1x64x256 .bf16 := nth [kernelRun0_A.sl.v3 c arg5 harg5 arg8 x4, kernelRun0_A.sl.v19 c arg5 harg5 arg8 x4, kernelRun0_A.sl.v36 c arg5 harg5 arg8 x4, kernelRun0_A.sl.v53 c arg5 harg5 arg8 x4, kernelRun0_A.sl.v70 c arg5 harg5 arg8 x4, kernelRun0_A.sl.v87 c arg5 harg5 arg8 x4, kernelRun0_A.sl.v104 c arg5 harg5 arg8 x4, kernelRun0_A.sl.v121 c arg5 harg5 arg8 x4, kernelRun0_A.sl.v138 c arg5 harg5 arg8 x4, kernelRun0_A.sl.v155 c arg5 harg5 arg8 x4, kernelRun0_A.sl.v172 c arg5 harg5 arg8 x4]

/-- The rows of logits the body stores. -/
theorem stored : (kernelRun0_A.sl.HS1_8 c arg3 harg3 arg4 harg4 arg5 harg5 arg8 x2 x3 x4 : List (View.Piece (Elt Ideal) S288x128 .f32)) =
    [⟨Rect.unit ![252, 0] S32x128.size inb_S288x128_S32x128_252_0, half1 (chunk (wl c arg5 harg5 arg8 x4) x2 x3 3)⟩,
     ⟨Rect.unit ![216, 0] S32x128.size inb_S288x128_S32x128_216_0, half0 (chunk (wl c arg5 harg5 arg8 x4) x2 x3 3)⟩,
     ⟨Rect.unit ![180, 0] S32x128.size inb_S288x128_S32x128_180_0, half1 (chunk (wl c arg5 harg5 arg8 x4) x2 x3 2)⟩,
     ⟨Rect.unit ![144, 0] S32x128.size inb_S288x128_S32x128_144_0, half0 (chunk (wl c arg5 harg5 arg8 x4) x2 x3 2)⟩,
     ⟨Rect.unit ![108, 0] S32x128.size inb_S288x128_S32x128_108_0, half1 (chunk (wl c arg5 harg5 arg8 x4) x2 x3 1)⟩,
     ⟨Rect.unit ![72, 0] S32x128.size inb_S288x128_S32x128_72_0, half0 (chunk (wl c arg5 harg5 arg8 x4) x2 x3 1)⟩,
     ⟨Rect.unit ![36, 0] S32x128.size inb_S288x128_S32x128_36_0, half1 (chunk (wl c arg5 harg5 arg8 x4) x2 x3 0)⟩,
     ⟨Rect.unit ![0, 0] S32x128.size inb_S288x128_S32x128_0_0, half0 (chunk (wl c arg5 harg5 arg8 x4) x2 x3 0)⟩] := by
  simp only [half0, half1, chunk, acc, part0, part1, mm, load_x, load_x', load_s, load_s', wl, nth, Nat.reduceMul, Nat.reduceAdd,
    kernelRun0_A.sl.HS1_8, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51,
    k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]

end Cert.RouteA
-- ==== Proof.WideA.lean ====
/- The widened weights: the first step lays the twenty-two blocks of the weights along the diagonals of eleven blocks of zeros. -/
module

public import proofs.«01_k».proof.Proof.LogitAt
public import proofs.«01_k».proof.Proof.StoredA

@[expose] public section

set_option maxRecDepth 16384

noncomputable section

namespace Cert.RouteA

open Idealize.ShloMosaic Idealize.ShloMosaic.ValueKit Cert.KernelIdeal Cert.KernelIdeal.Gen Cert.Model

/-- A block of the weights, as loaded and widened: 128 columns from `k`. -/
def wtile (x : Vec Ideal S32x2816 .fp8e4m3) (k : ℕ) : Vec Ideal S1x32x128 .bf16 :=
  fun j => x (ix2 (j 1) (Fin.ofNat 2816 (k + (j 2 : ℕ))))

theorem cast_tile (v : FVec Ideal S32x128 .fp8e4m3) (j : S1x32x128.Idx) :
    (shapeCast S1x32x128 (extf .bf16 (shapeCast S32x128 v shapeCasts_S32x128_S32x128 : FVec Ideal S32x128 .fp8e4m3) bitsLt_fp8e4m3_bf16
      : FVec Ideal S32x128 .bf16) shapeCasts_S32x128_S1x32x128 : FVec Ideal S1x32x128 .bf16) j = v (ix2 (j 1) (j 2)) := by
  have j0 : (j 0 : ℕ) < 1 := (j 0).isLt
  refine (_root_.Idealize.ShloMosaic.shapeCast_apply _ _ j (ix2 (j 1) (j 2) : S32x128.Idx) ?_).trans ?_
  · refine (Shape.rowMajor_val_two (ix2 (j 1) (j 2) : S32x128.Idx)).trans (Eq.trans ?_ (Shape.rowMajor_val_three j).symm)
    show (j 1 : ℕ) * 128 + (j 2 : ℕ) = ((j 0 : ℕ) * 32 + (j 1 : ℕ)) * 128 + (j 2 : ℕ)
    omega
  · exact _root_.Idealize.ShloMosaic.shapeCast_apply v shapeCasts_S32x128_S32x128 _ _ rfl

theorem load_t (M : Memref sig .tc .vmem S32x2816 .fp8e4m3) (h : M.IsWhole) (x : Vec Ideal S32x2816 .fp8e4m3) {k : ℕ}
    (inb : ∀ a, (![0, k] : Fin 2 → ℕ) a + (![32, 128] : Fin 2 → ℕ) a ≤ S32x2816.size a) :
    (shapeCast S1x32x128 (extf .bf16 (shapeCast S32x128 (View.readAt (Elt Ideal) M.view (Rect.unit (s := S32x2816) ![0, k] ![32, 128] inb).toLoadRect (h.unread x)
      : FVec Ideal S32x128 .fp8e4m3) shapeCasts_S32x128_S32x128 : FVec Ideal S32x128 .fp8e4m3) bitsLt_fp8e4m3_bf16 : FVec Ideal S32x128 .bf16)
      shapeCasts_S32x128_S1x32x128 : FVec Ideal S1x32x128 .bf16) = wtile x k := by
  have h1 : k + 128 ≤ 2816 := inb 1
  funext j
  have j2 : (j 2 : ℕ) < 128 := (j 2).isLt
  rw [cast_tile, wtile]
  refine (View.readAt_apply _ _ _).trans ?_
  rw [h.read_unread]
  congr 1
  funext a
  match a with
  | 0 => refine Fin.ext ?_; show 0 + 1 * (j 1 : ℕ) = j 1; omega
  | 1 => refine Fin.ext ?_; show k + 1 * (j 2 : ℕ) = (k + (j 2 : ℕ)) % 2816; omega

variable (c : Dev nD) (arg5 : Memref sig .tc .vmem S32x2816 .fp8e4m3) (harg5 : arg5.IsWhole) (arg8 : Memref sig .tc .vmem S11x64x256 .bf16)
  (x4 : Vec Ideal S32x2816 .fp8e4m3)

/-- Where the blocks go, in the order of the stores, the last first. -/
def places : List (Fin 11 × Fin 2) := (List.finRange 11).reverse.flatMap fun t => [(t, 1), (t, 0)]

theorem mem_places (p : Fin 11 × Fin 2) : p ∈ places := by revert p; decide

theorem place_inb (p : Fin 11 × Fin 2) : ∀ a, (![(p.1 : ℕ), 32 * (p.2 : ℕ), 128 * (p.2 : ℕ)] : Fin 3 → ℕ) a + S1x32x128.size a ≤ S11x64x256.size a := by
  revert p; decide

/-- A block of the weights in its place. -/
def block (p : Fin 11 × Fin 2) : View.Piece (Elt Ideal) S11x64x256 .bf16 :=
  ⟨Rect.unit ![(p.1 : ℕ), 32 * (p.2 : ℕ), 128 * (p.2 : ℕ)] S1x32x128.size (place_inb p), wtile x4 (256 * (p.1 : ℕ) + 128 * (p.2 : ℕ))⟩

/-- The zeros the blocks are laid over. -/
def zeros : View.Piece (Elt Ideal) S11x64x256 .bf16 := ⟨Rect.unit ![0, 0, 0] S11x64x256.size inb_S11x64x256_S11x64x256_0_0_0, k0_pay4 (F := Ideal)⟩

theorem laid : (kernelRun0_A.sl.HS0_23 c arg5 harg5 x4 : List (View.Piece (Elt Ideal) S11x64x256 .bf16)) =
    [⟨Rect.unit ![10, 32, 128] S1x32x128.size inb_S11x64x256_S1x32x128_10_32_128, wtile x4 2688⟩,
     ⟨Rect.unit ![10, 0, 0] S1x32x128.size inb_S11x64x256_S1x32x128_10_0_0, wtile x4 2560⟩,
     ⟨Rect.unit ![9, 32, 128] S1x32x128.size inb_S11x64x256_S1x32x128_9_32_128, wtile x4 2432⟩,
     ⟨Rect.unit ![9, 0, 0] S1x32x128.size inb_S11x64x256_S1x32x128_9_0_0, wtile x4 2304⟩,
     ⟨Rect.unit ![8, 32, 128] S1x32x128.size inb_S11x64x256_S1x32x128_8_32_128, wtile x4 2176⟩,
     ⟨Rect.unit ![8, 0, 0] S1x32x128.size inb_S11x64x256_S1x32x128_8_0_0, wtile x4 2048⟩,
     ⟨Rect.unit ![7, 32, 128] S1x32x128.size inb_S11x64x256_S1x32x128_7_32_128, wtile x4 1920⟩,
     ⟨Rect.unit ![7, 0, 0] S1x32x128.size inb_S11x64x256_S1x32x128_7_0_0, wtile x4 1792⟩,
     ⟨Rect.unit ![6, 32, 128] S1x32x128.size inb_S11x64x256_S1x32x128_6_32_128, wtile x4 1664⟩,
     ⟨Rect.unit ![6, 0, 0] S1x32x128.size inb_S11x64x256_S1x32x128_6_0_0, wtile x4 1536⟩,
     ⟨Rect.unit ![5, 32, 128] S1x32x128.size inb_S11x64x256_S1x32x128_5_32_128, wtile x4 1408⟩,
     ⟨Rect.unit ![5, 0, 0] S1x32x128.size inb_S11x64x256_S1x32x128_5_0_0, wtile x4 1280⟩,
     ⟨Rect.unit ![4, 32, 128] S1x32x128.size inb_S11x64x256_S1x32x128_4_32_128, wtile x4 1152⟩,
     ⟨Rect.unit ![4, 0, 0] S1x32x128.size inb_S11x64x256_S1x32x128_4_0_0, wtile x4 1024⟩,
     ⟨Rect.unit ![3, 32, 128] S1x32x128.size inb_S11x64x256_S1x32x128_3_32_128, wtile x4 896⟩,
     ⟨Rect.unit ![3, 0, 0] S1x32x128.size inb_S11x64x256_S1x32x128_3_0_0, wtile x4 768⟩,
     ⟨Rect.unit ![2, 32, 128] S1x32x128.size inb_S11x64x256_S1x32x128_2_32_128, wtile x4 640⟩,
     ⟨Rect.unit ![2, 0, 0] S1x32x128.size inb_S11x64x256_S1x32x128_2_0_0, wtile x4 512⟩,
     ⟨Rect.unit ![1, 32, 128] S1x32x128.size inb_S11x64x256_S1x32x128_1_32_128, wtile x4 384⟩,
     ⟨Rect.unit ![1, 0, 0] S1x32x128.size inb_S11x64x256_S1x32x128_1_0_0, wtile x4 256⟩,
     ⟨Rect.unit ![0, 32, 128] S1x32x128.size inb_S11x64x256_S1x32x128_0_32_128, wtile x4 128⟩,
     ⟨Rect.unit ![0, 0, 0] S1x32x128.size inb_S11x64x256_S1x32x128_0_0_0, wtile x4 0⟩,
     ⟨Rect.unit ![0, 0, 0] S11x64x256.size inb_S11x64x256_S11x64x256_0_0_0, k0_pay4 (F := Ideal)⟩] := by
  simp only [kernelRun0_A.sl.HS0_23, kernelRun0_A.sl.r, kernelRun0_A.sl.r_1, kernelRun0_A.sl.r_2, kernelRun0_A.sl.r_3, load_t,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]

theorem laid_places : (kernelRun0_A.sl.HS0_23 c arg5 harg5 x4 : List (View.Piece (Elt Ideal) S11x64x256 .bf16)) =
    places.map (block x4) ++ [zeros] := by
  rw [laid]
  rfl

/-- The widened weights: block `b` of pair `t` on rows and columns of block `b`, zeros elsewhere. -/
def wide (y : S11x64x256.Idx) : EReal :=
  if (y 1 : ℕ) / 32 = (y 2 : ℕ) / 128 then
    x4 (ix2 (Fin.ofNat 32 (y 1)) (Fin.ofNat 2816 (256 * (y 0 : ℕ) + (y 2 : ℕ)))) else 0

theorem canon_over (G : S11x64x256.Idx → EReal) (Z : List (View.Piece (Elt Ideal) S11x64x256 .bf16)) (y : S11x64x256.Idx) :
    ∀ L : List (View.Piece (Elt Ideal) S11x64x256 .bf16), (∀ p ∈ L, ∀ x, p.2 x = G (p.1.emb x)) →
      ((∀ p ∈ L, y ∉ p.1.set) → View.canon Z y = G y) → View.canon (L ++ Z) y = G y
  | [], _, h => h (by simp)
  | p :: L, hL, h => by
    by_cases hm : y ∈ p.1.set
    · obtain ⟨x, rfl⟩ := p.1.exists_idx_of_mem hm
      rw [show p.1.idx x = p.1.emb x from rfl, List.cons_append, View.canon_cons_emb]
      exact hL p (by simp) x
    · rw [List.cons_append, View.canon_cons_of_not_mem _ _ hm]
      refine canon_over G Z y L (fun q hq => hL q (by simp [hq])) fun hn => h fun q hq => ?_
      rcases List.mem_cons.mp hq with rfl | hq'
      · exact hm
      · exact hn q hq'

/-- What the first step leaves in the scratch. -/
theorem laid_wide (y : S11x64x256.Idx) :
    View.canon (kernelRun0_A.sl.HS0_23 c arg5 harg5 x4 : List (View.Piece (Elt Ideal) S11x64x256 .bf16)) y = wide x4 y := by
  rw [laid_places]
  have y0 : (y 0 : ℕ) < 11 := (y 0).isLt
  have y1 : (y 1 : ℕ) < 64 := (y 1).isLt
  have y2 : (y 2 : ℕ) < 256 := (y 2).isLt
  refine canon_over (wide x4) _ y _ ?_ fun hn => ?_
  · intro p hp
    obtain ⟨⟨t, b⟩, -, rfl⟩ := List.mem_map.1 hp
    intro x
    have x0 : (x 0 : ℕ) < 1 := (x 0).isLt
    have x1 : (x 1 : ℕ) < 32 := (x 1).isLt
    have x2 : (x 2 : ℕ) < 128 := (x 2).isLt
    have e0 : (((block x4 (t, b)).1.emb x 0 : Fin _) : ℕ) = (t : ℕ) + 1 * (x 0 : ℕ) := Rect.emb_apply _ x 0
    have e1 : (((block x4 (t, b)).1.emb x 1 : Fin _) : ℕ) = 32 * (b : ℕ) + 1 * (x 1 : ℕ) := Rect.emb_apply _ x 1
    have e2 : (((block x4 (t, b)).1.emb x 2 : Fin _) : ℕ) = 128 * (b : ℕ) + 1 * (x 2 : ℕ) := Rect.emb_apply _ x 2
    have hb : (b : ℕ) < 2 := b.isLt
    rw [wide, if_pos (by rw [e1, e2]; omega)]
    show x4 (ix2 (x 1) (Fin.ofNat 2816 (256 * (t : ℕ) + 128 * (b : ℕ) + (x 2 : ℕ)))) = _
    congr 1
    funext a
    match a with
    | 0 => refine Fin.ext ?_; show (x 1 : ℕ) = _ % 32; rw [e1]; omega
    | 1 => refine Fin.ext ?_; show (256 * (t : ℕ) + 128 * (b : ℕ) + (x 2 : ℕ)) % 2816 = (256 * _ + _) % 2816; rw [e0, e2]; congr 1; omega
  · have hz : View.canon [zeros] y = (0 : EReal) := by
      rw [zeros, View.canon_cons_unit_zero (by decide)]
      exact Ideal.ofBits_zero_bf16
    rw [hz, wide, if_neg]
    intro hd
    refine hn _ (List.mem_map.2 ⟨(⟨(y 0 : ℕ), y0⟩, ⟨(y 1 : ℕ) / 32, by omega⟩), mem_places _, rfl⟩) ?_
    refine (LoadRect.mem_set _).2 fun a => ?_
    match a with
    | 0 => exact ⟨0, by show 0 < 1; omega, by show (y 0 : ℕ) = (y 0 : ℕ) + 1 * 0; omega⟩
    | 1 => exact ⟨(y 1 : ℕ) % 32, by show _ < 32; omega, by show (y 1 : ℕ) = 32 * ((y 1 : ℕ) / 32) + 1 * ((y 1 : ℕ) % 32); omega⟩
    | 2 => exact ⟨(y 2 : ℕ) % 128, by show _ < 128; omega, by show (y 2 : ℕ) = 128 * ((y 1 : ℕ) / 32) + 1 * ((y 2 : ℕ) % 128); omega⟩

/-- The widened weights are the weights along the diagonals. -/
theorem diag_wide (x : Vec Ideal S11x64x256 .bf16) (hx : ∀ y, x y = wide x4 y) : Diag (tw x) (fun e k => x4 (ix2 e (Fin.ofNat 2816 k))) := by
  intro t ht e q
  have he : (e : ℕ) < 32 := e.isLt
  have hq : (q : ℕ) < 128 := q.isLt
  have h : ∀ (i : Fin 64) (k : Fin 256), tw x t (ix3 (0 : Fin 1) i k)
      = if (i : ℕ) / 32 = (k : ℕ) / 128 then x4 (ix2 (Fin.ofNat 32 i) (Fin.ofNat 2816 (256 * (t % 11) + (k : ℕ)))) else 0 := fun i k => hx _
  have ht' : t % 11 = t := Nat.mod_eq_of_lt ht
  refine ⟨?_, ?_, ?_, ?_⟩
  · rw [h, if_pos (by show (e : ℕ) / 32 = (q : ℕ) / 128; omega), ht']
    congr 2
    exact Fin.ext (by show (e : ℕ) % 32 = e; omega)
  · rw [h, if_neg (by show ¬(e : ℕ) / 32 = (128 + (q : ℕ)) / 128; omega)]
  · rw [h, if_neg (by show ¬(32 + (e : ℕ)) / 32 = (q : ℕ) / 128; omega)]
  · rw [h, if_pos (by show (32 + (e : ℕ)) / 32 = (128 + (q : ℕ)) / 128; omega), ht']
    congr 2
    · exact Fin.ext (by show (32 + (e : ℕ)) % 32 = e; omega)
    · exact Fin.ext (by show (256 * t + (128 + (q : ℕ))) % 2816 = (256 * t + 128 + (q : ℕ)) % 2816; congr 1; omega)

/-- At the first step the body loads the widened weights back. -/
theorem diag_first : Diag (wl c arg5 harg5 arg8 x4) (fun e k => x4 (ix2 e (Fin.ofNat 2816 k))) := by
  have key : ∀ t < 11, wl c arg5 harg5 arg8 x4 t = tw (wide x4) t := by
    have h : ∀ (t : ℕ) (ht : t < 11) (inb), (arg8.view.readCov (kernelRun0_A.sl.HS0_23 c arg5 harg5 x4 : List (View.Piece (Elt Ideal) S11x64x256 .bf16))
        (Rect.unit (s := S11x64x256) ![t, 0, 0] S1x64x256.size inb).toLoadRect) = tw (wide x4) t := by
      intro t ht inb
      rw [View.readCov_eq_canon']
      funext j
      have j0 : (j 0 : ℕ) < 1 := (j 0).isLt
      rw [laid_wide, tw]
      congr 1
      funext a
      match a with
      | 0 => refine Fin.ext ?_; show t + 1 * (j 0 : ℕ) = t % 11; omega
      | 1 => refine Fin.ext ?_; show 0 + 1 * (j 1 : ℕ) = j 1; omega
      | 2 => refine Fin.ext ?_; show 0 + 1 * (j 2 : ℕ) = j 2; omega
    intro t ht
    match t with
    | 0 => exact h 0 (by decide) inb_S11x64x256_S1x64x256_0_0_0
    | 1 => exact h 1 (by decide) inb_S11x64x256_S1x64x256_1_0_0
    | 2 => exact h 2 (by decide) inb_S11x64x256_S1x64x256_2_0_0
    | 3 => exact h 3 (by decide) inb_S11x64x256_S1x64x256_3_0_0
    | 4 => exact h 4 (by decide) inb_S11x64x256_S1x64x256_4_0_0
    | 5 => exact h 5 (by decide) inb_S11x64x256_S1x64x256_5_0_0
    | 6 => exact h 6 (by decide) inb_S11x64x256_S1x64x256_6_0_0
    | 7 => exact h 7 (by decide) inb_S11x64x256_S1x64x256_7_0_0
    | 8 => exact h 8 (by decide) inb_S11x64x256_S1x64x256_8_0_0
    | 9 => exact h 9 (by decide) inb_S11x64x256_S1x64x256_9_0_0
    | 10 => exact h 10 (by decide) inb_S11x64x256_S1x64x256_10_0_0
    | n + 11 => omega
  intro t ht
  rw [key t ht]
  exact diag_wide x4 (wide x4) (fun _ => rfl) t ht

end Cert.RouteA
-- ==== Proof.RouteA.lean ====
/- The routing half of the router's body at the first step, which also widens the weights: each word the body computes, named by what it
   means. -/
module

public import proofs.«01_k».proof.Proof.Model
public import proofs.«01_k».proof.Proof.Gen.KernelIdeal.Frame

@[expose] public section

set_option maxRecDepth 16384

noncomputable section

namespace Cert.RouteA

open Idealize.ShloMosaic Idealize.ShloMosaic.ValueKit Cert.KernelIdeal Cert.KernelIdeal.Gen Cert.Model

variable (c : Dev nD) (arg1 : Memref sig .tc .smem S32 .f32) (harg1 : arg1.IsWhole) (arg2 : Memref sig .tc .smem S32 .f32) (harg2 : arg2.IsWhole) (arg3 : Memref sig .tc .vmem S1024x2816 .fp8e4m3) (harg3 : arg3.IsWhole) (arg4 : Memref sig .tc .vmem S1x22x1024 .f32) (harg4 : arg4.IsWhole) (arg5 : Memref sig .tc .vmem S32x2816 .fp8e4m3) (harg5 : arg5.IsWhole) (arg8 : Memref sig .tc .vmem S11x64x256 .bf16) (arg9 : Memref sig .tc .vmem S288x128 .f32)
  (x0 x1 : Vec Ideal S32 .f32) (x2 : Vec Ideal S1024x2816 .fp8e4m3) (x3 : Vec Ideal S1x22x1024 .f32) (x4 : Vec Ideal S32x2816 .fp8e4m3)

/-- The logits of expert `e`, over the tile of tokens. -/
def lo : ℕ → V := nth [kernelRun0_A.sl.v779 c arg3 harg3 arg4 harg4 arg5 harg5 arg8 arg9 x2 x3 x4,
    kernelRun0_A.sl.v787 c arg3 harg3 arg4 harg4 arg5 harg5 arg8 arg9 x2 x3 x4,
    kernelRun0_A.sl.v795 c arg3 harg3 arg4 harg4 arg5 harg5 arg8 arg9 x2 x3 x4,
    kernelRun0_A.sl.v803 c arg3 harg3 arg4 harg4 arg5 harg5 arg8 arg9 x2 x3 x4,
    kernelRun0_A.sl.v811 c arg3 harg3 arg4 harg4 arg5 harg5 arg8 arg9 x2 x3 x4,
    kernelRun0_A.sl.v819 c arg3 harg3 arg4 harg4 arg5 harg5 arg8 arg9 x2 x3 x4,
    kernelRun0_A.sl.v827 c arg3 harg3 arg4 harg4 arg5 harg5 arg8 arg9 x2 x3 x4,
    kernelRun0_A.sl.v835 c arg3 harg3 arg4 harg4 arg5 harg5 arg8 arg9 x2 x3 x4,
    kernelRun0_A.sl.v843 c arg3 harg3 arg4 harg4 arg5 harg5 arg8 arg9 x2 x3 x4,
    kernelRun0_A.sl.v851 c arg3 harg3 arg4 harg4 arg5 harg5 arg8 arg9 x2 x3 x4,
    kernelRun0_A.sl.v859 c arg3 harg3 arg4 harg4 arg5 harg5 arg8 arg9 x2 x3 x4,
    kernelRun0_A.sl.v867 c arg3 harg3 arg4 harg4 arg5 harg5 arg8 arg9 x2 x3 x4,
    kernelRun0_A.sl.v875 c arg3 harg3 arg4 harg4 arg5 harg5 arg8 arg9 x2 x3 x4,
    kernelRun0_A.sl.v883 c arg3 harg3 arg4 harg4 arg5 harg5 arg8 arg9 x2 x3 x4,
    kernelRun0_A.sl.v891 c arg3 harg3 arg4 harg4 arg5 harg5 arg8 arg9 x2 x3 x4,
    kernelRun0_A.sl.v899 c arg3 harg3 arg4 harg4 arg5 harg5 arg8 arg9 x2 x3 x4,
    kernelRun0_A.sl.v907 c arg3 harg3 arg4 harg4 arg5 harg5 arg8 arg9 x2 x3 x4,
    kernelRun0_A.sl.v915 c arg3 harg3 arg4 harg4 arg5 harg5 arg8 arg9 x2 x3 x4,
    kernelRun0_A.sl.v923 c arg3 harg3 arg4 harg4 arg5 harg5 arg8 arg9 x2 x3 x4,
    kernelRun0_A.sl.v931 c arg3 harg3 arg4 harg4 arg5 harg5 arg8 arg9 x2 x3 x4,
    kernelRun0_A.sl.v939 c arg3 harg3 arg4 harg4 arg5 harg5 arg8 arg9 x2 x3 x4,
    kernelRun0_A.sl.v947 c arg3 harg3 arg4 harg4 arg5 harg5 arg8 arg9 x2 x3 x4,
    kernelRun0_A.sl.v955 c arg3 harg3 arg4 harg4 arg5 harg5 arg8 arg9 x2 x3 x4,
    kernelRun0_A.sl.v963 c arg3 harg3 arg4 harg4 arg5 harg5 arg8 arg9 x2 x3 x4,
    kernelRun0_A.sl.v971 c arg3 harg3 arg4 harg4 arg5 harg5 arg8 arg9 x2 x3 x4,
    kernelRun0_A.sl.v979 c arg3 harg3 arg4 harg4 arg5 harg5 arg8 arg9 x2 x3 x4,
    kernelRun0_A.sl.v987 c arg3 harg3 arg4 harg4 arg5 harg5 arg8 arg9 x2 x3 x4,
    kernelRun0_A.sl.v995 c arg3 harg3 arg4 harg4 arg5 harg5 arg8 arg9 x2 x3 x4,
    kernelRun0_A.sl.v1003 c arg3 harg3 arg4 harg4 arg5 harg5 arg8 arg9 x2 x3 x4,
    kernelRun0_A.sl.v1011 c arg3 harg3 arg4 harg4 arg5 harg5 arg8 arg9 x2 x3 x4,
    kernelRun0_A.sl.v1019 c arg3 harg3 arg4 harg4 arg5 harg5 arg8 arg9 x2 x3 x4,
    kernelRun0_A.sl.v1027 c arg3 harg3 arg4 harg4 arg5 harg5 arg8 arg9 x2 x3 x4]

/-- The scores. -/
def sc : ℕ → V := nth [kernelRun0_A.sl.r_59 c arg1 harg1 arg3 harg3 arg4 harg4 arg5 harg5 arg8 arg9 x0 x2 x3 x4,
    kernelRun0_A.sl.r_61 c arg1 harg1 arg3 harg3 arg4 harg4 arg5 harg5 arg8 arg9 x0 x2 x3 x4,
    kernelRun0_A.sl.r_63 c arg1 harg1 arg3 harg3 arg4 harg4 arg5 harg5 arg8 arg9 x0 x2 x3 x4,
    kernelRun0_A.sl.r_65 c arg1 harg1 arg3 harg3 arg4 harg4 arg5 harg5 arg8 arg9 x0 x2 x3 x4,
    kernelRun0_A.sl.r_77 c arg1 harg1 arg3 harg3 arg4 harg4 arg5 harg5 arg8 arg9 x0 x2 x3 x4,
    kernelRun0_A.sl.r_79 c arg1 harg1 arg3 harg3 arg4 harg4 arg5 harg5 arg8 arg9 x0 x2 x3 x4,
    kernelRun0_A.sl.r_81 c arg1 harg1 arg3 harg3 arg4 harg4 arg5 harg5 arg8 arg9 x0 x2 x3 x4,
    kernelRun0_A.sl.r_83 c arg1 harg1 arg3 harg3 arg4 harg4 arg5 harg5 arg8 arg9 x0 x2 x3 x4,
    kernelRun0_A.sl.r_85 c arg1 harg1 arg3 harg3 arg4 harg4 arg5 harg5 arg8 arg9 x0 x2 x3 x4,
    kernelRun0_A.sl.r_97 c arg1 harg1 arg3 harg3 arg4 harg4 arg5 harg5 arg8 arg9 x0 x2 x3 x4,
    kernelRun0_A.sl.r_99 c arg1 harg1 arg3 harg3 arg4 harg4 arg5 harg5 arg8 arg9 x0 x2 x3 x4,
    kernelRun0_A.sl.r_101 c arg1 harg1 arg3 harg3 arg4 harg4 arg5 harg5 arg8 arg9 x0 x2 x3 x4,
    kernelRun0_A.sl.r_103 c arg1 harg1 arg3 harg3 arg4 harg4 arg5 harg5 arg8 arg9 x0 x2 x3 x4,
    kernelRun0_A.sl.r_105 c arg1 harg1 arg3 harg3 arg4 harg4 arg5 harg5 arg8 arg9 x0 x2 x3 x4,
    kernelRun0_A.sl.r_117 c arg1 harg1 arg3 harg3 arg4 harg4 arg5 harg5 arg8 arg9 x0 x2 x3 x4,
    kernelRun0_A.sl.r_119 c arg1 harg1 arg3 harg3 arg4 harg4 arg5 harg5 arg8 arg9 x0 x2 x3 x4,
    kernelRun0_A.sl.r_121 c arg1 harg1 arg3 harg3 arg4 harg4 arg5 harg5 arg8 arg9 x0 x2 x3 x4,
    kernelRun0_A.sl.r_123 c arg1 harg1 arg3 harg3 arg4 harg4 arg5 harg5 arg8 arg9 x0 x2 x3 x4,
    kernelRun0_A.sl.r_125 c arg1 harg1 arg3 harg3 arg4 harg4 arg5 harg5 arg8 arg9 x0 x2 x3 x4,
    kernelRun0_A.sl.r_137 c arg1 harg1 arg3 harg3 arg4 harg4 arg5 harg5 arg8 arg9 x0 x2 x3 x4,
    kernelRun0_A.sl.r_139 c arg1 harg1 arg3 harg3 arg4 harg4 arg5 harg5 arg8 arg9 x0 x2 x3 x4,
    kernelRun0_A.sl.r_141 c arg1 harg1 arg3 harg3 arg4 harg4 arg5 harg5 arg8 arg9 x0 x2 x3 x4,
    kernelRun0_A.sl.r_143 c arg1 harg1 arg3 harg3 arg4 harg4 arg5 harg5 arg8 arg9 x0 x2 x3 x4,
    kernelRun0_A.sl.r_145 c arg1 harg1 arg3 harg3 arg4 harg4 arg5 harg5 arg8 arg9 x0 x2 x3 x4,
    kernelRun0_A.sl.r_157 c arg1 harg1 arg3 harg3 arg4 harg4 arg5 harg5 arg8 arg9 x0 x2 x3 x4,
    kernelRun0_A.sl.r_159 c arg1 harg1 arg3 harg3 arg4 harg4 arg5 harg5 arg8 arg9 x0 x2 x3 x4,
    kernelRun0_A.sl.r_161 c arg1 harg1 arg3 harg3 arg4 harg4 arg5 harg5 arg8 arg9 x0 x2 x3 x4,
    kernelRun0_A.sl.r_163 c arg1 harg1 arg3 harg3 arg4 harg4 arg5 harg5 arg8 arg9 x0 x2 x3 x4,
    kernelRun0_A.sl.r_165 c arg1 harg1 arg3 harg3 arg4 harg4 arg5 harg5 arg8 arg9 x0 x2 x3 x4,
    kernelRun0_A.sl.r_174 c arg1 harg1 arg3 harg3 arg4 harg4 arg5 harg5 arg8 arg9 x0 x2 x3 x4,
    kernelRun0_A.sl.r_176 c arg1 harg1 arg3 harg3 arg4 harg4 arg5 harg5 arg8 arg9 x0 x2 x3 x4,
    kernelRun0_A.sl.r_178 c arg1 harg1 arg3 harg3 arg4 harg4 arg5 harg5 arg8 arg9 x0 x2 x3 x4]

/-- The scores with their biases. -/
def ch : ℕ → V := nth [kernelRun0_A.sl.r_60 c arg1 harg1 arg2 harg2 arg3 harg3 arg4 harg4 arg5 harg5 arg8 arg9 x0 x1 x2 x3 x4,
    kernelRun0_A.sl.r_62 c arg1 harg1 arg2 harg2 arg3 harg3 arg4 harg4 arg5 harg5 arg8 arg9 x0 x1 x2 x3 x4,
    kernelRun0_A.sl.r_64 c arg1 harg1 arg2 harg2 arg3 harg3 arg4 harg4 arg5 harg5 arg8 arg9 x0 x1 x2 x3 x4,
    kernelRun0_A.sl.r_76 c arg1 harg1 arg2 harg2 arg3 harg3 arg4 harg4 arg5 harg5 arg8 arg9 x0 x1 x2 x3 x4,
    kernelRun0_A.sl.r_78 c arg1 harg1 arg2 harg2 arg3 harg3 arg4 harg4 arg5 harg5 arg8 arg9 x0 x1 x2 x3 x4,
    kernelRun0_A.sl.r_80 c arg1 harg1 arg2 harg2 arg3 harg3 arg4 harg4 arg5 harg5 arg8 arg9 x0 x1 x2 x3 x4,
    kernelRun0_A.sl.r_82 c arg1 harg1 arg2 harg2 arg3 harg3 arg4 harg4 arg5 harg5 arg8 arg9 x0 x1 x2 x3 x4,
    kernelRun0_A.sl.r_84 c arg1 harg1 arg2 harg2 arg3 harg3 arg4 harg4 arg5 harg5 arg8 arg9 x0 x1 x2 x3 x4,
    kernelRun0_A.sl.r_96 c arg1 harg1 arg2 harg2 arg3 harg3 arg4 harg4 arg5 harg5 arg8 arg9 x0 x1 x2 x3 x4,
    kernelRun0_A.sl.r_98 c arg1 harg1 arg2 harg2 arg3 harg3 arg4 harg4 arg5 harg5 arg8 arg9 x0 x1 x2 x3 x4,
    kernelRun0_A.sl.r_100 c arg1 harg1 arg2 harg2 arg3 harg3 arg4 harg4 arg5 harg5 arg8 arg9 x0 x1 x2 x3 x4,
    kernelRun0_A.sl.r_102 c arg1 harg1 arg2 harg2 arg3 harg3 arg4 harg4 arg5 harg5 arg8 arg9 x0 x1 x2 x3 x4,
    kernelRun0_A.sl.r_104 c arg1 harg1 arg2 harg2 arg3 harg3 arg4 harg4 arg5 harg5 arg8 arg9 x0 x1 x2 x3 x4,
    kernelRun0_A.sl.r_116 c arg1 harg1 arg2 harg2 arg3 harg3 arg4 harg4 arg5 harg5 arg8 arg9 x0 x1 x2 x3 x4,
    kernelRun0_A.sl.r_118 c arg1 harg1 arg2 harg2 arg3 harg3 arg4 harg4 arg5 harg5 arg8 arg9 x0 x1 x2 x3 x4,
    kernelRun0_A.sl.r_120 c arg1 harg1 arg2 harg2 arg3 harg3 arg4 harg4 arg5 harg5 arg8 arg9 x0 x1 x2 x3 x4,
    kernelRun0_A.sl.r_122 c arg1 harg1 arg2 harg2 arg3 harg3 arg4 harg4 arg5 harg5 arg8 arg9 x0 x1 x2 x3 x4,
    kernelRun0_A.sl.r_124 c arg1 harg1 arg2 harg2 arg3 harg3 arg4 harg4 arg5 harg5 arg8 arg9 x0 x1 x2 x3 x4,
    kernelRun0_A.sl.r_136 c arg1 harg1 arg2 harg2 arg3 harg3 arg4 harg4 arg5 harg5 arg8 arg9 x0 x1 x2 x3 x4,
    kernelRun0_A.sl.r_138 c arg1 harg1 arg2 harg2 arg3 harg3 arg4 harg4 arg5 harg5 arg8 arg9 x0 x1 x2 x3 x4,
    kernelRun0_A.sl.r_140 c arg1 harg1 arg2 harg2 arg3 harg3 arg4 harg4 arg5 harg5 arg8 arg9 x0 x1 x2 x3 x4,
    kernelRun0_A.sl.r_142 c arg1 harg1 arg2 harg2 arg3 harg3 arg4 harg4 arg5 harg5 arg8 arg9 x0 x1 x2 x3 x4,
    kernelRun0_A.sl.r_144 c arg1 harg1 arg2 harg2 arg3 harg3 arg4 harg4 arg5 harg5 arg8 arg9 x0 x1 x2 x3 x4,
    kernelRun0_A.sl.r_156 c arg1 harg1 arg2 harg2 arg3 harg3 arg4 harg4 arg5 harg5 arg8 arg9 x0 x1 x2 x3 x4,
    kernelRun0_A.sl.r_158 c arg1 harg1 arg2 harg2 arg3 harg3 arg4 harg4 arg5 harg5 arg8 arg9 x0 x1 x2 x3 x4,
    kernelRun0_A.sl.r_160 c arg1 harg1 arg2 harg2 arg3 harg3 arg4 harg4 arg5 harg5 arg8 arg9 x0 x1 x2 x3 x4,
    kernelRun0_A.sl.r_162 c arg1 harg1 arg2 harg2 arg3 harg3 arg4 harg4 arg5 harg5 arg8 arg9 x0 x1 x2 x3 x4,
    kernelRun0_A.sl.r_164 c arg1 harg1 arg2 harg2 arg3 harg3 arg4 harg4 arg5 harg5 arg8 arg9 x0 x1 x2 x3 x4,
    kernelRun0_A.sl.r_173 c arg1 harg1 arg2 harg2 arg3 harg3 arg4 harg4 arg5 harg5 arg8 arg9 x0 x1 x2 x3 x4,
    kernelRun0_A.sl.r_175 c arg1 harg1 arg2 harg2 arg3 harg3 arg4 harg4 arg5 harg5 arg8 arg9 x0 x1 x2 x3 x4,
    kernelRun0_A.sl.r_177 c arg1 harg1 arg2 harg2 arg3 harg3 arg4 harg4 arg5 harg5 arg8 arg9 x0 x1 x2 x3 x4,
    kernelRun0_A.sl.r_179 c arg1 harg1 arg2 harg2 arg3 harg3 arg4 harg4 arg5 harg5 arg8 arg9 x0 x1 x2 x3 x4]

/-- The sums of each group's two best. -/
def gr : ℕ → V := nth [kernelRun0_A.sl.r_180 c arg1 harg1 arg2 harg2 arg3 harg3 arg4 harg4 arg5 harg5 arg8 arg9 x0 x1 x2 x3 x4,
    kernelRun0_A.sl.r_181 c arg1 harg1 arg2 harg2 arg3 harg3 arg4 harg4 arg5 harg5 arg8 arg9 x0 x1 x2 x3 x4,
    kernelRun0_A.sl.r_185 c arg1 harg1 arg2 harg2 arg3 harg3 arg4 harg4 arg5 harg5 arg8 arg9 x0 x1 x2 x3 x4,
    kernelRun0_A.sl.r_186 c arg1 harg1 arg2 harg2 arg3 harg3 arg4 harg4 arg5 harg5 arg8 arg9 x0 x1 x2 x3 x4,
    kernelRun0_A.sl.r_187 c arg1 harg1 arg2 harg2 arg3 harg3 arg4 harg4 arg5 harg5 arg8 arg9 x0 x1 x2 x3 x4,
    kernelRun0_A.sl.r_188 c arg1 harg1 arg2 harg2 arg3 harg3 arg4 harg4 arg5 harg5 arg8 arg9 x0 x1 x2 x3 x4,
    kernelRun0_A.sl.r_189 c arg1 harg1 arg2 harg2 arg3 harg3 arg4 harg4 arg5 harg5 arg8 arg9 x0 x1 x2 x3 x4,
    kernelRun0_A.sl.r_190 c arg1 harg1 arg2 harg2 arg3 harg3 arg4 harg4 arg5 harg5 arg8 arg9 x0 x1 x2 x3 x4]

/-- The ranks of the groups. -/
def rk : ℕ → VI := nth [kernelRun0_A.sl.r_198 c arg1 harg1 arg2 harg2 arg3 harg3 arg4 harg4 arg5 harg5 arg8 arg9 x0 x1 x2 x3 x4,
    kernelRun0_A.sl.r_199 c arg1 harg1 arg2 harg2 arg3 harg3 arg4 harg4 arg5 harg5 arg8 arg9 x0 x1 x2 x3 x4,
    kernelRun0_A.sl.r_200 c arg1 harg1 arg2 harg2 arg3 harg3 arg4 harg4 arg5 harg5 arg8 arg9 x0 x1 x2 x3 x4,
    kernelRun0_A.sl.r_201 c arg1 harg1 arg2 harg2 arg3 harg3 arg4 harg4 arg5 harg5 arg8 arg9 x0 x1 x2 x3 x4,
    kernelRun0_A.sl.r_202 c arg1 harg1 arg2 harg2 arg3 harg3 arg4 harg4 arg5 harg5 arg8 arg9 x0 x1 x2 x3 x4,
    kernelRun0_A.sl.r_203 c arg1 harg1 arg2 harg2 arg3 harg3 arg4 harg4 arg5 harg5 arg8 arg9 x0 x1 x2 x3 x4,
    kernelRun0_A.sl.r_205 c arg1 harg1 arg2 harg2 arg3 harg3 arg4 harg4 arg5 harg5 arg8 arg9 x0 x1 x2 x3 x4,
    kernelRun0_A.sl.r_204 c arg1 harg1 arg2 harg2 arg3 harg3 arg4 harg4 arg5 harg5 arg8 arg9 x0 x1 x2 x3 x4]

/-- What the first round chooses among. -/
def m0 : ℕ → V := nth [kernelRun0_A.sl.r_213 c arg1 harg1 arg2 harg2 arg3 harg3 arg4 harg4 arg5 harg5 arg8 arg9 x0 x1 x2 x3 x4,
    kernelRun0_A.sl.r_214 c arg1 harg1 arg2 harg2 arg3 harg3 arg4 harg4 arg5 harg5 arg8 arg9 x0 x1 x2 x3 x4,
    kernelRun0_A.sl.r_215 c arg1 harg1 arg2 harg2 arg3 harg3 arg4 harg4 arg5 harg5 arg8 arg9 x0 x1 x2 x3 x4,
    kernelRun0_A.sl.r_216 c arg1 harg1 arg2 harg2 arg3 harg3 arg4 harg4 arg5 harg5 arg8 arg9 x0 x1 x2 x3 x4,
    kernelRun0_A.sl.r_217 c arg1 harg1 arg2 harg2 arg3 harg3 arg4 harg4 arg5 harg5 arg8 arg9 x0 x1 x2 x3 x4,
    kernelRun0_A.sl.r_218 c arg1 harg1 arg2 harg2 arg3 harg3 arg4 harg4 arg5 harg5 arg8 arg9 x0 x1 x2 x3 x4,
    kernelRun0_A.sl.r_219 c arg1 harg1 arg2 harg2 arg3 harg3 arg4 harg4 arg5 harg5 arg8 arg9 x0 x1 x2 x3 x4,
    kernelRun0_A.sl.r_220 c arg1 harg1 arg2 harg2 arg3 harg3 arg4 harg4 arg5 harg5 arg8 arg9 x0 x1 x2 x3 x4,
    kernelRun0_A.sl.r_221 c arg1 harg1 arg2 harg2 arg3 harg3 arg4 harg4 arg5 harg5 arg8 arg9 x0 x1 x2 x3 x4,
    kernelRun0_A.sl.r_222 c arg1 harg1 arg2 harg2 arg3 harg3 arg4 harg4 arg5 harg5 arg8 arg9 x0 x1 x2 x3 x4,
    kernelRun0_A.sl.r_223 c arg1 harg1 arg2 harg2 arg3 harg3 arg4 harg4 arg5 harg5 arg8 arg9 x0 x1 x2 x3 x4,
    kernelRun0_A.sl.r_224 c arg1 harg1 arg2 harg2 arg3 harg3 arg4 harg4 arg5 harg5 arg8 arg9 x0 x1 x2 x3 x4,
    kernelRun0_A.sl.r_225 c arg1 harg1 arg2 harg2 arg3 harg3 arg4 harg4 arg5 harg5 arg8 arg9 x0 x1 x2 x3 x4,
    kernelRun0_A.sl.r_226 c arg1 harg1 arg2 harg2 arg3 harg3 arg4 harg4 arg5 harg5 arg8 arg9 x0 x1 x2 x3 x4,
    kernelRun0_A.sl.r_227 c arg1 harg1 arg2 harg2 arg3 harg3 arg4 harg4 arg5 harg5 arg8 arg9 x0 x1 x2 x3 x4,
    kernelRun0_A.sl.r_228 c arg1 harg1 arg2 harg2 arg3 harg3 arg4 harg4 arg5 harg5 arg8 arg9 x0 x1 x2 x3 x4,
    kernelRun0_A.sl.r_229 c arg1 harg1 arg2 harg2 arg3 harg3 arg4 harg4 arg5 harg5 arg8 arg9 x0 x1 x2 x3 x4,
    kernelRun0_A.sl.r_230 c arg1 harg1 arg2 harg2 arg3 harg3 arg4 harg4 arg5 harg5 arg8 arg9 x0 x1 x2 x3 x4,
    kernelRun0_A.sl.r_231 c arg1 harg1 arg2 harg2 arg3 harg3 arg4 harg4 arg5 harg5 arg8 arg9 x0 x1 x2 x3 x4,
    kernelRun0_A.sl.r_232 c arg1 harg1 arg2 harg2 arg3 harg3 arg4 harg4 arg5 harg5 arg8 arg9 x0 x1 x2 x3 x4,
    kernelRun0_A.sl.r_233 c arg1 harg1 arg2 harg2 arg3 harg3 arg4 harg4 arg5 harg5 arg8 arg9 x0 x1 x2 x3 x4,
    kernelRun0_A.sl.r_234 c arg1 harg1 arg2 harg2 arg3 harg3 arg4 harg4 arg5 harg5 arg8 arg9 x0 x1 x2 x3 x4,
    kernelRun0_A.sl.r_235 c arg1 harg1 arg2 harg2 arg3 harg3 arg4 harg4 arg5 harg5 arg8 arg9 x0 x1 x2 x3 x4,
    kernelRun0_A.sl.r_236 c arg1 harg1 arg2 harg2 arg3 harg3 arg4 harg4 arg5 harg5 arg8 arg9 x0 x1 x2 x3 x4,
    kernelRun0_A.sl.r_237 c arg1 harg1 arg2 harg2 arg3 harg3 arg4 harg4 arg5 harg5 arg8 arg9 x0 x1 x2 x3 x4,
    kernelRun0_A.sl.r_238 c arg1 harg1 arg2 harg2 arg3 harg3 arg4 harg4 arg5 harg5 arg8 arg9 x0 x1 x2 x3 x4,
    kernelRun0_A.sl.r_239 c arg1 harg1 arg2 harg2 arg3 harg3 arg4 harg4 arg5 harg5 arg8 arg9 x0 x1 x2 x3 x4,
    kernelRun0_A.sl.r_240 c arg1 harg1 arg2 harg2 arg3 harg3 arg4 harg4 arg5 harg5 arg8 arg9 x0 x1 x2 x3 x4,
    kernelRun0_A.sl.r_241 c arg1 harg1 arg2 harg2 arg3 harg3 arg4 harg4 arg5 harg5 arg8 arg9 x0 x1 x2 x3 x4,
    kernelRun0_A.sl.r_242 c arg1 harg1 arg2 harg2 arg3 harg3 arg4 harg4 arg5 harg5 arg8 arg9 x0 x1 x2 x3 x4,
    kernelRun0_A.sl.r_243 c arg1 harg1 arg2 harg2 arg3 harg3 arg4 harg4 arg5 harg5 arg8 arg9 x0 x1 x2 x3 x4,
    kernelRun0_A.sl.r_244 c arg1 harg1 arg2 harg2 arg3 harg3 arg4 harg4 arg5 harg5 arg8 arg9 x0 x1 x2 x3 x4]

/-- What the second round chooses among. -/
def m1 : ℕ → V := nth [kernelRun0_A.sl.r_300 c arg1 harg1 arg2 harg2 arg3 harg3 arg4 harg4 arg5 harg5 arg8 arg9 x0 x1 x2 x3 x4,
    kernelRun0_A.sl.r_301 c arg1 harg1 arg2 harg2 arg3 harg3 arg4 harg4 arg5 harg5 arg8 arg9 x0 x1 x2 x3 x4,
    kernelRun0_A.sl.r_302 c arg1 harg1 arg2 harg2 arg3 harg3 arg4 harg4 arg5 harg5 arg8 arg9 x0 x1 x2 x3 x4,
    kernelRun0_A.sl.r_303 c arg1 harg1 arg2 harg2 arg3 harg3 arg4 harg4 arg5 harg5 arg8 arg9 x0 x1 x2 x3 x4,
    kernelRun0_A.sl.r_304 c arg1 harg1 arg2 harg2 arg3 harg3 arg4 harg4 arg5 harg5 arg8 arg9 x0 x1 x2 x3 x4,
    kernelRun0_A.sl.r_305 c arg1 harg1 arg2 harg2 arg3 harg3 arg4 harg4 arg5 harg5 arg8 arg9 x0 x1 x2 x3 x4,
    kernelRun0_A.sl.r_306 c arg1 harg1 arg2 harg2 arg3 harg3 arg4 harg4 arg5 harg5 arg8 arg9 x0 x1 x2 x3 x4,
    kernelRun0_A.sl.r_307 c arg1 harg1 arg2 harg2 arg3 harg3 arg4 harg4 arg5 harg5 arg8 arg9 x0 x1 x2 x3 x4,
    kernelRun0_A.sl.r_308 c arg1 harg1 arg2 harg2 arg3 harg3 arg4 harg4 arg5 harg5 arg8 arg9 x0 x1 x2 x3 x4,
    kernelRun0_A.sl.r_309 c arg1 harg1 arg2 harg2 arg3 harg3 arg4 harg4 arg5 harg5 arg8 arg9 x0 x1 x2 x3 x4,
    kernelRun0_A.sl.r_310 c arg1 harg1 arg2 harg2 arg3 harg3 arg4 harg4 arg5 harg5 arg8 arg9 x0 x1 x2 x3 x4,
    kernelRun0_A.sl.r_311 c arg1 harg1 arg2 harg2 arg3 harg3 arg4 harg4 arg5 harg5 arg8 arg9 x0 x1 x2 x3 x4,
    kernelRun0_A.sl.r_312 c arg1 harg1 arg2 harg2 arg3 harg3 arg4 harg4 arg5 harg5 arg8 arg9 x0 x1 x2 x3 x4,
    kernelRun0_A.sl.r_313 c arg1 harg1 arg2 harg2 arg3 harg3 arg4 harg4 arg5 harg5 arg8 arg9 x0 x1 x2 x3 x4,
    kernelRun0_A.sl.r_314 c arg1 harg1 arg2 harg2 arg3 harg3 arg4 harg4 arg5 harg5 arg8 arg9 x0 x1 x2 x3 x4,
    kernelRun0_A.sl.r_315 c arg1 harg1 arg2 harg2 arg3 harg3 arg4 harg4 arg5 harg5 arg8 arg9 x0 x1 x2 x3 x4,
    kernelRun0_A.sl.r_316 c arg1 harg1 arg2 harg2 arg3 harg3 arg4 harg4 arg5 harg5 arg8 arg9 x0 x1 x2 x3 x4,
    kernelRun0_A.sl.r_317 c arg1 harg1 arg2 harg2 arg3 harg3 arg4 harg4 arg5 harg5 arg8 arg9 x0 x1 x2 x3 x4,
    kernelRun0_A.sl.r_318 c arg1 harg1 arg2 harg2 arg3 harg3 arg4 harg4 arg5 harg5 arg8 arg9 x0 x1 x2 x3 x4,
    kernelRun0_A.sl.r_319 c arg1 harg1 arg2 harg2 arg3 harg3 arg4 harg4 arg5 harg5 arg8 arg9 x0 x1 x2 x3 x4,
    kernelRun0_A.sl.r_320 c arg1 harg1 arg2 harg2 arg3 harg3 arg4 harg4 arg5 harg5 arg8 arg9 x0 x1 x2 x3 x4,
    kernelRun0_A.sl.r_321 c arg1 harg1 arg2 harg2 arg3 harg3 arg4 harg4 arg5 harg5 arg8 arg9 x0 x1 x2 x3 x4,
    kernelRun0_A.sl.r_322 c arg1 harg1 arg2 harg2 arg3 harg3 arg4 harg4 arg5 harg5 arg8 arg9 x0 x1 x2 x3 x4,
    kernelRun0_A.sl.r_323 c arg1 harg1 arg2 harg2 arg3 harg3 arg4 harg4 arg5 harg5 arg8 arg9 x0 x1 x2 x3 x4,
    kernelRun0_A.sl.r_324 c arg1 harg1 arg2 harg2 arg3 harg3 arg4 harg4 arg5 harg5 arg8 arg9 x0 x1 x2 x3 x4,
    kernelRun0_A.sl.r_325 c arg1 harg1 arg2 harg2 arg3 harg3 arg4 harg4 arg5 harg5 arg8 arg9 x0 x1 x2 x3 x4,
    kernelRun0_A.sl.r_326 c arg1 harg1 arg2 harg2 arg3 harg3 arg4 harg4 arg5 harg5 arg8 arg9 x0 x1 x2 x3 x4,
    kernelRun0_A.sl.r_327 c arg1 harg1 arg2 harg2 arg3 harg3 arg4 harg4 arg5 harg5 arg8 arg9 x0 x1 x2 x3 x4,
    kernelRun0_A.sl.r_328 c arg1 harg1 arg2 harg2 arg3 harg3 arg4 harg4 arg5 harg5 arg8 arg9 x0 x1 x2 x3 x4,
    kernelRun0_A.sl.r_329 c arg1 harg1 arg2 harg2 arg3 harg3 arg4 harg4 arg5 harg5 arg8 arg9 x0 x1 x2 x3 x4,
    kernelRun0_A.sl.r_330 c arg1 harg1 arg2 harg2 arg3 harg3 arg4 harg4 arg5 harg5 arg8 arg9 x0 x1 x2 x3 x4,
    kernelRun0_A.sl.r_331 c arg1 harg1 arg2 harg2 arg3 harg3 arg4 harg4 arg5 harg5 arg8 arg9 x0 x1 x2 x3 x4]

/-- What the third round chooses among. -/
def m2 : ℕ → V := nth [kernelRun0_A.sl.r_385 c arg1 harg1 arg2 harg2 arg3 harg3 arg4 harg4 arg5 harg5 arg8 arg9 x0 x1 x2 x3 x4,
    kernelRun0_A.sl.r_386 c arg1 harg1 arg2 harg2 arg3 harg3 arg4 harg4 arg5 harg5 arg8 arg9 x0 x1 x2 x3 x4,
    kernelRun0_A.sl.r_387 c arg1 harg1 arg2 harg2 arg3 harg3 arg4 harg4 arg5 harg5 arg8 arg9 x0 x1 x2 x3 x4,
    kernelRun0_A.sl.r_388 c arg1 harg1 arg2 harg2 arg3 harg3 arg4 harg4 arg5 harg5 arg8 arg9 x0 x1 x2 x3 x4,
    kernelRun0_A.sl.r_389 c arg1 harg1 arg2 harg2 arg3 harg3 arg4 harg4 arg5 harg5 arg8 arg9 x0 x1 x2 x3 x4,
    kernelRun0_A.sl.r_390 c arg1 harg1 arg2 harg2 arg3 harg3 arg4 harg4 arg5 harg5 arg8 arg9 x0 x1 x2 x3 x4,
    kernelRun0_A.sl.r_391 c arg1 harg1 arg2 harg2 arg3 harg3 arg4 harg4 arg5 harg5 arg8 arg9 x0 x1 x2 x3 x4,
    kernelRun0_A.sl.r_392 c arg1 harg1 arg2 harg2 arg3 harg3 arg4 harg4 arg5 harg5 arg8 arg9 x0 x1 x2 x3 x4,
    kernelRun0_A.sl.r_393 c arg1 harg1 arg2 harg2 arg3 harg3 arg4 harg4 arg5 harg5 arg8 arg9 x0 x1 x2 x3 x4,
    kernelRun0_A.sl.r_395 c arg1 harg1 arg2 harg2 arg3 harg3 arg4 harg4 arg5 harg5 arg8 arg9 x0 x1 x2 x3 x4,
    kernelRun0_A.sl.r_396 c arg1 harg1 arg2 harg2 arg3 harg3 arg4 harg4 arg5 harg5 arg8 arg9 x0 x1 x2 x3 x4,
    kernelRun0_A.sl.r_397 c arg1 harg1 arg2 harg2 arg3 harg3 arg4 harg4 arg5 harg5 arg8 arg9 x0 x1 x2 x3 x4,
    kernelRun0_A.sl.r_398 c arg1 harg1 arg2 harg2 arg3 harg3 arg4 harg4 arg5 harg5 arg8 arg9 x0 x1 x2 x3 x4,
    kernelRun0_A.sl.r_399 c arg1 harg1 arg2 harg2 arg3 harg3 arg4 harg4 arg5 harg5 arg8 arg9 x0 x1 x2 x3 x4,
    kernelRun0_A.sl.r_400 c arg1 harg1 arg2 harg2 arg3 harg3 arg4 harg4 arg5 harg5 arg8 arg9 x0 x1 x2 x3 x4,
    kernelRun0_A.sl.r_401 c arg1 harg1 arg2 harg2 arg3 harg3 arg4 harg4 arg5 harg5 arg8 arg9 x0 x1 x2 x3 x4,
    kernelRun0_A.sl.r_402 c arg1 harg1 arg2 harg2 arg3 harg3 arg4 harg4 arg5 harg5 arg8 arg9 x0 x1 x2 x3 x4,
    kernelRun0_A.sl.r_403 c arg1 harg1 arg2 harg2 arg3 harg3 arg4 harg4 arg5 harg5 arg8 arg9 x0 x1 x2 x3 x4,
    kernelRun0_A.sl.r_404 c arg1 harg1 arg2 harg2 arg3 harg3 arg4 harg4 arg5 harg5 arg8 arg9 x0 x1 x2 x3 x4,
    kernelRun0_A.sl.r_406 c arg1 harg1 arg2 harg2 arg3 harg3 arg4 harg4 arg5 harg5 arg8 arg9 x0 x1 x2 x3 x4,
    kernelRun0_A.sl.r_407 c arg1 harg1 arg2 harg2 arg3 harg3 arg4 harg4 arg5 harg5 arg8 arg9 x0 x1 x2 x3 x4,
    kernelRun0_A.sl.r_408 c arg1 harg1 arg2 harg2 arg3 harg3 arg4 harg4 arg5 harg5 arg8 arg9 x0 x1 x2 x3 x4,
    kernelRun0_A.sl.r_409 c arg1 harg1 arg2 harg2 arg3 harg3 arg4 harg4 arg5 harg5 arg8 arg9 x0 x1 x2 x3 x4,
    kernelRun0_A.sl.r_410 c arg1 harg1 arg2 harg2 arg3 harg3 arg4 harg4 arg5 harg5 arg8 arg9 x0 x1 x2 x3 x4,
    kernelRun0_A.sl.r_411 c arg1 harg1 arg2 harg2 arg3 harg3 arg4 harg4 arg5 harg5 arg8 arg9 x0 x1 x2 x3 x4,
    kernelRun0_A.sl.r_412 c arg1 harg1 arg2 harg2 arg3 harg3 arg4 harg4 arg5 harg5 arg8 arg9 x0 x1 x2 x3 x4,
    kernelRun0_A.sl.r_413 c arg1 harg1 arg2 harg2 arg3 harg3 arg4 harg4 arg5 harg5 arg8 arg9 x0 x1 x2 x3 x4,
    kernelRun0_A.sl.r_414 c arg1 harg1 arg2 harg2 arg3 harg3 arg4 harg4 arg5 harg5 arg8 arg9 x0 x1 x2 x3 x4,
    kernelRun0_A.sl.r_415 c arg1 harg1 arg2 harg2 arg3 harg3 arg4 harg4 arg5 harg5 arg8 arg9 x0 x1 x2 x3 x4,
    kernelRun0_A.sl.r_417 c arg1 harg1 arg2 harg2 arg3 harg3 arg4 harg4 arg5 harg5 arg8 arg9 x0 x1 x2 x3 x4,
    kernelRun0_A.sl.r_418 c arg1 harg1 arg2 harg2 arg3 harg3 arg4 harg4 arg5 harg5 arg8 arg9 x0 x1 x2 x3 x4,
    kernelRun0_A.sl.r_419 c arg1 harg1 arg2 harg2 arg3 harg3 arg4 harg4 arg5 harg5 arg8 arg9 x0 x1 x2 x3 x4]

/-- What the fourth round chooses among. -/
def m3 : ℕ → V := nth [kernelRun0_A.sl.r_475 c arg1 harg1 arg2 harg2 arg3 harg3 arg4 harg4 arg5 harg5 arg8 arg9 x0 x1 x2 x3 x4,
    kernelRun0_A.sl.r_476 c arg1 harg1 arg2 harg2 arg3 harg3 arg4 harg4 arg5 harg5 arg8 arg9 x0 x1 x2 x3 x4,
    kernelRun0_A.sl.r_477 c arg1 harg1 arg2 harg2 arg3 harg3 arg4 harg4 arg5 harg5 arg8 arg9 x0 x1 x2 x3 x4,
    kernelRun0_A.sl.r_478 c arg1 harg1 arg2 harg2 arg3 harg3 arg4 harg4 arg5 harg5 arg8 arg9 x0 x1 x2 x3 x4,
    kernelRun0_A.sl.r_479 c arg1 harg1 arg2 harg2 arg3 harg3 arg4 harg4 arg5 harg5 arg8 arg9 x0 x1 x2 x3 x4,
    kernelRun0_A.sl.r_480 c arg1 harg1 arg2 harg2 arg3 harg3 arg4 harg4 arg5 harg5 arg8 arg9 x0 x1 x2 x3 x4,
    kernelRun0_A.sl.r_482 c arg1 harg1 arg2 harg2 arg3 harg3 arg4 harg4 arg5 harg5 arg8 arg9 x0 x1 x2 x3 x4,
    kernelRun0_A.sl.r_483 c arg1 harg1 arg2 harg2 arg3 harg3 arg4 harg4 arg5 harg5 arg8 arg9 x0 x1 x2 x3 x4,
    kernelRun0_A.sl.r_484 c arg1 harg1 arg2 harg2 arg3 harg3 arg4 harg4 arg5 harg5 arg8 arg9 x0 x1 x2 x3 x4,
    kernelRun0_A.sl.r_485 c arg1 harg1 arg2 harg2 arg3 harg3 arg4 harg4 arg5 harg5 arg8 arg9 x0 x1 x2 x3 x4,
    kernelRun0_A.sl.r_486 c arg1 harg1 arg2 harg2 arg3 harg3 arg4 harg4 arg5 harg5 arg8 arg9 x0 x1 x2 x3 x4,
    kernelRun0_A.sl.r_487 c arg1 harg1 arg2 harg2 arg3 harg3 arg4 harg4 arg5 harg5 arg8 arg9 x0 x1 x2 x3 x4,
    kernelRun0_A.sl.r_488 c arg1 harg1 arg2 harg2 arg3 harg3 arg4 harg4 arg5 harg5 arg8 arg9 x0 x1 x2 x3 x4,
    kernelRun0_A.sl.r_489 c arg1 harg1 arg2 harg2 arg3 harg3 arg4 harg4 arg5 harg5 arg8 arg9 x0 x1 x2 x3 x4,
    kernelRun0_A.sl.r_490 c arg1 harg1 arg2 harg2 arg3 harg3 arg4 harg4 arg5 harg5 arg8 arg9 x0 x1 x2 x3 x4,
    kernelRun0_A.sl.r_491 c arg1 harg1 arg2 harg2 arg3 harg3 arg4 harg4 arg5 harg5 arg8 arg9 x0 x1 x2 x3 x4,
    kernelRun0_A.sl.r_493 c arg1 harg1 arg2 harg2 arg3 harg3 arg4 harg4 arg5 harg5 arg8 arg9 x0 x1 x2 x3 x4,
    kernelRun0_A.sl.r_494 c arg1 harg1 arg2 harg2 arg3 harg3 arg4 harg4 arg5 harg5 arg8 arg9 x0 x1 x2 x3 x4,
    kernelRun0_A.sl.r_495 c arg1 harg1 arg2 harg2 arg3 harg3 arg4 harg4 arg5 harg5 arg8 arg9 x0 x1 x2 x3 x4,
    kernelRun0_A.sl.r_496 c arg1 harg1 arg2 harg2 arg3 harg3 arg4 harg4 arg5 harg5 arg8 arg9 x0 x1 x2 x3 x4,
    kernelRun0_A.sl.r_497 c arg1 harg1 arg2 harg2 arg3 harg3 arg4 harg4 arg5 harg5 arg8 arg9 x0 x1 x2 x3 x4,
    kernelRun0_A.sl.r_498 c arg1 harg1 arg2 harg2 arg3 harg3 arg4 harg4 arg5 harg5 arg8 arg9 x0 x1 x2 x3 x4,
    kernelRun0_A.sl.r_499 c arg1 harg1 arg2 harg2 arg3 harg3 arg4 harg4 arg5 harg5 arg8 arg9 x0 x1 x2 x3 x4,
    kernelRun0_A.sl.r_500 c arg1 harg1 arg2 harg2 arg3 harg3 arg4 harg4 arg5 harg5 arg8 arg9 x0 x1 x2 x3 x4,
    kernelRun0_A.sl.r_501 c arg1 harg1 arg2 harg2 arg3 harg3 arg4 harg4 arg5 harg5 arg8 arg9 x0 x1 x2 x3 x4,
    kernelRun0_A.sl.r_502 c arg1 harg1 arg2 harg2 arg3 harg3 arg4 harg4 arg5 harg5 arg8 arg9 x0 x1 x2 x3 x4,
    kernelRun0_A.sl.r_504 c arg1 harg1 arg2 harg2 arg3 harg3 arg4 harg4 arg5 harg5 arg8 arg9 x0 x1 x2 x3 x4,
    kernelRun0_A.sl.r_505 c arg1 harg1 arg2 harg2 arg3 harg3 arg4 harg4 arg5 harg5 arg8 arg9 x0 x1 x2 x3 x4,
    kernelRun0_A.sl.r_506 c arg1 harg1 arg2 harg2 arg3 harg3 arg4 harg4 arg5 harg5 arg8 arg9 x0 x1 x2 x3 x4,
    kernelRun0_A.sl.r_507 c arg1 harg1 arg2 harg2 arg3 harg3 arg4 harg4 arg5 harg5 arg8 arg9 x0 x1 x2 x3 x4,
    kernelRun0_A.sl.r_508 c arg1 harg1 arg2 harg2 arg3 harg3 arg4 harg4 arg5 harg5 arg8 arg9 x0 x1 x2 x3 x4,
    kernelRun0_A.sl.r_509 c arg1 harg1 arg2 harg2 arg3 harg3 arg4 harg4 arg5 harg5 arg8 arg9 x0 x1 x2 x3 x4]

theorem sc_eq : ∀ e < 32, sc c arg1 harg1 arg3 harg3 arg4 harg4 arg5 harg5 arg8 arg9 x0 x2 x3 x4 e = vscore (lo c arg3 harg3 arg4 harg4 arg5 harg5 arg8 arg9 x2 x3 x4 e) (x0 (ix1 (Fin.ofNat 32 e))) := by
  intro e he
  interval_cases e <;> simp only [sc, lo, nth, vscore, smem_word, smem_word', Nat.reduceMul, Nat.reduceAdd, Nat.reduceSub, Nat.reduceDiv,
    Nat.reducePow, kernelRun0_A.sl.r_52, kernelRun0_A.sl.r_53, kernelRun0_A.sl.r_54, kernelRun0_A.sl.r_55,
    kernelRun0_A.sl.r_56, kernelRun0_A.sl.r_57, kernelRun0_A.sl.r_58, kernelRun0_A.sl.r_59, kernelRun0_A.sl.r_60,
    kernelRun0_A.sl.r_61, kernelRun0_A.sl.r_62, kernelRun0_A.sl.r_63, kernelRun0_A.sl.r_64, kernelRun0_A.sl.r_65,
    kernelRun0_A.sl.r_66, kernelRun0_A.sl.r_67, kernelRun0_A.sl.r_68, kernelRun0_A.sl.r_69, kernelRun0_A.sl.r_70,
    kernelRun0_A.sl.r_71, kernelRun0_A.sl.r_72, kernelRun0_A.sl.r_73, kernelRun0_A.sl.r_74, kernelRun0_A.sl.r_75,
    kernelRun0_A.sl.r_76, kernelRun0_A.sl.r_77, kernelRun0_A.sl.r_78, kernelRun0_A.sl.r_79, kernelRun0_A.sl.r_80,
    kernelRun0_A.sl.r_81, kernelRun0_A.sl.r_82, kernelRun0_A.sl.r_83, kernelRun0_A.sl.r_84, kernelRun0_A.sl.r_85,
    kernelRun0_A.sl.r_86, kernelRun0_A.sl.r_87, kernelRun0_A.sl.r_88, kernelRun0_A.sl.r_89, kernelRun0_A.sl.r_90,
    kernelRun0_A.sl.r_91, kernelRun0_A.sl.r_92, kernelRun0_A.sl.r_93, kernelRun0_A.sl.r_94, kernelRun0_A.sl.r_95,
    kernelRun0_A.sl.r_96, kernelRun0_A.sl.r_97, kernelRun0_A.sl.r_98, kernelRun0_A.sl.r_99, kernelRun0_A.sl.r_100,
    kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108,
    kernelRun0_A.sl.r_109, kernelRun0_A.sl.r_110, kernelRun0_A.sl.r_111, kernelRun0_A.sl.r_112,
    kernelRun0_A.sl.r_113, kernelRun0_A.sl.r_114, kernelRun0_A.sl.r_115, kernelRun0_A.sl.r_116,
    kernelRun0_A.sl.r_117, kernelRun0_A.sl.r_118, kernelRun0_A.sl.r_119, kernelRun0_A.sl.r_120,
    kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128,
    kernelRun0_A.sl.r_129, kernelRun0_A.sl.r_130, kernelRun0_A.sl.r_131, kernelRun0_A.sl.r_132,
    kernelRun0_A.sl.r_133, kernelRun0_A.sl.r_134, kernelRun0_A.sl.r_135, kernelRun0_A.sl.r_136,
    kernelRun0_A.sl.r_137, kernelRun0_A.sl.r_138, kernelRun0_A.sl.r_139, kernelRun0_A.sl.r_140,
    kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148,
    kernelRun0_A.sl.r_149, kernelRun0_A.sl.r_150, kernelRun0_A.sl.r_151, kernelRun0_A.sl.r_152,
    kernelRun0_A.sl.r_153, kernelRun0_A.sl.r_154, kernelRun0_A.sl.r_155, kernelRun0_A.sl.r_156,
    kernelRun0_A.sl.r_157, kernelRun0_A.sl.r_158, kernelRun0_A.sl.r_159, kernelRun0_A.sl.r_160,
    kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168,
    kernelRun0_A.sl.r_169, kernelRun0_A.sl.r_170, kernelRun0_A.sl.r_171, kernelRun0_A.sl.r_172,
    kernelRun0_A.sl.r_173, kernelRun0_A.sl.r_174, kernelRun0_A.sl.r_175, kernelRun0_A.sl.r_176,
    kernelRun0_A.sl.r_177, kernelRun0_A.sl.r_178, kernelRun0_A.sl.r_179, k0_pay90, k0_pay91, k0_pay92, k0_pay93,
    k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153]

theorem ch_eq : ∀ e < 32, ch c arg1 harg1 arg2 harg2 arg3 harg3 arg4 harg4 arg5 harg5 arg8 arg9 x0 x1 x2 x3 x4 e = vchoice (sc c arg1 harg1 arg3 harg3 arg4 harg4 arg5 harg5 arg8 arg9 x0 x2 x3 x4 e) (x1 (ix1 (Fin.ofNat 32 e))) := by
  intro e he
  interval_cases e <;> simp only [ch, sc, nth, vchoice, smem_word, smem_word', Nat.reduceMul, Nat.reduceAdd, Nat.reduceSub, Nat.reduceDiv,
    Nat.reducePow, kernelRun0_A.sl.r_52, kernelRun0_A.sl.r_53, kernelRun0_A.sl.r_54, kernelRun0_A.sl.r_55,
    kernelRun0_A.sl.r_56, kernelRun0_A.sl.r_57, kernelRun0_A.sl.r_58, kernelRun0_A.sl.r_59, kernelRun0_A.sl.r_60,
    kernelRun0_A.sl.r_61, kernelRun0_A.sl.r_62, kernelRun0_A.sl.r_63, kernelRun0_A.sl.r_64, kernelRun0_A.sl.r_65,
    kernelRun0_A.sl.r_66, kernelRun0_A.sl.r_67, kernelRun0_A.sl.r_68, kernelRun0_A.sl.r_69, kernelRun0_A.sl.r_70,
    kernelRun0_A.sl.r_71, kernelRun0_A.sl.r_72, kernelRun0_A.sl.r_73, kernelRun0_A.sl.r_74, kernelRun0_A.sl.r_75,
    kernelRun0_A.sl.r_76, kernelRun0_A.sl.r_77, kernelRun0_A.sl.r_78, kernelRun0_A.sl.r_79, kernelRun0_A.sl.r_80,
    kernelRun0_A.sl.r_81, kernelRun0_A.sl.r_82, kernelRun0_A.sl.r_83, kernelRun0_A.sl.r_84, kernelRun0_A.sl.r_85,
    kernelRun0_A.sl.r_86, kernelRun0_A.sl.r_87, kernelRun0_A.sl.r_88, kernelRun0_A.sl.r_89, kernelRun0_A.sl.r_90,
    kernelRun0_A.sl.r_91, kernelRun0_A.sl.r_92, kernelRun0_A.sl.r_93, kernelRun0_A.sl.r_94, kernelRun0_A.sl.r_95,
    kernelRun0_A.sl.r_96, kernelRun0_A.sl.r_97, kernelRun0_A.sl.r_98, kernelRun0_A.sl.r_99, kernelRun0_A.sl.r_100,
    kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108,
    kernelRun0_A.sl.r_109, kernelRun0_A.sl.r_110, kernelRun0_A.sl.r_111, kernelRun0_A.sl.r_112,
    kernelRun0_A.sl.r_113, kernelRun0_A.sl.r_114, kernelRun0_A.sl.r_115, kernelRun0_A.sl.r_116,
    kernelRun0_A.sl.r_117, kernelRun0_A.sl.r_118, kernelRun0_A.sl.r_119, kernelRun0_A.sl.r_120,
    kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128,
    kernelRun0_A.sl.r_129, kernelRun0_A.sl.r_130, kernelRun0_A.sl.r_131, kernelRun0_A.sl.r_132,
    kernelRun0_A.sl.r_133, kernelRun0_A.sl.r_134, kernelRun0_A.sl.r_135, kernelRun0_A.sl.r_136,
    kernelRun0_A.sl.r_137, kernelRun0_A.sl.r_138, kernelRun0_A.sl.r_139, kernelRun0_A.sl.r_140,
    kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148,
    kernelRun0_A.sl.r_149, kernelRun0_A.sl.r_150, kernelRun0_A.sl.r_151, kernelRun0_A.sl.r_152,
    kernelRun0_A.sl.r_153, kernelRun0_A.sl.r_154, kernelRun0_A.sl.r_155, kernelRun0_A.sl.r_156,
    kernelRun0_A.sl.r_157, kernelRun0_A.sl.r_158, kernelRun0_A.sl.r_159, kernelRun0_A.sl.r_160,
    kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168,
    kernelRun0_A.sl.r_169, kernelRun0_A.sl.r_170, kernelRun0_A.sl.r_171, kernelRun0_A.sl.r_172,
    kernelRun0_A.sl.r_173, kernelRun0_A.sl.r_174, kernelRun0_A.sl.r_175, kernelRun0_A.sl.r_176,
    kernelRun0_A.sl.r_177, kernelRun0_A.sl.r_178, kernelRun0_A.sl.r_179, k0_pay90, k0_pay91, k0_pay92, k0_pay93,
    k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153]

theorem gr_eq : ∀ e < 8, gr c arg1 harg1 arg2 harg2 arg3 harg3 arg4 harg4 arg5 harg5 arg8 arg9 x0 x1 x2 x3 x4 e = vgroup (ch c arg1 harg1 arg2 harg2 arg3 harg3 arg4 harg4 arg5 harg5 arg8 arg9 x0 x1 x2 x3 x4) e := by
  intro e he
  interval_cases e <;> simp only [gr, ch, nth, vgroup, Nat.reduceMul, Nat.reduceAdd, Nat.reduceSub, Nat.reduceDiv, Nat.reducePow,
    kernelRun0_A.sl.r_180, kernelRun0_A.sl.r_181, kernelRun0_A.sl.r_182, kernelRun0_A.sl.r_183,
    kernelRun0_A.sl.r_184, kernelRun0_A.sl.r_185, kernelRun0_A.sl.r_186, kernelRun0_A.sl.r_187,
    kernelRun0_A.sl.r_188, kernelRun0_A.sl.r_189, kernelRun0_A.sl.r_190, k0_pay154, k0_pay155, k0_pay156, k0_pay157,
    k0_pay158, k0_pay159, k0_pay160, k0_pay161, k0_pay162, k0_pay163, k0_pay164]

theorem rk_eq : ∀ e < 8, rk c arg1 harg1 arg2 harg2 arg3 harg3 arg4 harg4 arg5 harg5 arg8 arg9 x0 x1 x2 x3 x4 e = vgrank (gr c arg1 harg1 arg2 harg2 arg3 harg3 arg4 harg4 arg5 harg5 arg8 arg9 x0 x1 x2 x3 x4) e := by
  intro e he
  interval_cases e <;> simp only [rk, gr, nth, vgrank, vbit, List.range, List.range.loop, List.foldl, Nat.reduceMul, Nat.reduceAdd,
    Nat.reduceSub, Nat.reduceDiv, Nat.reducePow, kernelRun0_A.sl.r_191, kernelRun0_A.sl.r_192,
    kernelRun0_A.sl.r_193, kernelRun0_A.sl.r_194, kernelRun0_A.sl.r_195, kernelRun0_A.sl.r_196,
    kernelRun0_A.sl.r_197, kernelRun0_A.sl.r_198, kernelRun0_A.sl.r_199, kernelRun0_A.sl.r_200,
    kernelRun0_A.sl.r_201, kernelRun0_A.sl.r_202, kernelRun0_A.sl.r_203, kernelRun0_A.sl.r_204,
    kernelRun0_A.sl.r_205, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212,
    k0_pay213]

theorem m0_eq : ∀ e < 32, m0 c arg1 harg1 arg2 harg2 arg3 harg3 arg4 harg4 arg5 harg5 arg8 arg9 x0 x1 x2 x3 x4 e = vkept (rk c arg1 harg1 arg2 harg2 arg3 harg3 arg4 harg4 arg5 harg5 arg8 arg9 x0 x1 x2 x3 x4) (ch c arg1 harg1 arg2 harg2 arg3 harg3 arg4 harg4 arg5 harg5 arg8 arg9 x0 x1 x2 x3 x4) e := by
  intro e he
  interval_cases e <;> simp only [m0, rk, ch, nth, vkept, kernelRun0_A.sl.cst_644, Nat.reduceMul, Nat.reduceAdd, Nat.reduceSub, Nat.reduceDiv,
    Nat.reducePow, kernelRun0_A.sl.r_206, kernelRun0_A.sl.r_207, kernelRun0_A.sl.r_208, kernelRun0_A.sl.r_209,
    kernelRun0_A.sl.r_210, kernelRun0_A.sl.r_211, kernelRun0_A.sl.r_212, kernelRun0_A.sl.r_213,
    kernelRun0_A.sl.r_214, kernelRun0_A.sl.r_215, kernelRun0_A.sl.r_216, kernelRun0_A.sl.r_217,
    kernelRun0_A.sl.r_218, kernelRun0_A.sl.r_219, kernelRun0_A.sl.r_220, kernelRun0_A.sl.r_221,
    kernelRun0_A.sl.r_222, kernelRun0_A.sl.r_223, kernelRun0_A.sl.r_224, kernelRun0_A.sl.r_225,
    kernelRun0_A.sl.r_226, kernelRun0_A.sl.r_227, kernelRun0_A.sl.r_228, kernelRun0_A.sl.r_229,
    kernelRun0_A.sl.r_230, kernelRun0_A.sl.r_231, kernelRun0_A.sl.r_232, kernelRun0_A.sl.r_233,
    kernelRun0_A.sl.r_234, kernelRun0_A.sl.r_235, kernelRun0_A.sl.r_236, kernelRun0_A.sl.r_237,
    kernelRun0_A.sl.r_238, kernelRun0_A.sl.r_239, kernelRun0_A.sl.r_240, kernelRun0_A.sl.r_241,
    kernelRun0_A.sl.r_242, kernelRun0_A.sl.r_243, kernelRun0_A.sl.r_244, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247,
    k0_pay248, k0_pay249, k0_pay250, k0_pay251, k0_pay252, k0_pay253] <;> rfl

theorem idx0 : kernelRun0_A.sl.r_298 c arg1 harg1 arg2 harg2 arg3 harg3 arg4 harg4 arg5 harg5 arg8 arg9 x0 x1 x2 x3 x4 = vtw (m0 c arg1 harg1 arg2 harg2 arg3 harg3 arg4 harg4 arg5 harg5 arg8 arg9 x0 x1 x2 x3 x4) vid 5 0 := by
  simp only [m0, nth, vtw, vtv, vid, Nat.reduceMul, Nat.reduceAdd, Nat.reduceSub, Nat.reduceDiv, Nat.reducePow,
    kernelRun0_A.sl.r_245, kernelRun0_A.sl.r_246, kernelRun0_A.sl.r_247, kernelRun0_A.sl.r_248,
    kernelRun0_A.sl.r_249, kernelRun0_A.sl.r_250, kernelRun0_A.sl.r_251, kernelRun0_A.sl.r_252,
    kernelRun0_A.sl.r_253, kernelRun0_A.sl.r_254, kernelRun0_A.sl.r_255, kernelRun0_A.sl.r_256,
    kernelRun0_A.sl.r_257, kernelRun0_A.sl.r_258, kernelRun0_A.sl.r_259, kernelRun0_A.sl.r_260,
    kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268,
    kernelRun0_A.sl.r_269, kernelRun0_A.sl.r_270, kernelRun0_A.sl.r_271, kernelRun0_A.sl.r_272,
    kernelRun0_A.sl.r_273, kernelRun0_A.sl.r_274, kernelRun0_A.sl.r_275, kernelRun0_A.sl.r_276,
    kernelRun0_A.sl.r_277, kernelRun0_A.sl.r_278, kernelRun0_A.sl.r_279, kernelRun0_A.sl.r_280,
    kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288,
    kernelRun0_A.sl.r_289, kernelRun0_A.sl.r_290, kernelRun0_A.sl.r_291, kernelRun0_A.sl.r_292,
    kernelRun0_A.sl.r_293, kernelRun0_A.sl.r_294, kernelRun0_A.sl.r_295, kernelRun0_A.sl.r_296,
    kernelRun0_A.sl.r_297, kernelRun0_A.sl.r_298, kernelRun0_A.sl.r_299, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380]

theorem sel0 : kernelRun0_A.sl.r_299 c arg1 harg1 arg2 harg2 arg3 harg3 arg4 harg4 arg5 harg5 arg8 arg9 x0 x1 x2 x3 x4 = vtw (m0 c arg1 harg1 arg2 harg2 arg3 harg3 arg4 harg4 arg5 harg5 arg8 arg9 x0 x1 x2 x3 x4) (sc c arg1 harg1 arg3 harg3 arg4 harg4 arg5 harg5 arg8 arg9 x0 x2 x3 x4) 5 0 := by
  simp only [m0, sc, nth, vtw, vtv, Nat.reduceMul, Nat.reduceAdd, Nat.reduceSub, Nat.reduceDiv, Nat.reducePow,
    kernelRun0_A.sl.r_245, kernelRun0_A.sl.r_246, kernelRun0_A.sl.r_247, kernelRun0_A.sl.r_248,
    kernelRun0_A.sl.r_249, kernelRun0_A.sl.r_250, kernelRun0_A.sl.r_251, kernelRun0_A.sl.r_252,
    kernelRun0_A.sl.r_253, kernelRun0_A.sl.r_254, kernelRun0_A.sl.r_255, kernelRun0_A.sl.r_256,
    kernelRun0_A.sl.r_257, kernelRun0_A.sl.r_258, kernelRun0_A.sl.r_259, kernelRun0_A.sl.r_260,
    kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268,
    kernelRun0_A.sl.r_269, kernelRun0_A.sl.r_270, kernelRun0_A.sl.r_271, kernelRun0_A.sl.r_272,
    kernelRun0_A.sl.r_273, kernelRun0_A.sl.r_274, kernelRun0_A.sl.r_275, kernelRun0_A.sl.r_276,
    kernelRun0_A.sl.r_277, kernelRun0_A.sl.r_278, kernelRun0_A.sl.r_279, kernelRun0_A.sl.r_280,
    kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288,
    kernelRun0_A.sl.r_289, kernelRun0_A.sl.r_290, kernelRun0_A.sl.r_291, kernelRun0_A.sl.r_292,
    kernelRun0_A.sl.r_293, kernelRun0_A.sl.r_294, kernelRun0_A.sl.r_295, kernelRun0_A.sl.r_296,
    kernelRun0_A.sl.r_297, kernelRun0_A.sl.r_298, kernelRun0_A.sl.r_299, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380]

theorem m1_eq : ∀ e < 32, m1 c arg1 harg1 arg2 harg2 arg3 harg3 arg4 harg4 arg5 harg5 arg8 arg9 x0 x1 x2 x3 x4 e = vmask (m0 c arg1 harg1 arg2 harg2 arg3 harg3 arg4 harg4 arg5 harg5 arg8 arg9 x0 x1 x2 x3 x4) (kernelRun0_A.sl.r_298 c arg1 harg1 arg2 harg2 arg3 harg3 arg4 harg4 arg5 harg5 arg8 arg9 x0 x1 x2 x3 x4) e := by
  intro e he
  interval_cases e <;> simp only [m1, m0, nth, vmask, vid, kernelRun0_A.sl.cst_909, Nat.reduceMul, Nat.reduceAdd, Nat.reduceSub, Nat.reduceDiv,
    Nat.reducePow, kernelRun0_A.sl.r_245, kernelRun0_A.sl.r_246, kernelRun0_A.sl.r_247, kernelRun0_A.sl.r_248,
    kernelRun0_A.sl.r_249, kernelRun0_A.sl.r_250, kernelRun0_A.sl.r_251, kernelRun0_A.sl.r_252,
    kernelRun0_A.sl.r_253, kernelRun0_A.sl.r_254, kernelRun0_A.sl.r_255, kernelRun0_A.sl.r_256,
    kernelRun0_A.sl.r_257, kernelRun0_A.sl.r_258, kernelRun0_A.sl.r_259, kernelRun0_A.sl.r_260,
    kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268,
    kernelRun0_A.sl.r_269, kernelRun0_A.sl.r_270, kernelRun0_A.sl.r_271, kernelRun0_A.sl.r_272,
    kernelRun0_A.sl.r_273, kernelRun0_A.sl.r_274, kernelRun0_A.sl.r_275, kernelRun0_A.sl.r_276,
    kernelRun0_A.sl.r_277, kernelRun0_A.sl.r_278, kernelRun0_A.sl.r_279, kernelRun0_A.sl.r_280,
    kernelRun0_A.sl.r_281, kernelRun0_A.sl.r_282, kernelRun0_A.sl.r_283, kernelRun0_A.sl.r_284,
    kernelRun0_A.sl.r_285, kernelRun0_A.sl.r_286, kernelRun0_A.sl.r_287, kernelRun0_A.sl.r_288,
    kernelRun0_A.sl.r_289, kernelRun0_A.sl.r_290, kernelRun0_A.sl.r_291, kernelRun0_A.sl.r_292,
    kernelRun0_A.sl.r_293, kernelRun0_A.sl.r_294, kernelRun0_A.sl.r_295, kernelRun0_A.sl.r_296,
    kernelRun0_A.sl.r_297, kernelRun0_A.sl.r_298, kernelRun0_A.sl.r_299, kernelRun0_A.sl.r_300,
    kernelRun0_A.sl.r_301, kernelRun0_A.sl.r_302, kernelRun0_A.sl.r_303, kernelRun0_A.sl.r_304,
    kernelRun0_A.sl.r_305, kernelRun0_A.sl.r_306, kernelRun0_A.sl.r_307, kernelRun0_A.sl.r_308,
    kernelRun0_A.sl.r_309, kernelRun0_A.sl.r_310, kernelRun0_A.sl.r_311, kernelRun0_A.sl.r_312,
    kernelRun0_A.sl.r_313, kernelRun0_A.sl.r_314, kernelRun0_A.sl.r_315, kernelRun0_A.sl.r_316,
    kernelRun0_A.sl.r_317, kernelRun0_A.sl.r_318, kernelRun0_A.sl.r_319, kernelRun0_A.sl.r_320,
    kernelRun0_A.sl.r_321, kernelRun0_A.sl.r_322, kernelRun0_A.sl.r_323, kernelRun0_A.sl.r_324,
    kernelRun0_A.sl.r_325, kernelRun0_A.sl.r_326, kernelRun0_A.sl.r_327, kernelRun0_A.sl.r_328,
    kernelRun0_A.sl.r_329, kernelRun0_A.sl.r_330, kernelRun0_A.sl.r_331, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407,
    k0_pay408, k0_pay409, k0_pay410, k0_pay411, k0_pay412] <;> rfl

theorem idx1 : kernelRun0_A.sl.r_383 c arg1 harg1 arg2 harg2 arg3 harg3 arg4 harg4 arg5 harg5 arg8 arg9 x0 x1 x2 x3 x4 = vtw (m1 c arg1 harg1 arg2 harg2 arg3 harg3 arg4 harg4 arg5 harg5 arg8 arg9 x0 x1 x2 x3 x4) vid 5 0 := by
  simp only [m1, nth, vtw, vtv, vid, Nat.reduceMul, Nat.reduceAdd, Nat.reduceSub, Nat.reduceDiv, Nat.reducePow,
    kernelRun0_A.sl.r_332, kernelRun0_A.sl.r_333, kernelRun0_A.sl.r_334, kernelRun0_A.sl.r_335,
    kernelRun0_A.sl.r_336, kernelRun0_A.sl.r_337, kernelRun0_A.sl.r_338, kernelRun0_A.sl.r_339,
    kernelRun0_A.sl.r_340, kernelRun0_A.sl.r_341, kernelRun0_A.sl.r_342, kernelRun0_A.sl.r_343,
    kernelRun0_A.sl.r_344, kernelRun0_A.sl.r_345, kernelRun0_A.sl.r_346, kernelRun0_A.sl.r_347,
    kernelRun0_A.sl.r_348, kernelRun0_A.sl.r_349, kernelRun0_A.sl.r_350, kernelRun0_A.sl.r_351,
    kernelRun0_A.sl.r_352, kernelRun0_A.sl.r_353, kernelRun0_A.sl.r_354, kernelRun0_A.sl.r_355,
    kernelRun0_A.sl.r_356, kernelRun0_A.sl.r_357, kernelRun0_A.sl.r_358, kernelRun0_A.sl.r_359,
    kernelRun0_A.sl.r_360, kernelRun0_A.sl.r_361, kernelRun0_A.sl.r_362, kernelRun0_A.sl.r_363,
    kernelRun0_A.sl.r_364, kernelRun0_A.sl.r_365, kernelRun0_A.sl.r_366, kernelRun0_A.sl.r_367,
    kernelRun0_A.sl.r_368, kernelRun0_A.sl.r_369, kernelRun0_A.sl.r_370, kernelRun0_A.sl.r_371,
    kernelRun0_A.sl.r_372, kernelRun0_A.sl.r_373, kernelRun0_A.sl.r_374, kernelRun0_A.sl.r_375,
    kernelRun0_A.sl.r_376, kernelRun0_A.sl.r_377, kernelRun0_A.sl.r_378, kernelRun0_A.sl.r_379,
    kernelRun0_A.sl.r_380, kernelRun0_A.sl.r_381, kernelRun0_A.sl.r_382, kernelRun0_A.sl.r_383,
    kernelRun0_A.sl.r_384, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492, k0_pay493, k0_pay494, k0_pay495, k0_pay496, k0_pay497, k0_pay498, k0_pay499, k0_pay500,
    k0_pay501, k0_pay502, k0_pay503, k0_pay504, k0_pay505, k0_pay506, k0_pay507, k0_pay508, k0_pay509, k0_pay510,
    k0_pay511, k0_pay512, k0_pay513, k0_pay514, k0_pay515, k0_pay516, k0_pay517, k0_pay518, k0_pay519, k0_pay520,
    k0_pay521, k0_pay522, k0_pay523, k0_pay524, k0_pay525, k0_pay526, k0_pay527, k0_pay528, k0_pay529, k0_pay530,
    k0_pay531, k0_pay532, k0_pay533, k0_pay534, k0_pay535, k0_pay536, k0_pay537]

theorem sel1 : kernelRun0_A.sl.r_384 c arg1 harg1 arg2 harg2 arg3 harg3 arg4 harg4 arg5 harg5 arg8 arg9 x0 x1 x2 x3 x4 = vtw (m1 c arg1 harg1 arg2 harg2 arg3 harg3 arg4 harg4 arg5 harg5 arg8 arg9 x0 x1 x2 x3 x4) (sc c arg1 harg1 arg3 harg3 arg4 harg4 arg5 harg5 arg8 arg9 x0 x2 x3 x4) 5 0 := by
  simp only [m1, sc, nth, vtw, vtv, Nat.reduceMul, Nat.reduceAdd, Nat.reduceSub, Nat.reduceDiv, Nat.reducePow,
    kernelRun0_A.sl.r_332, kernelRun0_A.sl.r_333, kernelRun0_A.sl.r_334, kernelRun0_A.sl.r_335,
    kernelRun0_A.sl.r_336, kernelRun0_A.sl.r_337, kernelRun0_A.sl.r_338, kernelRun0_A.sl.r_339,
    kernelRun0_A.sl.r_340, kernelRun0_A.sl.r_341, kernelRun0_A.sl.r_342, kernelRun0_A.sl.r_343,
    kernelRun0_A.sl.r_344, kernelRun0_A.sl.r_345, kernelRun0_A.sl.r_346, kernelRun0_A.sl.r_347,
    kernelRun0_A.sl.r_348, kernelRun0_A.sl.r_349, kernelRun0_A.sl.r_350, kernelRun0_A.sl.r_351,
    kernelRun0_A.sl.r_352, kernelRun0_A.sl.r_353, kernelRun0_A.sl.r_354, kernelRun0_A.sl.r_355,
    kernelRun0_A.sl.r_356, kernelRun0_A.sl.r_357, kernelRun0_A.sl.r_358, kernelRun0_A.sl.r_359,
    kernelRun0_A.sl.r_360, kernelRun0_A.sl.r_361, kernelRun0_A.sl.r_362, kernelRun0_A.sl.r_363,
    kernelRun0_A.sl.r_364, kernelRun0_A.sl.r_365, kernelRun0_A.sl.r_366, kernelRun0_A.sl.r_367,
    kernelRun0_A.sl.r_368, kernelRun0_A.sl.r_369, kernelRun0_A.sl.r_370, kernelRun0_A.sl.r_371,
    kernelRun0_A.sl.r_372, kernelRun0_A.sl.r_373, kernelRun0_A.sl.r_374, kernelRun0_A.sl.r_375,
    kernelRun0_A.sl.r_376, kernelRun0_A.sl.r_377, kernelRun0_A.sl.r_378, kernelRun0_A.sl.r_379,
    kernelRun0_A.sl.r_380, kernelRun0_A.sl.r_381, kernelRun0_A.sl.r_382, kernelRun0_A.sl.r_383,
    kernelRun0_A.sl.r_384, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492, k0_pay493, k0_pay494, k0_pay495, k0_pay496, k0_pay497, k0_pay498, k0_pay499, k0_pay500,
    k0_pay501, k0_pay502, k0_pay503, k0_pay504, k0_pay505, k0_pay506, k0_pay507, k0_pay508, k0_pay509, k0_pay510,
    k0_pay511, k0_pay512, k0_pay513, k0_pay514, k0_pay515, k0_pay516, k0_pay517, k0_pay518, k0_pay519, k0_pay520,
    k0_pay521, k0_pay522, k0_pay523, k0_pay524, k0_pay525, k0_pay526, k0_pay527, k0_pay528, k0_pay529, k0_pay530,
    k0_pay531, k0_pay532, k0_pay533, k0_pay534, k0_pay535, k0_pay536, k0_pay537]

theorem m2_eq : ∀ e < 32, m2 c arg1 harg1 arg2 harg2 arg3 harg3 arg4 harg4 arg5 harg5 arg8 arg9 x0 x1 x2 x3 x4 e = vmask (m1 c arg1 harg1 arg2 harg2 arg3 harg3 arg4 harg4 arg5 harg5 arg8 arg9 x0 x1 x2 x3 x4) (kernelRun0_A.sl.r_383 c arg1 harg1 arg2 harg2 arg3 harg3 arg4 harg4 arg5 harg5 arg8 arg9 x0 x1 x2 x3 x4) e := by
  intro e he
  interval_cases e <;> simp only [m2, m1, nth, vmask, vid, kernelRun0_A.sl.cst_909, Nat.reduceMul, Nat.reduceAdd, Nat.reduceSub, Nat.reduceDiv,
    Nat.reducePow, kernelRun0_A.sl.r_332, kernelRun0_A.sl.r_333, kernelRun0_A.sl.r_334, kernelRun0_A.sl.r_335,
    kernelRun0_A.sl.r_336, kernelRun0_A.sl.r_337, kernelRun0_A.sl.r_338, kernelRun0_A.sl.r_339,
    kernelRun0_A.sl.r_340, kernelRun0_A.sl.r_341, kernelRun0_A.sl.r_342, kernelRun0_A.sl.r_343,
    kernelRun0_A.sl.r_344, kernelRun0_A.sl.r_345, kernelRun0_A.sl.r_346, kernelRun0_A.sl.r_347,
    kernelRun0_A.sl.r_348, kernelRun0_A.sl.r_349, kernelRun0_A.sl.r_350, kernelRun0_A.sl.r_351,
    kernelRun0_A.sl.r_352, kernelRun0_A.sl.r_353, kernelRun0_A.sl.r_354, kernelRun0_A.sl.r_355,
    kernelRun0_A.sl.r_356, kernelRun0_A.sl.r_357, kernelRun0_A.sl.r_358, kernelRun0_A.sl.r_359,
    kernelRun0_A.sl.r_360, kernelRun0_A.sl.r_361, kernelRun0_A.sl.r_362, kernelRun0_A.sl.r_363,
    kernelRun0_A.sl.r_364, kernelRun0_A.sl.r_365, kernelRun0_A.sl.r_366, kernelRun0_A.sl.r_367,
    kernelRun0_A.sl.r_368, kernelRun0_A.sl.r_369, kernelRun0_A.sl.r_370, kernelRun0_A.sl.r_371,
    kernelRun0_A.sl.r_372, kernelRun0_A.sl.r_373, kernelRun0_A.sl.r_374, kernelRun0_A.sl.r_375,
    kernelRun0_A.sl.r_376, kernelRun0_A.sl.r_377, kernelRun0_A.sl.r_378, kernelRun0_A.sl.r_379,
    kernelRun0_A.sl.r_380, kernelRun0_A.sl.r_381, kernelRun0_A.sl.r_382, kernelRun0_A.sl.r_383,
    kernelRun0_A.sl.r_384, kernelRun0_A.sl.r_385, kernelRun0_A.sl.r_386, kernelRun0_A.sl.r_387,
    kernelRun0_A.sl.r_388, kernelRun0_A.sl.r_389, kernelRun0_A.sl.r_390, kernelRun0_A.sl.r_391,
    kernelRun0_A.sl.r_392, kernelRun0_A.sl.r_393, kernelRun0_A.sl.r_394, kernelRun0_A.sl.r_395,
    kernelRun0_A.sl.r_396, kernelRun0_A.sl.r_397, kernelRun0_A.sl.r_398, kernelRun0_A.sl.r_399,
    kernelRun0_A.sl.r_400, kernelRun0_A.sl.r_401, kernelRun0_A.sl.r_402, kernelRun0_A.sl.r_403,
    kernelRun0_A.sl.r_404, kernelRun0_A.sl.r_405, kernelRun0_A.sl.r_406, kernelRun0_A.sl.r_407,
    kernelRun0_A.sl.r_408, kernelRun0_A.sl.r_409, kernelRun0_A.sl.r_410, kernelRun0_A.sl.r_411,
    kernelRun0_A.sl.r_412, kernelRun0_A.sl.r_413, kernelRun0_A.sl.r_414, kernelRun0_A.sl.r_415,
    kernelRun0_A.sl.r_416, kernelRun0_A.sl.r_417, kernelRun0_A.sl.r_418, kernelRun0_A.sl.r_419, k0_pay413,
    k0_pay414, k0_pay415, k0_pay416, k0_pay417, k0_pay418, k0_pay419, k0_pay420, k0_pay421, k0_pay422, k0_pay423,
    k0_pay424, k0_pay425, k0_pay426, k0_pay427, k0_pay428, k0_pay429, k0_pay430, k0_pay431, k0_pay432, k0_pay433,
    k0_pay434, k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452, k0_pay453,
    k0_pay454, k0_pay455, k0_pay456, k0_pay457, k0_pay458, k0_pay459, k0_pay460, k0_pay461, k0_pay462, k0_pay463,
    k0_pay464, k0_pay465, k0_pay466, k0_pay467, k0_pay468, k0_pay469, k0_pay470, k0_pay471, k0_pay472, k0_pay473,
    k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493,
    k0_pay494, k0_pay495, k0_pay496, k0_pay497, k0_pay498, k0_pay499, k0_pay500, k0_pay501, k0_pay502, k0_pay503,
    k0_pay504, k0_pay505, k0_pay506, k0_pay507, k0_pay508, k0_pay509, k0_pay510, k0_pay511, k0_pay512, k0_pay513,
    k0_pay514, k0_pay515, k0_pay516, k0_pay517, k0_pay518, k0_pay519, k0_pay520, k0_pay521, k0_pay522, k0_pay523,
    k0_pay524, k0_pay525, k0_pay526, k0_pay527, k0_pay528, k0_pay529, k0_pay530, k0_pay531, k0_pay532, k0_pay533,
    k0_pay534, k0_pay535, k0_pay536, k0_pay537, k0_pay538, k0_pay539, k0_pay540, k0_pay541, k0_pay542, k0_pay543,
    k0_pay544, k0_pay545, k0_pay546, k0_pay547, k0_pay548, k0_pay549, k0_pay550, k0_pay551, k0_pay552, k0_pay553,
    k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573,
    k0_pay574, k0_pay575] <;> rfl

theorem idx2 : kernelRun0_A.sl.r_473 c arg1 harg1 arg2 harg2 arg3 harg3 arg4 harg4 arg5 harg5 arg8 arg9 x0 x1 x2 x3 x4 = vtw (m2 c arg1 harg1 arg2 harg2 arg3 harg3 arg4 harg4 arg5 harg5 arg8 arg9 x0 x1 x2 x3 x4) vid 5 0 := by
  simp only [m2, nth, vtw, vtv, vid, Nat.reduceMul, Nat.reduceAdd, Nat.reduceSub, Nat.reduceDiv, Nat.reducePow,
    kernelRun0_A.sl.r_420, kernelRun0_A.sl.r_421, kernelRun0_A.sl.r_422, kernelRun0_A.sl.r_423,
    kernelRun0_A.sl.r_424, kernelRun0_A.sl.r_425, kernelRun0_A.sl.r_426, kernelRun0_A.sl.r_427,
    kernelRun0_A.sl.r_428, kernelRun0_A.sl.r_429, kernelRun0_A.sl.r_430, kernelRun0_A.sl.r_431,
    kernelRun0_A.sl.r_432, kernelRun0_A.sl.r_433, kernelRun0_A.sl.r_434, kernelRun0_A.sl.r_435,
    kernelRun0_A.sl.r_436, kernelRun0_A.sl.r_437, kernelRun0_A.sl.r_438, kernelRun0_A.sl.r_439,
    kernelRun0_A.sl.r_440, kernelRun0_A.sl.r_441, kernelRun0_A.sl.r_442, kernelRun0_A.sl.r_443,
    kernelRun0_A.sl.r_444, kernelRun0_A.sl.r_445, kernelRun0_A.sl.r_446, kernelRun0_A.sl.r_447,
    kernelRun0_A.sl.r_448, kernelRun0_A.sl.r_449, kernelRun0_A.sl.r_450, kernelRun0_A.sl.r_451,
    kernelRun0_A.sl.r_452, kernelRun0_A.sl.r_453, kernelRun0_A.sl.r_454, kernelRun0_A.sl.r_455,
    kernelRun0_A.sl.r_456, kernelRun0_A.sl.r_457, kernelRun0_A.sl.r_458, kernelRun0_A.sl.r_459,
    kernelRun0_A.sl.r_460, kernelRun0_A.sl.r_461, kernelRun0_A.sl.r_462, kernelRun0_A.sl.r_463,
    kernelRun0_A.sl.r_464, kernelRun0_A.sl.r_465, kernelRun0_A.sl.r_466, kernelRun0_A.sl.r_467,
    kernelRun0_A.sl.r_468, kernelRun0_A.sl.r_469, kernelRun0_A.sl.r_470, kernelRun0_A.sl.r_471,
    kernelRun0_A.sl.r_472, kernelRun0_A.sl.r_473, kernelRun0_A.sl.r_474, k0_pay576, k0_pay577, k0_pay578, k0_pay579,
    k0_pay580, k0_pay581, k0_pay582, k0_pay583, k0_pay584, k0_pay585, k0_pay586, k0_pay587, k0_pay588, k0_pay589,
    k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609,
    k0_pay610, k0_pay611, k0_pay612, k0_pay613, k0_pay614, k0_pay615, k0_pay616, k0_pay617, k0_pay618, k0_pay619,
    k0_pay620, k0_pay621, k0_pay622, k0_pay623, k0_pay624, k0_pay625, k0_pay626, k0_pay627, k0_pay628, k0_pay629,
    k0_pay630, k0_pay631, k0_pay632, k0_pay633, k0_pay634, k0_pay635, k0_pay636, k0_pay637, k0_pay638, k0_pay639,
    k0_pay640, k0_pay641, k0_pay642, k0_pay643, k0_pay644, k0_pay645, k0_pay646, k0_pay647, k0_pay648, k0_pay649,
    k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669,
    k0_pay670, k0_pay671, k0_pay672, k0_pay673, k0_pay674, k0_pay675, k0_pay676, k0_pay677, k0_pay678, k0_pay679,
    k0_pay680, k0_pay681, k0_pay682, k0_pay683, k0_pay684, k0_pay685, k0_pay686, k0_pay687, k0_pay688, k0_pay689,
    k0_pay690, k0_pay691, k0_pay692, k0_pay693, k0_pay694, k0_pay695, k0_pay696, k0_pay697, k0_pay698, k0_pay699,
    k0_pay700, k0_pay701, k0_pay702]

theorem sel2 : kernelRun0_A.sl.r_474 c arg1 harg1 arg2 harg2 arg3 harg3 arg4 harg4 arg5 harg5 arg8 arg9 x0 x1 x2 x3 x4 = vtw (m2 c arg1 harg1 arg2 harg2 arg3 harg3 arg4 harg4 arg5 harg5 arg8 arg9 x0 x1 x2 x3 x4) (sc c arg1 harg1 arg3 harg3 arg4 harg4 arg5 harg5 arg8 arg9 x0 x2 x3 x4) 5 0 := by
  simp only [m2, sc, nth, vtw, vtv, Nat.reduceMul, Nat.reduceAdd, Nat.reduceSub, Nat.reduceDiv, Nat.reducePow,
    kernelRun0_A.sl.r_420, kernelRun0_A.sl.r_421, kernelRun0_A.sl.r_422, kernelRun0_A.sl.r_423,
    kernelRun0_A.sl.r_424, kernelRun0_A.sl.r_425, kernelRun0_A.sl.r_426, kernelRun0_A.sl.r_427,
    kernelRun0_A.sl.r_428, kernelRun0_A.sl.r_429, kernelRun0_A.sl.r_430, kernelRun0_A.sl.r_431,
    kernelRun0_A.sl.r_432, kernelRun0_A.sl.r_433, kernelRun0_A.sl.r_434, kernelRun0_A.sl.r_435,
    kernelRun0_A.sl.r_436, kernelRun0_A.sl.r_437, kernelRun0_A.sl.r_438, kernelRun0_A.sl.r_439,
    kernelRun0_A.sl.r_440, kernelRun0_A.sl.r_441, kernelRun0_A.sl.r_442, kernelRun0_A.sl.r_443,
    kernelRun0_A.sl.r_444, kernelRun0_A.sl.r_445, kernelRun0_A.sl.r_446, kernelRun0_A.sl.r_447,
    kernelRun0_A.sl.r_448, kernelRun0_A.sl.r_449, kernelRun0_A.sl.r_450, kernelRun0_A.sl.r_451,
    kernelRun0_A.sl.r_452, kernelRun0_A.sl.r_453, kernelRun0_A.sl.r_454, kernelRun0_A.sl.r_455,
    kernelRun0_A.sl.r_456, kernelRun0_A.sl.r_457, kernelRun0_A.sl.r_458, kernelRun0_A.sl.r_459,
    kernelRun0_A.sl.r_460, kernelRun0_A.sl.r_461, kernelRun0_A.sl.r_462, kernelRun0_A.sl.r_463,
    kernelRun0_A.sl.r_464, kernelRun0_A.sl.r_465, kernelRun0_A.sl.r_466, kernelRun0_A.sl.r_467,
    kernelRun0_A.sl.r_468, kernelRun0_A.sl.r_469, kernelRun0_A.sl.r_470, kernelRun0_A.sl.r_471,
    kernelRun0_A.sl.r_472, kernelRun0_A.sl.r_473, kernelRun0_A.sl.r_474, k0_pay576, k0_pay577, k0_pay578, k0_pay579,
    k0_pay580, k0_pay581, k0_pay582, k0_pay583, k0_pay584, k0_pay585, k0_pay586, k0_pay587, k0_pay588, k0_pay589,
    k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609,
    k0_pay610, k0_pay611, k0_pay612, k0_pay613, k0_pay614, k0_pay615, k0_pay616, k0_pay617, k0_pay618, k0_pay619,
    k0_pay620, k0_pay621, k0_pay622, k0_pay623, k0_pay624, k0_pay625, k0_pay626, k0_pay627, k0_pay628, k0_pay629,
    k0_pay630, k0_pay631, k0_pay632, k0_pay633, k0_pay634, k0_pay635, k0_pay636, k0_pay637, k0_pay638, k0_pay639,
    k0_pay640, k0_pay641, k0_pay642, k0_pay643, k0_pay644, k0_pay645, k0_pay646, k0_pay647, k0_pay648, k0_pay649,
    k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669,
    k0_pay670, k0_pay671, k0_pay672, k0_pay673, k0_pay674, k0_pay675, k0_pay676, k0_pay677, k0_pay678, k0_pay679,
    k0_pay680, k0_pay681, k0_pay682, k0_pay683, k0_pay684, k0_pay685, k0_pay686, k0_pay687, k0_pay688, k0_pay689,
    k0_pay690, k0_pay691, k0_pay692, k0_pay693, k0_pay694, k0_pay695, k0_pay696, k0_pay697, k0_pay698, k0_pay699,
    k0_pay700, k0_pay701, k0_pay702]

theorem m3_eq : ∀ e < 32, m3 c arg1 harg1 arg2 harg2 arg3 harg3 arg4 harg4 arg5 harg5 arg8 arg9 x0 x1 x2 x3 x4 e = vmask (m2 c arg1 harg1 arg2 harg2 arg3 harg3 arg4 harg4 arg5 harg5 arg8 arg9 x0 x1 x2 x3 x4) (kernelRun0_A.sl.r_473 c arg1 harg1 arg2 harg2 arg3 harg3 arg4 harg4 arg5 harg5 arg8 arg9 x0 x1 x2 x3 x4) e := by
  intro e he
  interval_cases e <;> simp only [m3, m2, nth, vmask, vid, kernelRun0_A.sl.cst_909, Nat.reduceMul, Nat.reduceAdd, Nat.reduceSub, Nat.reduceDiv,
    Nat.reducePow, kernelRun0_A.sl.r_420, kernelRun0_A.sl.r_421, kernelRun0_A.sl.r_422, kernelRun0_A.sl.r_423,
    kernelRun0_A.sl.r_424, kernelRun0_A.sl.r_425, kernelRun0_A.sl.r_426, kernelRun0_A.sl.r_427,
    kernelRun0_A.sl.r_428, kernelRun0_A.sl.r_429, kernelRun0_A.sl.r_430, kernelRun0_A.sl.r_431,
    kernelRun0_A.sl.r_432, kernelRun0_A.sl.r_433, kernelRun0_A.sl.r_434, kernelRun0_A.sl.r_435,
    kernelRun0_A.sl.r_436, kernelRun0_A.sl.r_437, kernelRun0_A.sl.r_438, kernelRun0_A.sl.r_439,
    kernelRun0_A.sl.r_440, kernelRun0_A.sl.r_441, kernelRun0_A.sl.r_442, kernelRun0_A.sl.r_443,
    kernelRun0_A.sl.r_444, kernelRun0_A.sl.r_445, kernelRun0_A.sl.r_446, kernelRun0_A.sl.r_447,
    kernelRun0_A.sl.r_448, kernelRun0_A.sl.r_449, kernelRun0_A.sl.r_450, kernelRun0_A.sl.r_451,
    kernelRun0_A.sl.r_452, kernelRun0_A.sl.r_453, kernelRun0_A.sl.r_454, kernelRun0_A.sl.r_455,
    kernelRun0_A.sl.r_456, kernelRun0_A.sl.r_457, kernelRun0_A.sl.r_458, kernelRun0_A.sl.r_459,
    kernelRun0_A.sl.r_460, kernelRun0_A.sl.r_461, kernelRun0_A.sl.r_462, kernelRun0_A.sl.r_463,
    kernelRun0_A.sl.r_464, kernelRun0_A.sl.r_465, kernelRun0_A.sl.r_466, kernelRun0_A.sl.r_467,
    kernelRun0_A.sl.r_468, kernelRun0_A.sl.r_469, kernelRun0_A.sl.r_470, kernelRun0_A.sl.r_471,
    kernelRun0_A.sl.r_472, kernelRun0_A.sl.r_473, kernelRun0_A.sl.r_474, kernelRun0_A.sl.r_475,
    kernelRun0_A.sl.r_476, kernelRun0_A.sl.r_477, kernelRun0_A.sl.r_478, kernelRun0_A.sl.r_479,
    kernelRun0_A.sl.r_480, kernelRun0_A.sl.r_481, kernelRun0_A.sl.r_482, kernelRun0_A.sl.r_483,
    kernelRun0_A.sl.r_484, kernelRun0_A.sl.r_485, kernelRun0_A.sl.r_486, kernelRun0_A.sl.r_487,
    kernelRun0_A.sl.r_488, kernelRun0_A.sl.r_489, kernelRun0_A.sl.r_490, kernelRun0_A.sl.r_491,
    kernelRun0_A.sl.r_492, kernelRun0_A.sl.r_493, kernelRun0_A.sl.r_494, kernelRun0_A.sl.r_495,
    kernelRun0_A.sl.r_496, kernelRun0_A.sl.r_497, kernelRun0_A.sl.r_498, kernelRun0_A.sl.r_499,
    kernelRun0_A.sl.r_500, kernelRun0_A.sl.r_501, kernelRun0_A.sl.r_502, kernelRun0_A.sl.r_503,
    kernelRun0_A.sl.r_504, kernelRun0_A.sl.r_505, kernelRun0_A.sl.r_506, kernelRun0_A.sl.r_507,
    kernelRun0_A.sl.r_508, kernelRun0_A.sl.r_509, k0_pay576, k0_pay577, k0_pay578, k0_pay579, k0_pay580, k0_pay581,
    k0_pay582, k0_pay583, k0_pay584, k0_pay585, k0_pay586, k0_pay587, k0_pay588, k0_pay589, k0_pay590, k0_pay591,
    k0_pay592, k0_pay593, k0_pay594, k0_pay595, k0_pay596, k0_pay597, k0_pay598, k0_pay599, k0_pay600, k0_pay601,
    k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621,
    k0_pay622, k0_pay623, k0_pay624, k0_pay625, k0_pay626, k0_pay627, k0_pay628, k0_pay629, k0_pay630, k0_pay631,
    k0_pay632, k0_pay633, k0_pay634, k0_pay635, k0_pay636, k0_pay637, k0_pay638, k0_pay639, k0_pay640, k0_pay641,
    k0_pay642, k0_pay643, k0_pay644, k0_pay645, k0_pay646, k0_pay647, k0_pay648, k0_pay649, k0_pay650, k0_pay651,
    k0_pay652, k0_pay653, k0_pay654, k0_pay655, k0_pay656, k0_pay657, k0_pay658, k0_pay659, k0_pay660, k0_pay661,
    k0_pay662, k0_pay663, k0_pay664, k0_pay665, k0_pay666, k0_pay667, k0_pay668, k0_pay669, k0_pay670, k0_pay671,
    k0_pay672, k0_pay673, k0_pay674, k0_pay675, k0_pay676, k0_pay677, k0_pay678, k0_pay679, k0_pay680, k0_pay681,
    k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701,
    k0_pay702, k0_pay703, k0_pay704, k0_pay705, k0_pay706, k0_pay707, k0_pay708, k0_pay709, k0_pay710, k0_pay711,
    k0_pay712, k0_pay713, k0_pay714, k0_pay715, k0_pay716, k0_pay717, k0_pay718, k0_pay719, k0_pay720, k0_pay721,
    k0_pay722, k0_pay723, k0_pay724, k0_pay725, k0_pay726, k0_pay727, k0_pay728, k0_pay729, k0_pay730, k0_pay731,
    k0_pay732, k0_pay733, k0_pay734, k0_pay735, k0_pay736, k0_pay737] <;> rfl

theorem idx3 : kernelRun0_A.sl.r_561 c arg1 harg1 arg2 harg2 arg3 harg3 arg4 harg4 arg5 harg5 arg8 arg9 x0 x1 x2 x3 x4 = vtw (m3 c arg1 harg1 arg2 harg2 arg3 harg3 arg4 harg4 arg5 harg5 arg8 arg9 x0 x1 x2 x3 x4) vid 5 0 := by
  simp only [m3, nth, vtw, vtv, vid, Nat.reduceMul, Nat.reduceAdd, Nat.reduceSub, Nat.reduceDiv, Nat.reducePow,
    kernelRun0_A.sl.r_510, kernelRun0_A.sl.r_511, kernelRun0_A.sl.r_512, kernelRun0_A.sl.r_513,
    kernelRun0_A.sl.r_514, kernelRun0_A.sl.r_515, kernelRun0_A.sl.r_516, kernelRun0_A.sl.r_517,
    kernelRun0_A.sl.r_518, kernelRun0_A.sl.r_519, kernelRun0_A.sl.r_520, kernelRun0_A.sl.r_521,
    kernelRun0_A.sl.r_522, kernelRun0_A.sl.r_523, kernelRun0_A.sl.r_524, kernelRun0_A.sl.r_525,
    kernelRun0_A.sl.r_526, kernelRun0_A.sl.r_527, kernelRun0_A.sl.r_528, kernelRun0_A.sl.r_529,
    kernelRun0_A.sl.r_530, kernelRun0_A.sl.r_531, kernelRun0_A.sl.r_532, kernelRun0_A.sl.r_533,
    kernelRun0_A.sl.r_534, kernelRun0_A.sl.r_535, kernelRun0_A.sl.r_536, kernelRun0_A.sl.r_537,
    kernelRun0_A.sl.r_538, kernelRun0_A.sl.r_539, kernelRun0_A.sl.r_540, kernelRun0_A.sl.r_541,
    kernelRun0_A.sl.r_542, kernelRun0_A.sl.r_543, kernelRun0_A.sl.r_544, kernelRun0_A.sl.r_545,
    kernelRun0_A.sl.r_546, kernelRun0_A.sl.r_547, kernelRun0_A.sl.r_548, kernelRun0_A.sl.r_549,
    kernelRun0_A.sl.r_550, kernelRun0_A.sl.r_551, kernelRun0_A.sl.r_552, kernelRun0_A.sl.r_553,
    kernelRun0_A.sl.r_554, kernelRun0_A.sl.r_555, kernelRun0_A.sl.r_556, kernelRun0_A.sl.r_557,
    kernelRun0_A.sl.r_558, kernelRun0_A.sl.r_559, kernelRun0_A.sl.r_560, kernelRun0_A.sl.r_561,
    kernelRun0_A.sl.r_562, k0_pay738, k0_pay739, k0_pay740, k0_pay741, k0_pay742, k0_pay743, k0_pay744, k0_pay745,
    k0_pay746, k0_pay747, k0_pay748, k0_pay749, k0_pay750, k0_pay751, k0_pay752, k0_pay753, k0_pay754, k0_pay755,
    k0_pay756, k0_pay757, k0_pay758, k0_pay759, k0_pay760, k0_pay761, k0_pay762, k0_pay763, k0_pay764, k0_pay765,
    k0_pay766, k0_pay767, k0_pay768, k0_pay769, k0_pay770, k0_pay771, k0_pay772, k0_pay773, k0_pay774, k0_pay775,
    k0_pay776, k0_pay777, k0_pay778, k0_pay779, k0_pay780, k0_pay781, k0_pay782, k0_pay783, k0_pay784, k0_pay785,
    k0_pay786, k0_pay787, k0_pay788, k0_pay789, k0_pay790, k0_pay791, k0_pay792, k0_pay793, k0_pay794, k0_pay795,
    k0_pay796, k0_pay797, k0_pay798, k0_pay799, k0_pay800, k0_pay801, k0_pay802, k0_pay803, k0_pay804, k0_pay805,
    k0_pay806, k0_pay807, k0_pay808, k0_pay809, k0_pay810, k0_pay811, k0_pay812, k0_pay813, k0_pay814, k0_pay815,
    k0_pay816, k0_pay817, k0_pay818, k0_pay819, k0_pay820, k0_pay821, k0_pay822, k0_pay823, k0_pay824, k0_pay825,
    k0_pay826, k0_pay827, k0_pay828, k0_pay829, k0_pay830, k0_pay831, k0_pay832, k0_pay833, k0_pay834, k0_pay835,
    k0_pay836, k0_pay837, k0_pay838, k0_pay839, k0_pay840, k0_pay841, k0_pay842, k0_pay843, k0_pay844, k0_pay845,
    k0_pay846, k0_pay847, k0_pay848, k0_pay849, k0_pay850, k0_pay851, k0_pay852, k0_pay853, k0_pay854, k0_pay855,
    k0_pay856, k0_pay857, k0_pay858, k0_pay859, k0_pay860, k0_pay861, k0_pay862, k0_pay863, k0_pay864]

theorem sel3 : kernelRun0_A.sl.r_562 c arg1 harg1 arg2 harg2 arg3 harg3 arg4 harg4 arg5 harg5 arg8 arg9 x0 x1 x2 x3 x4 = vtw (m3 c arg1 harg1 arg2 harg2 arg3 harg3 arg4 harg4 arg5 harg5 arg8 arg9 x0 x1 x2 x3 x4) (sc c arg1 harg1 arg3 harg3 arg4 harg4 arg5 harg5 arg8 arg9 x0 x2 x3 x4) 5 0 := by
  simp only [m3, sc, nth, vtw, vtv, Nat.reduceMul, Nat.reduceAdd, Nat.reduceSub, Nat.reduceDiv, Nat.reducePow,
    kernelRun0_A.sl.r_510, kernelRun0_A.sl.r_511, kernelRun0_A.sl.r_512, kernelRun0_A.sl.r_513,
    kernelRun0_A.sl.r_514, kernelRun0_A.sl.r_515, kernelRun0_A.sl.r_516, kernelRun0_A.sl.r_517,
    kernelRun0_A.sl.r_518, kernelRun0_A.sl.r_519, kernelRun0_A.sl.r_520, kernelRun0_A.sl.r_521,
    kernelRun0_A.sl.r_522, kernelRun0_A.sl.r_523, kernelRun0_A.sl.r_524, kernelRun0_A.sl.r_525,
    kernelRun0_A.sl.r_526, kernelRun0_A.sl.r_527, kernelRun0_A.sl.r_528, kernelRun0_A.sl.r_529,
    kernelRun0_A.sl.r_530, kernelRun0_A.sl.r_531, kernelRun0_A.sl.r_532, kernelRun0_A.sl.r_533,
    kernelRun0_A.sl.r_534, kernelRun0_A.sl.r_535, kernelRun0_A.sl.r_536, kernelRun0_A.sl.r_537,
    kernelRun0_A.sl.r_538, kernelRun0_A.sl.r_539, kernelRun0_A.sl.r_540, kernelRun0_A.sl.r_541,
    kernelRun0_A.sl.r_542, kernelRun0_A.sl.r_543, kernelRun0_A.sl.r_544, kernelRun0_A.sl.r_545,
    kernelRun0_A.sl.r_546, kernelRun0_A.sl.r_547, kernelRun0_A.sl.r_548, kernelRun0_A.sl.r_549,
    kernelRun0_A.sl.r_550, kernelRun0_A.sl.r_551, kernelRun0_A.sl.r_552, kernelRun0_A.sl.r_553,
    kernelRun0_A.sl.r_554, kernelRun0_A.sl.r_555, kernelRun0_A.sl.r_556, kernelRun0_A.sl.r_557,
    kernelRun0_A.sl.r_558, kernelRun0_A.sl.r_559, kernelRun0_A.sl.r_560, kernelRun0_A.sl.r_561,
    kernelRun0_A.sl.r_562, k0_pay738, k0_pay739, k0_pay740, k0_pay741, k0_pay742, k0_pay743, k0_pay744, k0_pay745,
    k0_pay746, k0_pay747, k0_pay748, k0_pay749, k0_pay750, k0_pay751, k0_pay752, k0_pay753, k0_pay754, k0_pay755,
    k0_pay756, k0_pay757, k0_pay758, k0_pay759, k0_pay760, k0_pay761, k0_pay762, k0_pay763, k0_pay764, k0_pay765,
    k0_pay766, k0_pay767, k0_pay768, k0_pay769, k0_pay770, k0_pay771, k0_pay772, k0_pay773, k0_pay774, k0_pay775,
    k0_pay776, k0_pay777, k0_pay778, k0_pay779, k0_pay780, k0_pay781, k0_pay782, k0_pay783, k0_pay784, k0_pay785,
    k0_pay786, k0_pay787, k0_pay788, k0_pay789, k0_pay790, k0_pay791, k0_pay792, k0_pay793, k0_pay794, k0_pay795,
    k0_pay796, k0_pay797, k0_pay798, k0_pay799, k0_pay800, k0_pay801, k0_pay802, k0_pay803, k0_pay804, k0_pay805,
    k0_pay806, k0_pay807, k0_pay808, k0_pay809, k0_pay810, k0_pay811, k0_pay812, k0_pay813, k0_pay814, k0_pay815,
    k0_pay816, k0_pay817, k0_pay818, k0_pay819, k0_pay820, k0_pay821, k0_pay822, k0_pay823, k0_pay824, k0_pay825,
    k0_pay826, k0_pay827, k0_pay828, k0_pay829, k0_pay830, k0_pay831, k0_pay832, k0_pay833, k0_pay834, k0_pay835,
    k0_pay836, k0_pay837, k0_pay838, k0_pay839, k0_pay840, k0_pay841, k0_pay842, k0_pay843, k0_pay844, k0_pay845,
    k0_pay846, k0_pay847, k0_pay848, k0_pay849, k0_pay850, k0_pay851, k0_pay852, k0_pay853, k0_pay854, k0_pay855,
    k0_pay856, k0_pay857, k0_pay858, k0_pay859, k0_pay860, k0_pay861, k0_pay862, k0_pay863, k0_pay864]

theorem tot : kernelRun0_A.sl.r_563 c arg1 harg1 arg2 harg2 arg3 harg3 arg4 harg4 arg5 harg5 arg8 arg9 x0 x1 x2 x3 x4 = addf (addf (addf (kernelRun0_A.sl.r_299 c arg1 harg1 arg2 harg2 arg3 harg3 arg4 harg4 arg5 harg5 arg8 arg9 x0 x1 x2 x3 x4) (kernelRun0_A.sl.r_384 c arg1 harg1 arg2 harg2 arg3 harg3 arg4 harg4 arg5 harg5 arg8 arg9 x0 x1 x2 x3 x4)) (kernelRun0_A.sl.r_474 c arg1 harg1 arg2 harg2 arg3 harg3 arg4 harg4 arg5 harg5 arg8 arg9 x0 x1 x2 x3 x4)) (kernelRun0_A.sl.r_562 c arg1 harg1 arg2 harg2 arg3 harg3 arg4 harg4 arg5 harg5 arg8 arg9 x0 x1 x2 x3 x4) := by
  simp only [Nat.reduceMul, Nat.reduceAdd, Nat.reduceSub, Nat.reduceDiv, Nat.reducePow, kernelRun0_A.sl.r_562,
    kernelRun0_A.sl.r_563, k0_pay846, k0_pay847, k0_pay848, k0_pay849, k0_pay850, k0_pay851, k0_pay852, k0_pay853,
    k0_pay854, k0_pay855, k0_pay856, k0_pay857, k0_pay858, k0_pay859, k0_pay860, k0_pay861, k0_pay862, k0_pay864,
    k0_pay865]

end Cert.RouteA
-- ==== Proof.Route.lean ====
/- The routing half of the router, one token at a time: the vectors of `Model` hold, for each token, the choices and
   scores of `Spec`. -/
module

public import proofs.«01_k».proof.Proof.Model
public import proofs.«01_k».proof.Proof.Groups

@[expose] public section

noncomputable section

namespace Cert.Model

open Idealize.ShloMosaic Idealize.ShloMosaic.ValueKit Cert.KernelIdeal Cert.KernelIdeal.Gen Cert.Rank Cert.Spec

/-- The least finite number. -/
def low : EReal := Ideal.ofBits .f32 0xFF7FFFFF#32

theorem bot_lt_low : ⊥ < low := by
  have h : low = ((-(16777215 * 2 ^ 104) : ℝ) : EReal) := by
    simp [low, Ideal.ofBits, Ideal.ieee]
  rw [h]
  exact EReal.bot_lt_coe _

theorem vtv_at (m : ℕ → V) (p : S8x128.Idx) : ∀ d o, vtv m d o p = tv (fun e => m e p) d o
  | 0, _ => rfl
  | d + 1, o => by
    show max (vtv m d o p) (vtv m d (o + 2 ^ d) p) = _
    rw [vtv_at m p d o, vtv_at m p d (o + 2 ^ d)]; rfl

theorem vtw_at {β : Type} (m : ℕ → V) (x : ℕ → S8x128.Idx → β) (p : S8x128.Idx) :
    ∀ d o, vtw m x d o p = tw (fun e => m e p) (fun e => x e p) d o
  | 0, _ => rfl
  | d + 1, o => by
    rw [tw, ← vtv_at, ← vtv_at, ← vtw_at m x p d o, ← vtw_at m x p d (o + 2 ^ d)]
    show (if BitVec.ofBool (decide (vtv m d o p < vtv m d (o + 2 ^ d) p)) = 1#1 then _ else _) = _
    by_cases h : vtv m d o p < vtv m d (o + 2 ^ d) p <;> simp [h]

theorem tv_congr {m m' : ℕ → EReal} : ∀ d o, (∀ e, e < o + 2 ^ d → m e = m' e) → tv m d o = tv m' d o
  | 0, o, h => h o (by simp)
  | d + 1, o, h => by
    rw [tv, tv, tv_congr d o fun e he => h e (he.trans_le (by rw [pow_succ]; omega)),
      tv_congr d (o + 2 ^ d) fun e he => h e (he.trans_le (by rw [pow_succ]; omega))]

theorem tw_congr {β : Type} {m m' : ℕ → EReal} {x x' : ℕ → β} :
    ∀ d o, (∀ e, e < o + 2 ^ d → m e = m' e) → (∀ e, e < o + 2 ^ d → x e = x' e) → tw m x d o = tw m' x' d o
  | 0, o, _, h => h o (by simp)
  | d + 1, o, h, h' => by
    have hl : ∀ e, e < o + 2 ^ d → e < o + 2 ^ (d + 1) := fun e he => he.trans_le (by rw [pow_succ]; omega)
    have hr : ∀ e, e < o + 2 ^ d + 2 ^ d → e < o + 2 ^ (d + 1) := fun e he => he.trans_le (by rw [pow_succ]; omega)
    rw [tw, tw, tv_congr d o fun e he => h e (hl e he), tv_congr d (o + 2 ^ d) fun e he => h e (hr e he),
      tw_congr d o (fun e he => h e (hl e he)) fun e he => h' e (hl e he),
      tw_congr d (o + 2 ^ d) (fun e he => h e (hr e he)) fun e he => h' e (hr e he)]

/-- What the rounds choose among: the choices of the best groups, the least number elsewhere. -/
def base (C : ℕ → EReal) (e : ℕ) : EReal := max (kept C e) low

theorem kept_cases {C : ℕ → EReal} (hC : ∀ e, C e = ⊥ ∨ low < C e) (e : ℕ) : kept C e = ⊥ ∨ low < kept C e := by
  unfold kept
  split_ifs
  · exact hC e
  · exact .inl rfl

theorem bot_lt_base (C : ℕ → EReal) (e : ℕ) : ⊥ < base C e := bot_lt_low.trans_le (le_max_right _ _)

theorem rank_kept {C : ℕ → EReal} (hC : ∀ e, C e = ⊥ ∨ low < C e) {r e : ℕ} (hr : r < 32) (he : e < 32) :
    rank 32 (kept C) e = r ↔ e = pick (base C) r := by
  rw [← rank_max low bot_lt_low 32 (kept C) (kept_cases hC) e]
  exact rank_eq_iff (base C) (bot_lt_base C) r hr e he

theorem ids_pick {C : ℕ → EReal} (hC : ∀ e, C e = ⊥ ∨ low < C e) {r : ℕ} (hr : r < 32) :
    ids C r = BitVec.ofNat 32 (pick (base C) r) := by
  have hf : ∀ S : Finset (Fin 32), Finset.fold IntOp.addi 0#32
      (fun e : Fin 32 => if rank 32 (kept C) e = r then BitVec.ofNat 32 e else 0#32) S
      = if (⟨pick (base C) r, pick_lt _ r⟩ : Fin 32) ∈ S then BitVec.ofNat 32 (pick (base C) r) else 0#32 := by
    intro S
    induction S using Finset.induction_on with
    | empty => rfl
    | insert a S ha ih =>
      rw [Finset.fold_insert ha, ih]
      simp only [rank_kept hC hr a.2, Finset.mem_insert]
      by_cases h : a.val = pick (base C) r
      · have h' : (⟨pick (base C) r, pick_lt _ r⟩ : Fin 32) = a := Fin.ext h.symm
        simp [h', ha, h, IntOp.addi]
      · have h' : ¬ (⟨pick (base C) r, pick_lt _ r⟩ : Fin 32) = a := fun h' => h (congrArg Fin.val h').symm
        simp [h', h, IntOp.addi]
  rw [ids, hf]
  simp

theorem sel_pick (S : ℕ → EReal) {C : ℕ → EReal} (hC : ∀ e, C e = ⊥ ∨ low < C e) {r : ℕ} (hr : r < 32) :
    sel S C r = S (pick (base C) r) := by
  rw [← sum_rank (base C) (bot_lt_base C) r hr S, sel]
  exact Finset.sum_congr rfl fun e _ => by
    rw [show rank 32 (base C) e = rank 32 (kept C) e from rank_max low bot_lt_low 32 (kept C) (kept_cases hC) e]

section Token

variable {sc ch gr m0 m1 m2 m3 : ℕ → V} {rk : ℕ → VI} (p : S8x128.Idx) {S C : ℕ → EReal}

theorem vgroup_at (hch : ∀ e < 32, ch e p = C e) {g : ℕ} (hg : g < 8) : vgroup ch g p = best2 C g := by
  rw [best2, best_two fun k => C (g * 4 + k)]
  show max (max (ch (4 * g) p) (ch (4 * g + 1) p)) (max (ch (4 * g + 2) p) (ch (4 * g + 3) p))
    + max (min (max (ch (4 * g) p) (ch (4 * g + 1) p)) (max (ch (4 * g + 2) p) (ch (4 * g + 3) p)))
        (max (min (ch (4 * g) p) (ch (4 * g + 1) p)) (min (ch (4 * g + 2) p) (ch (4 * g + 3) p))) = _
  rw [hch _ (by omega), hch _ (by omega), hch _ (by omega), hch _ (by omega), mul_comm 4 g]
  rfl

theorem vbit_at (a b : V) : vbit a b p = bit (b p ≤ a p) := by
  show BitVec.setWidth 32 (BitVec.ofBool (decide (b p ≤ a p))) = _
  by_cases h : b p ≤ a p <;> simp [h, bit]

theorem foldl_at {α : Type} (f : VI → α → VI) (f' : BitVec 32 → α → BitVec 32) (h : ∀ r a, f r a p = f' (r p) a) :
    ∀ (l : List α) (r : VI), l.foldl f r p = l.foldl f' (r p)
  | [], _ => rfl
  | a :: l, r => by rw [List.foldl_cons, List.foldl_cons, foldl_at f f' h l, h]

theorem vgrank_at {s : ℕ → V} {g : ℕ} : vgrank s g p = grank (fun g => s g p) g := by
  unfold vgrank grank
  rw [foldl_at p _ (fun r k => r - bit (s (g + 1 + k) p ≤ s g p)), foldl_at p _ (fun r h => r + bit (s g p ≤ s h p))]
  · rfl
  · intro r h
    rw [← vbit_at]; rfl
  · intro r k
    rw [← vbit_at]; rfl

theorem m0_at (hgr : ∀ g < 8, gr g = vgroup ch g) (hrk : ∀ g < 8, rk g = vgrank gr g)
    (hm0 : ∀ e < 32, m0 e = vkept rk ch e) (hch : ∀ e < 32, ch e p = C e) {e : ℕ} (he : e < 32) :
    m0 e p = base C e := by
  have hg : e / 4 < 8 := by omega
  have hr : rk (e / 4) p = BitVec.ofNat 32 (rank 8 (best2 C) (e / 4)) := by
    rw [hrk _ hg, vgrank_at, grank_eq _ _ hg]
    congr 1
    refine rank_congr fun k hk => ?_
    have h1 : gr k p = best2 C k := by rw [hgr k hk, vgroup_at p hch hk]
    have h2 : gr (e / 4) p = best2 C (e / 4) := by rw [hgr _ hg, vgroup_at p hch hg]
    simp only [Before, h1, h2]
  rw [hm0 e he]
  show (if IntOp.cmpi .slt (rk (e / 4) p) (BitVec.ofNat 32 4) = 1#1 then max (ch e p) low else low) = _
  have hlt : rank 8 (best2 C) (e / 4) < 8 := rank_lt_n hg
  rw [hr, slt_lit (by omega) (by omega), hch e he, base, kept]
  by_cases h : rank 8 (best2 C) (e / 4) < 4 <;> simp [h]

theorem mask_at {m m' : ℕ → V} {r : ℕ} (hm' : ∀ e < 32, m' e = vmask m (vtw m vid 5 0) e)
    (hm : ∀ e < 32, m e p = masked (base C) r e) {e : ℕ} (he : e < 32) : m' e p = masked (base C) (r + 1) e := by
  rw [hm' e he]
  show (if IntOp.cmpi .eq (vtw m vid 5 0 p) (BitVec.ofNat 32 e) = 1#1 then Ideal.ofBits .f32 0xFF800000#32 else m e p) = _
  have hi : vtw m vid 5 0 p = BitVec.ofNat 32 (tw (masked (base C) r) id 5 0) := by
    rw [vtw_at, tw_congr 5 0 (fun e he => hm e (by simpa using he)) fun _ _ => rfl, tw_eq]; rfl
  have hlt : tw (masked (base C) r) id 5 0 < 32 := pick_lt (base C) r
  have hb : Ideal.ofBits .f32 0xFF800000#32 = ⊥ := by simp [Ideal.ofBits, Ideal.ieee]
  rw [hi, eq_lit (by omega) (by omega), hb, hm e he, masked]
  by_cases h : tw (masked (base C) r) id 5 0 = e <;> simp [h]

theorem idx_at (hC : ∀ e, C e = ⊥ ∨ low < C e) {m : ℕ → V} {r : ℕ} (hr : r < 32)
    (hm : ∀ e < 32, m e p = masked (base C) r e) : vtw m vid 5 0 p = ids C r := by
  rw [ids_pick hC hr, vtw_at, tw_congr 5 0 (fun e he => hm e (by simpa using he)) fun _ _ => rfl, tw_eq]; rfl

theorem sel_at (hC : ∀ e, C e = ⊥ ∨ low < C e) (hsc : ∀ e < 32, sc e p = S e) {m : ℕ → V} {r : ℕ} (hr : r < 32)
    (hm : ∀ e < 32, m e p = masked (base C) r e) : vtw m sc 5 0 p = sel S C r := by
  rw [sel_pick S hC hr, vtw_at, tw_congr 5 0 (fun e he => hm e (by simpa using he)) (fun e he => hsc e (by simpa using he)),
    tw_eq]; rfl

end Token

end Cert.Model
-- ==== Proof.Combine.lean ====
/- The router's body put together over one tile of tokens: from the words it computes to the block of ids and the block of weights. -/
module

public import proofs.«01_k».proof.Proof.Route
public import proofs.«01_k».proof.Proof.Tile2

@[expose] public section

noncomputable section

namespace Cert.Model

open Idealize.ShloMosaic Idealize.ShloMosaic.ValueKit Cert.KernelIdeal Cert.KernelIdeal.Gen Cert.Spec Cert.Rank

/-- A vector of ids, as stored. -/
def iq (i : VI) : VI := shapeCast S8x128 i shapeCasts_S8x128_S8x128

/-- A vector of weights, as stored. -/
def wq (s t : V) : V :=
  shapeCast S8x128 (mulf (divf s t) (broadcast S8x128 (Scalar.ofBits .f32 0x40200000#32 : Ideal .f32))) shapeCasts_S8x128_S8x128

/-- What the routing half of the body computes, as equations between its words. -/
structure Routed (x0 x1 : Vec Ideal S32 .f32) (lo sc ch gr m0 m1 m2 m3 : ℕ → V) (rk : ℕ → VI) (i0 i1 i2 i3 : VI) (s0 s1 s2 s3 t : V) : Prop where
  sc_eq : ∀ e < 32, sc e = vscore (lo e) (x0 (ix1 (Fin.ofNat 32 e)))
  ch_eq : ∀ e < 32, ch e = vchoice (sc e) (x1 (ix1 (Fin.ofNat 32 e)))
  gr_eq : ∀ g < 8, gr g = vgroup ch g
  rk_eq : ∀ g < 8, rk g = vgrank gr g
  m0_eq : ∀ e < 32, m0 e = vkept rk ch e
  idx0 : i0 = vtw m0 vid 5 0
  sel0 : s0 = vtw m0 sc 5 0
  m1_eq : ∀ e < 32, m1 e = vmask m0 i0 e
  idx1 : i1 = vtw m1 vid 5 0
  sel1 : s1 = vtw m1 sc 5 0
  m2_eq : ∀ e < 32, m2 e = vmask m1 i1 e
  idx2 : i2 = vtw m2 vid 5 0
  sel2 : s2 = vtw m2 sc 5 0
  m3_eq : ∀ e < 32, m3 e = vmask m2 i2 e
  idx3 : i3 = vtw m3 vid 5 0
  sel3 : s3 = vtw m3 sc 5 0
  tot : t = addf (addf (addf s0 s1) s2) s3

/-- The score of expert `e` from its logit. -/
def scoreOf (x0 : Vec Ideal S32 .f32) (L : ℕ → EReal) (e : ℕ) : EReal := Ideal.div 1 (1 + Ideal.exp (-(L e * x0 (ix1 (Fin.ofNat 32 e)))))

/-- The score with its bias. -/
def choiceOf (x0 x1 : Vec Ideal S32 .f32) (L : ℕ → EReal) (e : ℕ) : EReal := scoreOf x0 L e + x1 (ix1 (Fin.ofNat 32 e))

variable {x0 x1 : Vec Ideal S32 .f32} {lo sc ch gr m0 m1 m2 m3 : ℕ → V} {rk : ℕ → VI} {i0 i1 i2 i3 : VI} {s0 s1 s2 s3 t : V}

/-- The ids and the weights of the token at `p`. -/
theorem Routed.at (h : Routed x0 x1 lo sc ch gr m0 m1 m2 m3 rk i0 i1 i2 i3 s0 s1 s2 s3 t) (p : S8x128.Idx) {L : ℕ → EReal}
    (hlo : ∀ e < 32, lo e p = L e) (hC : ∀ e, choiceOf x0 x1 L e = ⊥ ∨ low < choiceOf x0 x1 L e) :
    (∀ j : Fin 4, (![iq i0, iq i1, iq i2, iq i3] : Fin 4 → VI) j p = ids (choiceOf x0 x1 L) j) ∧
    (∀ j : Fin 4, (![wq s0 t, wq s1 t, wq s2 t, wq s3 t] : Fin 4 → V) j p = wt (scoreOf x0 L) (choiceOf x0 x1 L) j) := by
  obtain ⟨a1, a2, a3, a4, a5, b0, c0, d1, b1, c1, d2, b2, c2, d3, b3, c3, ht⟩ := h
  subst b0 b1 b2 b3
  have hsc : ∀ e < 32, sc e p = scoreOf x0 L e := by
    intro e he
    rw [a1 e he]
    show Ideal.div 1 (1 + Ideal.exp (-(lo e p * x0 (ix1 (Fin.ofNat 32 e))))) = _
    rw [hlo e he]; rfl
  have hch : ∀ e < 32, ch e p = choiceOf x0 x1 L e := by
    intro e he
    rw [a2 e he]
    show sc e p + x1 (ix1 (Fin.ofNat 32 e)) = _
    rw [hsc e he]; rfl
  have k0 : ∀ e < 32, m0 e p = masked (base (choiceOf x0 x1 L)) 0 e := fun e he => (m0_at p a3 a4 a5 hch he).trans rfl
  have k1 : ∀ e < 32, m1 e p = masked (base (choiceOf x0 x1 L)) 1 e := fun e he => mask_at p d1 k0 he
  have k2 : ∀ e < 32, m2 e p = masked (base (choiceOf x0 x1 L)) 2 e := fun e he => mask_at p d2 k1 he
  have k3 : ∀ e < 32, m3 e p = masked (base (choiceOf x0 x1 L)) 3 e := fun e he => mask_at p d3 k2 he
  have l0 : s0 p = sel (scoreOf x0 L) (choiceOf x0 x1 L) 0 := by rw [c0]; exact sel_at p hC hsc (by decide) k0
  have l1 : s1 p = sel (scoreOf x0 L) (choiceOf x0 x1 L) 1 := by rw [c1]; exact sel_at p hC hsc (by decide) k1
  have l2 : s2 p = sel (scoreOf x0 L) (choiceOf x0 x1 L) 2 := by rw [c2]; exact sel_at p hC hsc (by decide) k2
  have l3 : s3 p = sel (scoreOf x0 L) (choiceOf x0 x1 L) 3 := by rw [c3]; exact sel_at p hC hsc (by decide) k3
  have lt : t p = ∑ i : Fin 4, sel (scoreOf x0 L) (choiceOf x0 x1 L) i := by
    rw [ht, Fin.sum_univ_four]
    show s0 p + s1 p + s2 p + s3 p = _
    rw [l0, l1, l2, l3]; rfl
  have hi : ∀ i : VI, iq i p = i p := fun i => _root_.Idealize.ShloMosaic.shapeCast_apply i _ p p rfl
  have hw : ∀ s : V, wq s t p = Ideal.div (s p) (t p) * Ideal.ofBits .f32 0x40200000#32 := fun s =>
    (_root_.Idealize.ShloMosaic.shapeCast_apply _ _ p p rfl).trans rfl
  constructor
  · intro j
    match j with
    | 0 => exact (hi _).trans (idx_at p hC (by decide) k0)
    | 1 => exact (hi _).trans (idx_at p hC (by decide) k1)
    | 2 => exact (hi _).trans (idx_at p hC (by decide) k2)
    | 3 => exact (hi _).trans (idx_at p hC (by decide) k3)
  · intro j
    match j with
    | 0 => exact (hw _).trans (by rw [l0, lt]; rfl)
    | 1 => exact (hw _).trans (by rw [l1, lt]; rfl)
    | 2 => exact (hw _).trans (by rw [l2, lt]; rfl)
    | 3 => exact (hw _).trans (by rw [l3, lt]; rfl)

variable {e : EltTy}

/-- Where token `y 2` of a block stands in the tile. -/
def tok (y : S1x4x1024.Idx) : S8x128.Idx := ix2 (Fin.ofNat 8 ((y 2 : ℕ) / 128)) (Fin.ofNat 128 (y 2))

/-- Four vectors stored by ranks, read at rank `y 1` of token `y 2`. -/
theorem rows4_rankRow (w0 w1 w2 w3 : S8x128.Idx → Elt Ideal e) (i0 i1 i2 i3 s0 s1 s2 s3) (y : S1x4x1024.Idx) :
    View.canon (Val := Elt Ideal) (s := S32x128) (e := e)
      [⟨{ off := ![3, 0], size := S8x128.size, stride := ![4, 1], inb := i3, stride_pos := s3 }, w3⟩,
       ⟨{ off := ![2, 0], size := S8x128.size, stride := ![4, 1], inb := i2, stride_pos := s2 }, w2⟩,
       ⟨{ off := ![1, 0], size := S8x128.size, stride := ![4, 1], inb := i1, stride_pos := s1 }, w1⟩,
       ⟨{ off := ![0, 0], size := S8x128.size, stride := ![4, 1], inb := i0, stride_pos := s0 }, w0⟩] (rankRow y)
      = (![w0, w1, w2, w3] : Fin 4 → S8x128.Idx → Elt Ideal e) (y 1) (tok y) := by
  have y1 : (y 1 : ℕ) < 4 := (y 1).isLt
  have y2 : (y 2 : ℕ) < 1024 := (y 2).isLt
  rw [rows4]
  have ea : (Fin.ofNat 4 (rankRow y 0) : Fin 4) = y 1 := by
    refine Fin.ext ?_
    show ((4 * ((y 2 : ℕ) / 128) + (y 1 : ℕ)) % 32) % 4 = y 1
    omega
  have eb : (ix2 (Fin.ofNat 8 ((rankRow y 0 : ℕ) / 4)) (rankRow y 1) : S8x128.Idx) = tok y := by
    funext a
    match a with
    | 0 =>
      refine Fin.ext ?_
      show ((4 * ((y 2 : ℕ) / 128) + (y 1 : ℕ)) % 32) / 4 % 8 = (y 2 : ℕ) / 128 % 8
      omega
    | 1 => rfl
  exact congrArg₂ (![w0, w1, w2, w3] : Fin 4 → S8x128.Idx → Elt Ideal e) ea eb

/-- Rows of experts, read back one expert at a time. -/
theorem read36 {κ : Kind} {sp : Space} (M : View sig κ sp S288x128 e) (P : Fin 8 → S32x128.Idx → Elt Ideal e) (i0 i1 i2 i3 i4 i5 i6 i7)
    (H : List (View.Piece (Elt Ideal) S288x128 e)) (hH : H =
      [⟨Rect.unit ![252, 0] S32x128.size i7, P 7⟩, ⟨Rect.unit ![216, 0] S32x128.size i6, P 6⟩,
       ⟨Rect.unit ![180, 0] S32x128.size i5, P 5⟩, ⟨Rect.unit ![144, 0] S32x128.size i4, P 4⟩,
       ⟨Rect.unit ![108, 0] S32x128.size i3, P 3⟩, ⟨Rect.unit ![72, 0] S32x128.size i2, P 2⟩,
       ⟨Rect.unit ![36, 0] S32x128.size i1, P 1⟩, ⟨Rect.unit ![0, 0] S32x128.size i0, P 0⟩])
    (k : ℕ) (hk : k < 32) (inb) (p : S8x128.Idx) :
    M.readCov H ({ off := ![k, 0], size := S8x128.size, stride := ![36, 1], inb := inb } : LoadRect S288x128) p
      = P (p 0) (ix2 (Fin.ofNat 32 k) (p 1)) := by
  have p0 : (p 0 : ℕ) < 8 := (p 0).isLt
  rw [View.readCov_eq_canon', hH]
  refine (rows36 P i0 i1 i2 i3 i4 i5 i6 i7 _ (p 0) (Fin.ofNat 32 k) ?_).trans ?_
  · show k + 36 * (p 0 : ℕ) = k % 32 + 36 * (p 0 : ℕ)
    omega
  · congr 2
    refine Fin.ext ?_
    show 0 + 1 * (p 1 : ℕ) = p 1
    omega

end Cert.Model
-- ==== Proof.OutA.lean ====
/- The blocks the router's body stores at the first step, which also widens the weights. -/
module

public import proofs.«01_k».proof.Proof.RouteA
public import proofs.«01_k».proof.Proof.Combine
public import proofs.«01_k».proof.Proof.WideA

@[expose] public section

set_option maxRecDepth 16384

noncomputable section

namespace Cert.RouteA

open Idealize.ShloMosaic Idealize.ShloMosaic.ValueKit Cert.KernelIdeal Cert.KernelIdeal.Gen Cert.Model Cert.Spec

variable (c : Dev nD) (i : grid0.Coords) (arg1 : Memref sig .tc .smem S32 .f32) (harg1 : arg1.IsWhole) (arg2 : Memref sig .tc .smem S32 .f32) (harg2 : arg2.IsWhole) (arg3 : Memref sig .tc .vmem S1024x2816 .fp8e4m3) (harg3 : arg3.IsWhole) (arg4 : Memref sig .tc .vmem S1x22x1024 .f32) (harg4 : arg4.IsWhole) (arg5 : Memref sig .tc .vmem S32x2816 .fp8e4m3) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S11x64x256 .bf16) (harg8 : arg8.IsWhole) (arg9 : Memref sig .tc .vmem S288x128 .f32) (harg9 : arg9.IsWhole) (arg10 : Memref sig .tc .vmem S32x128 .i32) (harg10 : arg10.IsWhole) (arg11 : Memref sig .tc .vmem S32x128 .f32) (harg11 : arg11.IsWhole) (hc0 : cond0_0 i)
  (x0 : Vec Ideal S32 .f32) (x1 : Vec Ideal S32 .f32) (x2 : Vec Ideal S1024x2816 .fp8e4m3) (x3 : Vec Ideal S1x22x1024 .f32) (x4 : Vec Ideal S32x2816 .fp8e4m3)

theorem routed : Routed x0 x1 (lo c arg3 harg3 arg4 harg4 arg5 harg5 arg8 arg9 x2 x3 x4) (sc c arg1 harg1 arg3 harg3 arg4 harg4 arg5 harg5 arg8 arg9 x0 x2 x3 x4) (ch c arg1 harg1 arg2 harg2 arg3 harg3 arg4 harg4 arg5 harg5 arg8 arg9 x0 x1 x2 x3 x4) (gr c arg1 harg1 arg2 harg2 arg3 harg3 arg4 harg4 arg5 harg5 arg8 arg9 x0 x1 x2 x3 x4)
    (m0 c arg1 harg1 arg2 harg2 arg3 harg3 arg4 harg4 arg5 harg5 arg8 arg9 x0 x1 x2 x3 x4) (m1 c arg1 harg1 arg2 harg2 arg3 harg3 arg4 harg4 arg5 harg5 arg8 arg9 x0 x1 x2 x3 x4) (m2 c arg1 harg1 arg2 harg2 arg3 harg3 arg4 harg4 arg5 harg5 arg8 arg9 x0 x1 x2 x3 x4) (m3 c arg1 harg1 arg2 harg2 arg3 harg3 arg4 harg4 arg5 harg5 arg8 arg9 x0 x1 x2 x3 x4) (rk c arg1 harg1 arg2 harg2 arg3 harg3 arg4 harg4 arg5 harg5 arg8 arg9 x0 x1 x2 x3 x4)
    (kernelRun0_A.sl.r_298 c arg1 harg1 arg2 harg2 arg3 harg3 arg4 harg4 arg5 harg5 arg8 arg9 x0 x1 x2 x3 x4) (kernelRun0_A.sl.r_383 c arg1 harg1 arg2 harg2 arg3 harg3 arg4 harg4 arg5 harg5 arg8 arg9 x0 x1 x2 x3 x4) (kernelRun0_A.sl.r_473 c arg1 harg1 arg2 harg2 arg3 harg3 arg4 harg4 arg5 harg5 arg8 arg9 x0 x1 x2 x3 x4) (kernelRun0_A.sl.r_561 c arg1 harg1 arg2 harg2 arg3 harg3 arg4 harg4 arg5 harg5 arg8 arg9 x0 x1 x2 x3 x4) (kernelRun0_A.sl.r_299 c arg1 harg1 arg2 harg2 arg3 harg3 arg4 harg4 arg5 harg5 arg8 arg9 x0 x1 x2 x3 x4) (kernelRun0_A.sl.r_384 c arg1 harg1 arg2 harg2 arg3 harg3 arg4 harg4 arg5 harg5 arg8 arg9 x0 x1 x2 x3 x4) (kernelRun0_A.sl.r_474 c arg1 harg1 arg2 harg2 arg3 harg3 arg4 harg4 arg5 harg5 arg8 arg9 x0 x1 x2 x3 x4) (kernelRun0_A.sl.r_562 c arg1 harg1 arg2 harg2 arg3 harg3 arg4 harg4 arg5 harg5 arg8 arg9 x0 x1 x2 x3 x4) (kernelRun0_A.sl.r_563 c arg1 harg1 arg2 harg2 arg3 harg3 arg4 harg4 arg5 harg5 arg8 arg9 x0 x1 x2 x3 x4) :=
  ⟨sc_eq c arg1 harg1 arg3 harg3 arg4 harg4 arg5 harg5 arg8 arg9 x0 x2 x3 x4, ch_eq c arg1 harg1 arg2 harg2 arg3 harg3 arg4 harg4 arg5 harg5 arg8 arg9 x0 x1 x2 x3 x4, gr_eq c arg1 harg1 arg2 harg2 arg3 harg3 arg4 harg4 arg5 harg5 arg8 arg9 x0 x1 x2 x3 x4, rk_eq c arg1 harg1 arg2 harg2 arg3 harg3 arg4 harg4 arg5 harg5 arg8 arg9 x0 x1 x2 x3 x4, m0_eq c arg1 harg1 arg2 harg2 arg3 harg3 arg4 harg4 arg5 harg5 arg8 arg9 x0 x1 x2 x3 x4,
    idx0 c arg1 harg1 arg2 harg2 arg3 harg3 arg4 harg4 arg5 harg5 arg8 arg9 x0 x1 x2 x3 x4, sel0 c arg1 harg1 arg2 harg2 arg3 harg3 arg4 harg4 arg5 harg5 arg8 arg9 x0 x1 x2 x3 x4, m1_eq c arg1 harg1 arg2 harg2 arg3 harg3 arg4 harg4 arg5 harg5 arg8 arg9 x0 x1 x2 x3 x4, idx1 c arg1 harg1 arg2 harg2 arg3 harg3 arg4 harg4 arg5 harg5 arg8 arg9 x0 x1 x2 x3 x4, sel1 c arg1 harg1 arg2 harg2 arg3 harg3 arg4 harg4 arg5 harg5 arg8 arg9 x0 x1 x2 x3 x4, m2_eq c arg1 harg1 arg2 harg2 arg3 harg3 arg4 harg4 arg5 harg5 arg8 arg9 x0 x1 x2 x3 x4,
    idx2 c arg1 harg1 arg2 harg2 arg3 harg3 arg4 harg4 arg5 harg5 arg8 arg9 x0 x1 x2 x3 x4, sel2 c arg1 harg1 arg2 harg2 arg3 harg3 arg4 harg4 arg5 harg5 arg8 arg9 x0 x1 x2 x3 x4, m3_eq c arg1 harg1 arg2 harg2 arg3 harg3 arg4 harg4 arg5 harg5 arg8 arg9 x0 x1 x2 x3 x4, idx3 c arg1 harg1 arg2 harg2 arg3 harg3 arg4 harg4 arg5 harg5 arg8 arg9 x0 x1 x2 x3 x4, sel3 c arg1 harg1 arg2 harg2 arg3 harg3 arg4 harg4 arg5 harg5 arg8 arg9 x0 x1 x2 x3 x4, tot c arg1 harg1 arg2 harg2 arg3 harg3 arg4 harg4 arg5 harg5 arg8 arg9 x0 x1 x2 x3 x4⟩

theorem stored_rows : (kernelRun0_A.sl.HS1_8 c arg3 harg3 arg4 harg4 arg5 harg5 arg8 x2 x3 x4 : List (View.Piece (Elt Ideal) S288x128 .f32)) =
    [⟨Rect.unit ![252, 0] S32x128.size inb_S288x128_S32x128_252_0, rowsOf (wl c arg5 harg5 arg8 x4) x2 x3 7⟩,
     ⟨Rect.unit ![216, 0] S32x128.size inb_S288x128_S32x128_216_0, rowsOf (wl c arg5 harg5 arg8 x4) x2 x3 6⟩,
     ⟨Rect.unit ![180, 0] S32x128.size inb_S288x128_S32x128_180_0, rowsOf (wl c arg5 harg5 arg8 x4) x2 x3 5⟩,
     ⟨Rect.unit ![144, 0] S32x128.size inb_S288x128_S32x128_144_0, rowsOf (wl c arg5 harg5 arg8 x4) x2 x3 4⟩,
     ⟨Rect.unit ![108, 0] S32x128.size inb_S288x128_S32x128_108_0, rowsOf (wl c arg5 harg5 arg8 x4) x2 x3 3⟩,
     ⟨Rect.unit ![72, 0] S32x128.size inb_S288x128_S32x128_72_0, rowsOf (wl c arg5 harg5 arg8 x4) x2 x3 2⟩,
     ⟨Rect.unit ![36, 0] S32x128.size inb_S288x128_S32x128_36_0, rowsOf (wl c arg5 harg5 arg8 x4) x2 x3 1⟩,
     ⟨Rect.unit ![0, 0] S32x128.size inb_S288x128_S32x128_0_0, rowsOf (wl c arg5 harg5 arg8 x4) x2 x3 0⟩] := stored c arg3 harg3 arg4 harg4 arg5 harg5 arg8 x2 x3 x4

theorem lo_at (p : S8x128.Idx) : ∀ e < 32, lo c arg3 harg3 arg4 harg4 arg5 harg5 arg8 arg9 x2 x3 x4 e p = rowsOf (wl c arg5 harg5 arg8 x4) x2 x3 (p 0) (ix2 (Fin.ofNat 32 e) (p 1)) := by
  intro e he
  have h := fun k hk inb => read36 arg9.view (rowsOf (wl c arg5 harg5 arg8 x4) x2 x3) _ _ _ _ _ _ _ _ (kernelRun0_A.sl.HS1_8 c arg3 harg3 arg4 harg4 arg5 harg5 arg8 x2 x3 x4 : List (View.Piece (Elt Ideal) S288x128 .f32))
    (stored_rows c arg3 harg3 arg4 harg4 arg5 harg5 arg8 x2 x3 x4) k hk inb p
  generalize rowsOf (wl c arg5 harg5 arg8 x4) x2 x3 = R at h ⊢
  interval_cases e <;> simp only [lo, nth, kernelRun0_A.sl.v779, kernelRun0_A.sl.v787, kernelRun0_A.sl.v795, kernelRun0_A.sl.v803, kernelRun0_A.sl.v811, kernelRun0_A.sl.v819, kernelRun0_A.sl.v827, kernelRun0_A.sl.v835, kernelRun0_A.sl.v843, kernelRun0_A.sl.v851, kernelRun0_A.sl.v859, kernelRun0_A.sl.v867, kernelRun0_A.sl.v875, kernelRun0_A.sl.v883, kernelRun0_A.sl.v891, kernelRun0_A.sl.v899, kernelRun0_A.sl.v907, kernelRun0_A.sl.v915, kernelRun0_A.sl.v923, kernelRun0_A.sl.v931, kernelRun0_A.sl.v939, kernelRun0_A.sl.v947, kernelRun0_A.sl.v955, kernelRun0_A.sl.v963, kernelRun0_A.sl.v971, kernelRun0_A.sl.v979, kernelRun0_A.sl.v987, kernelRun0_A.sl.v995, kernelRun0_A.sl.v1003, kernelRun0_A.sl.v1011, kernelRun0_A.sl.v1019, kernelRun0_A.sl.v1027] <;> exact h _ (by decide) _

theorem ids_stored : (kernelRun0_A.sl.HS2_4 c arg1 harg1 arg2 harg2 arg3 harg3 arg4 harg4 arg5 harg5 arg8 arg9 x0 x1 x2 x3 x4 : List (View.Piece (Elt Ideal) S32x128 .i32)) =
    [⟨{ off := ![3, 0], size := S8x128.size, stride := ![4, 1], inb := inb_S32x128_S8x128_3_0_s_4_1, stride_pos := spos_4_1 }, iq (kernelRun0_A.sl.r_561 c arg1 harg1 arg2 harg2 arg3 harg3 arg4 harg4 arg5 harg5 arg8 arg9 x0 x1 x2 x3 x4)⟩,
     ⟨{ off := ![2, 0], size := S8x128.size, stride := ![4, 1], inb := inb_S32x128_S8x128_2_0_s_4_1, stride_pos := spos_4_1 }, iq (kernelRun0_A.sl.r_473 c arg1 harg1 arg2 harg2 arg3 harg3 arg4 harg4 arg5 harg5 arg8 arg9 x0 x1 x2 x3 x4)⟩,
     ⟨{ off := ![1, 0], size := S8x128.size, stride := ![4, 1], inb := inb_S32x128_S8x128_1_0_s_4_1, stride_pos := spos_4_1 }, iq (kernelRun0_A.sl.r_383 c arg1 harg1 arg2 harg2 arg3 harg3 arg4 harg4 arg5 harg5 arg8 arg9 x0 x1 x2 x3 x4)⟩,
     ⟨{ off := ![0, 0], size := S8x128.size, stride := ![4, 1], inb := inb_S32x128_S8x128_0_0_s_4_1, stride_pos := spos_4_1 }, iq (kernelRun0_A.sl.r_298 c arg1 harg1 arg2 harg2 arg3 harg3 arg4 harg4 arg5 harg5 arg8 arg9 x0 x1 x2 x3 x4)⟩] := by
  simp only [kernelRun0_A.sl.HS2_4, iq, k0_pay866, k0_pay868, k0_pay870, k0_pay872]

theorem weights_stored : (kernelRun0_A.sl.HS3_4 c arg1 harg1 arg2 harg2 arg3 harg3 arg4 harg4 arg5 harg5 arg8 arg9 x0 x1 x2 x3 x4 : List (View.Piece (Elt Ideal) S32x128 .f32)) =
    [⟨{ off := ![3, 0], size := S8x128.size, stride := ![4, 1], inb := inb_S32x128_S8x128_3_0_s_4_1, stride_pos := spos_4_1 }, wq (kernelRun0_A.sl.r_562 c arg1 harg1 arg2 harg2 arg3 harg3 arg4 harg4 arg5 harg5 arg8 arg9 x0 x1 x2 x3 x4) (kernelRun0_A.sl.r_563 c arg1 harg1 arg2 harg2 arg3 harg3 arg4 harg4 arg5 harg5 arg8 arg9 x0 x1 x2 x3 x4)⟩,
     ⟨{ off := ![2, 0], size := S8x128.size, stride := ![4, 1], inb := inb_S32x128_S8x128_2_0_s_4_1, stride_pos := spos_4_1 }, wq (kernelRun0_A.sl.r_474 c arg1 harg1 arg2 harg2 arg3 harg3 arg4 harg4 arg5 harg5 arg8 arg9 x0 x1 x2 x3 x4) (kernelRun0_A.sl.r_563 c arg1 harg1 arg2 harg2 arg3 harg3 arg4 harg4 arg5 harg5 arg8 arg9 x0 x1 x2 x3 x4)⟩,
     ⟨{ off := ![1, 0], size := S8x128.size, stride := ![4, 1], inb := inb_S32x128_S8x128_1_0_s_4_1, stride_pos := spos_4_1 }, wq (kernelRun0_A.sl.r_384 c arg1 harg1 arg2 harg2 arg3 harg3 arg4 harg4 arg5 harg5 arg8 arg9 x0 x1 x2 x3 x4) (kernelRun0_A.sl.r_563 c arg1 harg1 arg2 harg2 arg3 harg3 arg4 harg4 arg5 harg5 arg8 arg9 x0 x1 x2 x3 x4)⟩,
     ⟨{ off := ![0, 0], size := S8x128.size, stride := ![4, 1], inb := inb_S32x128_S8x128_0_0_s_4_1, stride_pos := spos_4_1 }, wq (kernelRun0_A.sl.r_299 c arg1 harg1 arg2 harg2 arg3 harg3 arg4 harg4 arg5 harg5 arg8 arg9 x0 x1 x2 x3 x4) (kernelRun0_A.sl.r_563 c arg1 harg1 arg2 harg2 arg3 harg3 arg4 harg4 arg5 harg5 arg8 arg9 x0 x1 x2 x3 x4)⟩] := by
  simp only [kernelRun0_A.sl.HS3_4, wq, k0_pay867, k0_pay869, k0_pay871, k0_pay873, kernelRun0_A.sl.r_563]

theorem ids_run : (kernelRun0_A c i arg1 harg1 arg2 harg2 arg3 harg3 arg4 harg4 arg5 harg5 arg6 harg6 arg7 harg7 arg8 harg8 arg9 harg9 arg10 harg10 arg11 harg11 hc0 x0 x1 x2 x3 x4).1 =
    [⟨Rect.unit ![0, 0, 896] S1x4x128.size inb_S1x4x1024_S1x4x128_0_0_896, shapeCast S1x4x128 (arg10.view.readCov (kernelRun0_A.sl.HS2_4 c arg1 harg1 arg2 harg2 arg3 harg3 arg4 harg4 arg5 harg5 arg8 arg9 x0 x1 x2 x3 x4) (Rect.unit (s := S32x128) ![28, 0] S4x128.size inb_S32x128_S4x128_28_0).toLoadRect) shapeCasts_S4x128_S1x4x128⟩,
     ⟨Rect.unit ![0, 0, 768] S1x4x128.size inb_S1x4x1024_S1x4x128_0_0_768, shapeCast S1x4x128 (arg10.view.readCov (kernelRun0_A.sl.HS2_4 c arg1 harg1 arg2 harg2 arg3 harg3 arg4 harg4 arg5 harg5 arg8 arg9 x0 x1 x2 x3 x4) (Rect.unit (s := S32x128) ![24, 0] S4x128.size inb_S32x128_S4x128_24_0).toLoadRect) shapeCasts_S4x128_S1x4x128⟩,
     ⟨Rect.unit ![0, 0, 640] S1x4x128.size inb_S1x4x1024_S1x4x128_0_0_640, shapeCast S1x4x128 (arg10.view.readCov (kernelRun0_A.sl.HS2_4 c arg1 harg1 arg2 harg2 arg3 harg3 arg4 harg4 arg5 harg5 arg8 arg9 x0 x1 x2 x3 x4) (Rect.unit (s := S32x128) ![20, 0] S4x128.size inb_S32x128_S4x128_20_0).toLoadRect) shapeCasts_S4x128_S1x4x128⟩,
     ⟨Rect.unit ![0, 0, 512] S1x4x128.size inb_S1x4x1024_S1x4x128_0_0_512, shapeCast S1x4x128 (arg10.view.readCov (kernelRun0_A.sl.HS2_4 c arg1 harg1 arg2 harg2 arg3 harg3 arg4 harg4 arg5 harg5 arg8 arg9 x0 x1 x2 x3 x4) (Rect.unit (s := S32x128) ![16, 0] S4x128.size inb_S32x128_S4x128_16_0).toLoadRect) shapeCasts_S4x128_S1x4x128⟩,
     ⟨Rect.unit ![0, 0, 384] S1x4x128.size inb_S1x4x1024_S1x4x128_0_0_384, shapeCast S1x4x128 (arg10.view.readCov (kernelRun0_A.sl.HS2_4 c arg1 harg1 arg2 harg2 arg3 harg3 arg4 harg4 arg5 harg5 arg8 arg9 x0 x1 x2 x3 x4) (Rect.unit (s := S32x128) ![12, 0] S4x128.size inb_S32x128_S4x128_12_0).toLoadRect) shapeCasts_S4x128_S1x4x128⟩,
     ⟨Rect.unit ![0, 0, 256] S1x4x128.size inb_S1x4x1024_S1x4x128_0_0_256, shapeCast S1x4x128 (arg10.view.readCov (kernelRun0_A.sl.HS2_4 c arg1 harg1 arg2 harg2 arg3 harg3 arg4 harg4 arg5 harg5 arg8 arg9 x0 x1 x2 x3 x4) (Rect.unit (s := S32x128) ![8, 0] S4x128.size inb_S32x128_S4x128_8_0).toLoadRect) shapeCasts_S4x128_S1x4x128⟩,
     ⟨Rect.unit ![0, 0, 128] S1x4x128.size inb_S1x4x1024_S1x4x128_0_0_128, shapeCast S1x4x128 (arg10.view.readCov (kernelRun0_A.sl.HS2_4 c arg1 harg1 arg2 harg2 arg3 harg3 arg4 harg4 arg5 harg5 arg8 arg9 x0 x1 x2 x3 x4) (Rect.unit (s := S32x128) ![4, 0] S4x128.size inb_S32x128_S4x128_4_0).toLoadRect) shapeCasts_S4x128_S1x4x128⟩,
     ⟨Rect.unit ![0, 0, 0] S1x4x128.size inb_S1x4x1024_S1x4x128_0_0_0, shapeCast S1x4x128 (arg10.view.readCov (kernelRun0_A.sl.HS2_4 c arg1 harg1 arg2 harg2 arg3 harg3 arg4 harg4 arg5 harg5 arg8 arg9 x0 x1 x2 x3 x4) (Rect.unit (s := S32x128) ![0, 0] S4x128.size inb_S32x128_S4x128_0_0).toLoadRect) shapeCasts_S4x128_S1x4x128⟩] := by
  refine Eq.trans rfl ?_
  rfl

theorem weights_run : (kernelRun0_A c i arg1 harg1 arg2 harg2 arg3 harg3 arg4 harg4 arg5 harg5 arg6 harg6 arg7 harg7 arg8 harg8 arg9 harg9 arg10 harg10 arg11 harg11 hc0 x0 x1 x2 x3 x4).2.1 =
    [⟨Rect.unit ![0, 0, 896] S1x4x128.size inb_S1x4x1024_S1x4x128_0_0_896, shapeCast S1x4x128 (arg11.view.readCov (kernelRun0_A.sl.HS3_4 c arg1 harg1 arg2 harg2 arg3 harg3 arg4 harg4 arg5 harg5 arg8 arg9 x0 x1 x2 x3 x4) (Rect.unit (s := S32x128) ![28, 0] S4x128.size inb_S32x128_S4x128_28_0).toLoadRect) shapeCasts_S4x128_S1x4x128⟩,
     ⟨Rect.unit ![0, 0, 768] S1x4x128.size inb_S1x4x1024_S1x4x128_0_0_768, shapeCast S1x4x128 (arg11.view.readCov (kernelRun0_A.sl.HS3_4 c arg1 harg1 arg2 harg2 arg3 harg3 arg4 harg4 arg5 harg5 arg8 arg9 x0 x1 x2 x3 x4) (Rect.unit (s := S32x128) ![24, 0] S4x128.size inb_S32x128_S4x128_24_0).toLoadRect) shapeCasts_S4x128_S1x4x128⟩,
     ⟨Rect.unit ![0, 0, 640] S1x4x128.size inb_S1x4x1024_S1x4x128_0_0_640, shapeCast S1x4x128 (arg11.view.readCov (kernelRun0_A.sl.HS3_4 c arg1 harg1 arg2 harg2 arg3 harg3 arg4 harg4 arg5 harg5 arg8 arg9 x0 x1 x2 x3 x4) (Rect.unit (s := S32x128) ![20, 0] S4x128.size inb_S32x128_S4x128_20_0).toLoadRect) shapeCasts_S4x128_S1x4x128⟩,
     ⟨Rect.unit ![0, 0, 512] S1x4x128.size inb_S1x4x1024_S1x4x128_0_0_512, shapeCast S1x4x128 (arg11.view.readCov (kernelRun0_A.sl.HS3_4 c arg1 harg1 arg2 harg2 arg3 harg3 arg4 harg4 arg5 harg5 arg8 arg9 x0 x1 x2 x3 x4) (Rect.unit (s := S32x128) ![16, 0] S4x128.size inb_S32x128_S4x128_16_0).toLoadRect) shapeCasts_S4x128_S1x4x128⟩,
     ⟨Rect.unit ![0, 0, 384] S1x4x128.size inb_S1x4x1024_S1x4x128_0_0_384, shapeCast S1x4x128 (arg11.view.readCov (kernelRun0_A.sl.HS3_4 c arg1 harg1 arg2 harg2 arg3 harg3 arg4 harg4 arg5 harg5 arg8 arg9 x0 x1 x2 x3 x4) (Rect.unit (s := S32x128) ![12, 0] S4x128.size inb_S32x128_S4x128_12_0).toLoadRect) shapeCasts_S4x128_S1x4x128⟩,
     ⟨Rect.unit ![0, 0, 256] S1x4x128.size inb_S1x4x1024_S1x4x128_0_0_256, shapeCast S1x4x128 (arg11.view.readCov (kernelRun0_A.sl.HS3_4 c arg1 harg1 arg2 harg2 arg3 harg3 arg4 harg4 arg5 harg5 arg8 arg9 x0 x1 x2 x3 x4) (Rect.unit (s := S32x128) ![8, 0] S4x128.size inb_S32x128_S4x128_8_0).toLoadRect) shapeCasts_S4x128_S1x4x128⟩,
     ⟨Rect.unit ![0, 0, 128] S1x4x128.size inb_S1x4x1024_S1x4x128_0_0_128, shapeCast S1x4x128 (arg11.view.readCov (kernelRun0_A.sl.HS3_4 c arg1 harg1 arg2 harg2 arg3 harg3 arg4 harg4 arg5 harg5 arg8 arg9 x0 x1 x2 x3 x4) (Rect.unit (s := S32x128) ![4, 0] S4x128.size inb_S32x128_S4x128_4_0).toLoadRect) shapeCasts_S4x128_S1x4x128⟩,
     ⟨Rect.unit ![0, 0, 0] S1x4x128.size inb_S1x4x1024_S1x4x128_0_0_0, shapeCast S1x4x128 (arg11.view.readCov (kernelRun0_A.sl.HS3_4 c arg1 harg1 arg2 harg2 arg3 harg3 arg4 harg4 arg5 harg5 arg8 arg9 x0 x1 x2 x3 x4) (Rect.unit (s := S32x128) ![0, 0] S4x128.size inb_S32x128_S4x128_0_0).toLoadRect) shapeCasts_S4x128_S1x4x128⟩] := by
  refine Eq.trans rfl ?_
  rfl

/-- The block of ids. -/
theorem ids_block {Wm : Fin 32 → ℕ → EReal} (hd : Diag (wl c arg5 harg5 arg8 x4) Wm) (y : S1x4x1024.Idx)
    (hC : ∀ e, choiceOf x0 x1 (logitOf Wm x2 x3 (y 2)) e = ⊥ ∨ low < choiceOf x0 x1 (logitOf Wm x2 x3 (y 2)) e) :
    out0_A_5 c i arg1 harg1 arg2 harg2 arg3 harg3 arg4 harg4 arg5 harg5 arg6 harg6 arg7 harg7 arg8 harg8 arg9 harg9 arg10 harg10 arg11 harg11 hc0 x0 x1 x2 x3 x4 y = ids (choiceOf x0 x1 (logitOf Wm x2 x3 (y 2))) (y 1) := by
  refine (congrFun (View.read_writes_junk_eq_canon VO0_5 (kernelRun0_A c i arg1 harg1 arg2 harg2 arg3 harg3 arg4 harg4 arg5 harg5 arg6 harg6 arg7 harg7 arg8 harg8 arg9 harg9 arg10 harg10 arg11 harg11 hc0 x0 x1 x2 x3 x4).1) y).trans ?_
  refine (out_tile arg10.view _ _ _ _ _ _ _ _ _ _ _ _ _ _ _ _ _ _ _ (ids_run c i arg1 harg1 arg2 harg2 arg3 harg3 arg4 harg4 arg5 harg5 arg6 harg6 arg7 harg7 arg8 harg8 arg9 harg9 arg10 harg10 arg11 harg11 hc0 x0 x1 x2 x3 x4) y (cover0_A_5 c i arg1 harg1 arg2 harg2 arg3 harg3 arg4 harg4 arg5 harg5 arg6 harg6 arg7 harg7 arg8 harg8 arg9 harg9 arg10 harg10 arg11 harg11 hc0 x0 x1 x2 x3 x4 y)).trans ?_
  rw [ids_stored, rows4_rankRow]
  exact ((routed c arg1 harg1 arg2 harg2 arg3 harg3 arg4 harg4 arg5 harg5 arg8 arg9 x0 x1 x2 x3 x4).at (tok y) (fun e he => (lo_at c arg3 harg3 arg4 harg4 arg5 harg5 arg8 arg9 x2 x3 x4 (tok y) e he).trans (logitOf_at hd x2 x3 y e)) hC).1 (y 1)

/-- The block of weights. -/
theorem weights_block {Wm : Fin 32 → ℕ → EReal} (hd : Diag (wl c arg5 harg5 arg8 x4) Wm) (y : S1x4x1024.Idx)
    (hC : ∀ e, choiceOf x0 x1 (logitOf Wm x2 x3 (y 2)) e = ⊥ ∨ low < choiceOf x0 x1 (logitOf Wm x2 x3 (y 2)) e) :
    out0_A_6 c i arg1 harg1 arg2 harg2 arg3 harg3 arg4 harg4 arg5 harg5 arg6 harg6 arg7 harg7 arg8 harg8 arg9 harg9 arg10 harg10 arg11 harg11 hc0 x0 x1 x2 x3 x4 y = wt (scoreOf x0 (logitOf Wm x2 x3 (y 2))) (choiceOf x0 x1 (logitOf Wm x2 x3 (y 2))) (y 1) := by
  refine (congrFun (View.read_writes_junk_eq_canon VO0_6 (kernelRun0_A c i arg1 harg1 arg2 harg2 arg3 harg3 arg4 harg4 arg5 harg5 arg6 harg6 arg7 harg7 arg8 harg8 arg9 harg9 arg10 harg10 arg11 harg11 hc0 x0 x1 x2 x3 x4).2.1) y).trans ?_
  refine (out_tile arg11.view _ _ _ _ _ _ _ _ _ _ _ _ _ _ _ _ _ _ _ (weights_run c i arg1 harg1 arg2 harg2 arg3 harg3 arg4 harg4 arg5 harg5 arg6 harg6 arg7 harg7 arg8 harg8 arg9 harg9 arg10 harg10 arg11 harg11 hc0 x0 x1 x2 x3 x4) y (cover0_A_6 c i arg1 harg1 arg2 harg2 arg3 harg3 arg4 harg4 arg5 harg5 arg6 harg6 arg7 harg7 arg8 harg8 arg9 harg9 arg10 harg10 arg11 harg11 hc0 x0 x1 x2 x3 x4 y)).trans ?_
  rw [weights_stored, rows4_rankRow]
  exact ((routed c arg1 harg1 arg2 harg2 arg3 harg3 arg4 harg4 arg5 harg5 arg8 arg9 x0 x1 x2 x3 x4).at (tok y) (fun e he => (lo_at c arg3 harg3 arg4 harg4 arg5 harg5 arg8 arg9 x2 x3 x4 (tok y) e he).trans (logitOf_at hd x2 x3 y e)) hC).2 (y 1)

end Cert.RouteA
-- ==== Proof.RouteB.lean ====
/- The routing half of the router's body at the later steps, which find the weights widened: each word the body computes, named by what it
   means. -/
module

public import proofs.«01_k».proof.Proof.Model
public import proofs.«01_k».proof.Proof.Gen.KernelIdeal.Frame

@[expose] public section

set_option maxRecDepth 16384

noncomputable section

namespace Cert.RouteB

open Idealize.ShloMosaic Idealize.ShloMosaic.ValueKit Cert.KernelIdeal Cert.KernelIdeal.Gen Cert.Model

variable (c : Dev nD) (arg1 : Memref sig .tc .smem S32 .f32) (harg1 : arg1.IsWhole) (arg2 : Memref sig .tc .smem S32 .f32) (harg2 : arg2.IsWhole) (arg3 : Memref sig .tc .vmem S1024x2816 .fp8e4m3) (harg3 : arg3.IsWhole) (arg4 : Memref sig .tc .vmem S1x22x1024 .f32) (harg4 : arg4.IsWhole) (arg8 : Memref sig .tc .vmem S11x64x256 .bf16) (harg8 : arg8.IsWhole) (arg9 : Memref sig .tc .vmem S288x128 .f32)
  (x0 x1 : Vec Ideal S32 .f32) (x2 : Vec Ideal S1024x2816 .fp8e4m3) (x3 : Vec Ideal S1x22x1024 .f32) (xs0 : Vec Ideal S11x64x256 .bf16)

/-- The logits of expert `e`, over the tile of tokens. -/
def lo : ℕ → V := nth [kernelRun0_B.sl.v779 c arg3 harg3 arg4 harg4 arg8 harg8 arg9 x2 x3 xs0,
    kernelRun0_B.sl.v787 c arg3 harg3 arg4 harg4 arg8 harg8 arg9 x2 x3 xs0,
    kernelRun0_B.sl.v795 c arg3 harg3 arg4 harg4 arg8 harg8 arg9 x2 x3 xs0,
    kernelRun0_B.sl.v803 c arg3 harg3 arg4 harg4 arg8 harg8 arg9 x2 x3 xs0,
    kernelRun0_B.sl.v811 c arg3 harg3 arg4 harg4 arg8 harg8 arg9 x2 x3 xs0,
    kernelRun0_B.sl.v819 c arg3 harg3 arg4 harg4 arg8 harg8 arg9 x2 x3 xs0,
    kernelRun0_B.sl.v827 c arg3 harg3 arg4 harg4 arg8 harg8 arg9 x2 x3 xs0,
    kernelRun0_B.sl.v835 c arg3 harg3 arg4 harg4 arg8 harg8 arg9 x2 x3 xs0,
    kernelRun0_B.sl.v843 c arg3 harg3 arg4 harg4 arg8 harg8 arg9 x2 x3 xs0,
    kernelRun0_B.sl.v851 c arg3 harg3 arg4 harg4 arg8 harg8 arg9 x2 x3 xs0,
    kernelRun0_B.sl.v859 c arg3 harg3 arg4 harg4 arg8 harg8 arg9 x2 x3 xs0,
    kernelRun0_B.sl.v867 c arg3 harg3 arg4 harg4 arg8 harg8 arg9 x2 x3 xs0,
    kernelRun0_B.sl.v875 c arg3 harg3 arg4 harg4 arg8 harg8 arg9 x2 x3 xs0,
    kernelRun0_B.sl.v883 c arg3 harg3 arg4 harg4 arg8 harg8 arg9 x2 x3 xs0,
    kernelRun0_B.sl.v891 c arg3 harg3 arg4 harg4 arg8 harg8 arg9 x2 x3 xs0,
    kernelRun0_B.sl.v899 c arg3 harg3 arg4 harg4 arg8 harg8 arg9 x2 x3 xs0,
    kernelRun0_B.sl.v907 c arg3 harg3 arg4 harg4 arg8 harg8 arg9 x2 x3 xs0,
    kernelRun0_B.sl.v915 c arg3 harg3 arg4 harg4 arg8 harg8 arg9 x2 x3 xs0,
    kernelRun0_B.sl.v923 c arg3 harg3 arg4 harg4 arg8 harg8 arg9 x2 x3 xs0,
    kernelRun0_B.sl.v931 c arg3 harg3 arg4 harg4 arg8 harg8 arg9 x2 x3 xs0,
    kernelRun0_B.sl.v939 c arg3 harg3 arg4 harg4 arg8 harg8 arg9 x2 x3 xs0,
    kernelRun0_B.sl.v947 c arg3 harg3 arg4 harg4 arg8 harg8 arg9 x2 x3 xs0,
    kernelRun0_B.sl.v955 c arg3 harg3 arg4 harg4 arg8 harg8 arg9 x2 x3 xs0,
    kernelRun0_B.sl.v963 c arg3 harg3 arg4 harg4 arg8 harg8 arg9 x2 x3 xs0,
    kernelRun0_B.sl.v971 c arg3 harg3 arg4 harg4 arg8 harg8 arg9 x2 x3 xs0,
    kernelRun0_B.sl.v979 c arg3 harg3 arg4 harg4 arg8 harg8 arg9 x2 x3 xs0,
    kernelRun0_B.sl.v987 c arg3 harg3 arg4 harg4 arg8 harg8 arg9 x2 x3 xs0,
    kernelRun0_B.sl.v995 c arg3 harg3 arg4 harg4 arg8 harg8 arg9 x2 x3 xs0,
    kernelRun0_B.sl.v1003 c arg3 harg3 arg4 harg4 arg8 harg8 arg9 x2 x3 xs0,
    kernelRun0_B.sl.v1011 c arg3 harg3 arg4 harg4 arg8 harg8 arg9 x2 x3 xs0,
    kernelRun0_B.sl.v1019 c arg3 harg3 arg4 harg4 arg8 harg8 arg9 x2 x3 xs0,
    kernelRun0_B.sl.v1027 c arg3 harg3 arg4 harg4 arg8 harg8 arg9 x2 x3 xs0]

/-- The scores. -/
def sc : ℕ → V := nth [kernelRun0_B.sl.r_56 c arg1 harg1 arg3 harg3 arg4 harg4 arg8 harg8 arg9 x0 x2 x3 xs0,
    kernelRun0_B.sl.r_58 c arg1 harg1 arg3 harg3 arg4 harg4 arg8 harg8 arg9 x0 x2 x3 xs0,
    kernelRun0_B.sl.r_60 c arg1 harg1 arg3 harg3 arg4 harg4 arg8 harg8 arg9 x0 x2 x3 xs0,
    kernelRun0_B.sl.r_62 c arg1 harg1 arg3 harg3 arg4 harg4 arg8 harg8 arg9 x0 x2 x3 xs0,
    kernelRun0_B.sl.r_74 c arg1 harg1 arg3 harg3 arg4 harg4 arg8 harg8 arg9 x0 x2 x3 xs0,
    kernelRun0_B.sl.r_76 c arg1 harg1 arg3 harg3 arg4 harg4 arg8 harg8 arg9 x0 x2 x3 xs0,
    kernelRun0_B.sl.r_78 c arg1 harg1 arg3 harg3 arg4 harg4 arg8 harg8 arg9 x0 x2 x3 xs0,
    kernelRun0_B.sl.r_80 c arg1 harg1 arg3 harg3 arg4 harg4 arg8 harg8 arg9 x0 x2 x3 xs0,
    kernelRun0_B.sl.r_82 c arg1 harg1 arg3 harg3 arg4 harg4 arg8 harg8 arg9 x0 x2 x3 xs0,
    kernelRun0_B.sl.r_94 c arg1 harg1 arg3 harg3 arg4 harg4 arg8 harg8 arg9 x0 x2 x3 xs0,
    kernelRun0_B.sl.r_96 c arg1 harg1 arg3 harg3 arg4 harg4 arg8 harg8 arg9 x0 x2 x3 xs0,
    kernelRun0_B.sl.r_98 c arg1 harg1 arg3 harg3 arg4 harg4 arg8 harg8 arg9 x0 x2 x3 xs0,
    kernelRun0_B.sl.r_100 c arg1 harg1 arg3 harg3 arg4 harg4 arg8 harg8 arg9 x0 x2 x3 xs0,
    kernelRun0_B.sl.r_102 c arg1 harg1 arg3 harg3 arg4 harg4 arg8 harg8 arg9 x0 x2 x3 xs0,
    kernelRun0_B.sl.r_114 c arg1 harg1 arg3 harg3 arg4 harg4 arg8 harg8 arg9 x0 x2 x3 xs0,
    kernelRun0_B.sl.r_116 c arg1 harg1 arg3 harg3 arg4 harg4 arg8 harg8 arg9 x0 x2 x3 xs0,
    kernelRun0_B.sl.r_118 c arg1 harg1 arg3 harg3 arg4 harg4 arg8 harg8 arg9 x0 x2 x3 xs0,
    kernelRun0_B.sl.r_120 c arg1 harg1 arg3 harg3 arg4 harg4 arg8 harg8 arg9 x0 x2 x3 xs0,
    kernelRun0_B.sl.r_122 c arg1 harg1 arg3 harg3 arg4 harg4 arg8 harg8 arg9 x0 x2 x3 xs0,
    kernelRun0_B.sl.r_134 c arg1 harg1 arg3 harg3 arg4 harg4 arg8 harg8 arg9 x0 x2 x3 xs0,
    kernelRun0_B.sl.r_136 c arg1 harg1 arg3 harg3 arg4 harg4 arg8 harg8 arg9 x0 x2 x3 xs0,
    kernelRun0_B.sl.r_138 c arg1 harg1 arg3 harg3 arg4 harg4 arg8 harg8 arg9 x0 x2 x3 xs0,
    kernelRun0_B.sl.r_140 c arg1 harg1 arg3 harg3 arg4 harg4 arg8 harg8 arg9 x0 x2 x3 xs0,
    kernelRun0_B.sl.r_142 c arg1 harg1 arg3 harg3 arg4 harg4 arg8 harg8 arg9 x0 x2 x3 xs0,
    kernelRun0_B.sl.r_154 c arg1 harg1 arg3 harg3 arg4 harg4 arg8 harg8 arg9 x0 x2 x3 xs0,
    kernelRun0_B.sl.r_156 c arg1 harg1 arg3 harg3 arg4 harg4 arg8 harg8 arg9 x0 x2 x3 xs0,
    kernelRun0_B.sl.r_158 c arg1 harg1 arg3 harg3 arg4 harg4 arg8 harg8 arg9 x0 x2 x3 xs0,
    kernelRun0_B.sl.r_160 c arg1 harg1 arg3 harg3 arg4 harg4 arg8 harg8 arg9 x0 x2 x3 xs0,
    kernelRun0_B.sl.r_162 c arg1 harg1 arg3 harg3 arg4 harg4 arg8 harg8 arg9 x0 x2 x3 xs0,
    kernelRun0_B.sl.r_171 c arg1 harg1 arg3 harg3 arg4 harg4 arg8 harg8 arg9 x0 x2 x3 xs0,
    kernelRun0_B.sl.r_173 c arg1 harg1 arg3 harg3 arg4 harg4 arg8 harg8 arg9 x0 x2 x3 xs0,
    kernelRun0_B.sl.r_175 c arg1 harg1 arg3 harg3 arg4 harg4 arg8 harg8 arg9 x0 x2 x3 xs0]

/-- The scores with their biases. -/
def ch : ℕ → V := nth [kernelRun0_B.sl.r_57 c arg1 harg1 arg2 harg2 arg3 harg3 arg4 harg4 arg8 harg8 arg9 x0 x1 x2 x3 xs0,
    kernelRun0_B.sl.r_59 c arg1 harg1 arg2 harg2 arg3 harg3 arg4 harg4 arg8 harg8 arg9 x0 x1 x2 x3 xs0,
    kernelRun0_B.sl.r_61 c arg1 harg1 arg2 harg2 arg3 harg3 arg4 harg4 arg8 harg8 arg9 x0 x1 x2 x3 xs0,
    kernelRun0_B.sl.r_73 c arg1 harg1 arg2 harg2 arg3 harg3 arg4 harg4 arg8 harg8 arg9 x0 x1 x2 x3 xs0,
    kernelRun0_B.sl.r_75 c arg1 harg1 arg2 harg2 arg3 harg3 arg4 harg4 arg8 harg8 arg9 x0 x1 x2 x3 xs0,
    kernelRun0_B.sl.r_77 c arg1 harg1 arg2 harg2 arg3 harg3 arg4 harg4 arg8 harg8 arg9 x0 x1 x2 x3 xs0,
    kernelRun0_B.sl.r_79 c arg1 harg1 arg2 harg2 arg3 harg3 arg4 harg4 arg8 harg8 arg9 x0 x1 x2 x3 xs0,
    kernelRun0_B.sl.r_81 c arg1 harg1 arg2 harg2 arg3 harg3 arg4 harg4 arg8 harg8 arg9 x0 x1 x2 x3 xs0,
    kernelRun0_B.sl.r_93 c arg1 harg1 arg2 harg2 arg3 harg3 arg4 harg4 arg8 harg8 arg9 x0 x1 x2 x3 xs0,
    kernelRun0_B.sl.r_95 c arg1 harg1 arg2 harg2 arg3 harg3 arg4 harg4 arg8 harg8 arg9 x0 x1 x2 x3 xs0,
    kernelRun0_B.sl.r_97 c arg1 harg1 arg2 harg2 arg3 harg3 arg4 harg4 arg8 harg8 arg9 x0 x1 x2 x3 xs0,
    kernelRun0_B.sl.r_99 c arg1 harg1 arg2 harg2 arg3 harg3 arg4 harg4 arg8 harg8 arg9 x0 x1 x2 x3 xs0,
    kernelRun0_B.sl.r_101 c arg1 harg1 arg2 harg2 arg3 harg3 arg4 harg4 arg8 harg8 arg9 x0 x1 x2 x3 xs0,
    kernelRun0_B.sl.r_113 c arg1 harg1 arg2 harg2 arg3 harg3 arg4 harg4 arg8 harg8 arg9 x0 x1 x2 x3 xs0,
    kernelRun0_B.sl.r_115 c arg1 harg1 arg2 harg2 arg3 harg3 arg4 harg4 arg8 harg8 arg9 x0 x1 x2 x3 xs0,
    kernelRun0_B.sl.r_117 c arg1 harg1 arg2 harg2 arg3 harg3 arg4 harg4 arg8 harg8 arg9 x0 x1 x2 x3 xs0,
    kernelRun0_B.sl.r_119 c arg1 harg1 arg2 harg2 arg3 harg3 arg4 harg4 arg8 harg8 arg9 x0 x1 x2 x3 xs0,
    kernelRun0_B.sl.r_121 c arg1 harg1 arg2 harg2 arg3 harg3 arg4 harg4 arg8 harg8 arg9 x0 x1 x2 x3 xs0,
    kernelRun0_B.sl.r_133 c arg1 harg1 arg2 harg2 arg3 harg3 arg4 harg4 arg8 harg8 arg9 x0 x1 x2 x3 xs0,
    kernelRun0_B.sl.r_135 c arg1 harg1 arg2 harg2 arg3 harg3 arg4 harg4 arg8 harg8 arg9 x0 x1 x2 x3 xs0,
    kernelRun0_B.sl.r_137 c arg1 harg1 arg2 harg2 arg3 harg3 arg4 harg4 arg8 harg8 arg9 x0 x1 x2 x3 xs0,
    kernelRun0_B.sl.r_139 c arg1 harg1 arg2 harg2 arg3 harg3 arg4 harg4 arg8 harg8 arg9 x0 x1 x2 x3 xs0,
    kernelRun0_B.sl.r_141 c arg1 harg1 arg2 harg2 arg3 harg3 arg4 harg4 arg8 harg8 arg9 x0 x1 x2 x3 xs0,
    kernelRun0_B.sl.r_153 c arg1 harg1 arg2 harg2 arg3 harg3 arg4 harg4 arg8 harg8 arg9 x0 x1 x2 x3 xs0,
    kernelRun0_B.sl.r_155 c arg1 harg1 arg2 harg2 arg3 harg3 arg4 harg4 arg8 harg8 arg9 x0 x1 x2 x3 xs0,
    kernelRun0_B.sl.r_157 c arg1 harg1 arg2 harg2 arg3 harg3 arg4 harg4 arg8 harg8 arg9 x0 x1 x2 x3 xs0,
    kernelRun0_B.sl.r_159 c arg1 harg1 arg2 harg2 arg3 harg3 arg4 harg4 arg8 harg8 arg9 x0 x1 x2 x3 xs0,
    kernelRun0_B.sl.r_161 c arg1 harg1 arg2 harg2 arg3 harg3 arg4 harg4 arg8 harg8 arg9 x0 x1 x2 x3 xs0,
    kernelRun0_B.sl.r_170 c arg1 harg1 arg2 harg2 arg3 harg3 arg4 harg4 arg8 harg8 arg9 x0 x1 x2 x3 xs0,
    kernelRun0_B.sl.r_172 c arg1 harg1 arg2 harg2 arg3 harg3 arg4 harg4 arg8 harg8 arg9 x0 x1 x2 x3 xs0,
    kernelRun0_B.sl.r_174 c arg1 harg1 arg2 harg2 arg3 harg3 arg4 harg4 arg8 harg8 arg9 x0 x1 x2 x3 xs0,
    kernelRun0_B.sl.r_176 c arg1 harg1 arg2 harg2 arg3 harg3 arg4 harg4 arg8 harg8 arg9 x0 x1 x2 x3 xs0]

/-- The sums of each group's two best. -/
def gr : ℕ → V := nth [kernelRun0_B.sl.r_177 c arg1 harg1 arg2 harg2 arg3 harg3 arg4 harg4 arg8 harg8 arg9 x0 x1 x2 x3 xs0,
    kernelRun0_B.sl.r_178 c arg1 harg1 arg2 harg2 arg3 harg3 arg4 harg4 arg8 harg8 arg9 x0 x1 x2 x3 xs0,
    kernelRun0_B.sl.r_182 c arg1 harg1 arg2 harg2 arg3 harg3 arg4 harg4 arg8 harg8 arg9 x0 x1 x2 x3 xs0,
    kernelRun0_B.sl.r_183 c arg1 harg1 arg2 harg2 arg3 harg3 arg4 harg4 arg8 harg8 arg9 x0 x1 x2 x3 xs0,
    kernelRun0_B.sl.r_184 c arg1 harg1 arg2 harg2 arg3 harg3 arg4 harg4 arg8 harg8 arg9 x0 x1 x2 x3 xs0,
    kernelRun0_B.sl.r_185 c arg1 harg1 arg2 harg2 arg3 harg3 arg4 harg4 arg8 harg8 arg9 x0 x1 x2 x3 xs0,
    kernelRun0_B.sl.r_186 c arg1 harg1 arg2 harg2 arg3 harg3 arg4 harg4 arg8 harg8 arg9 x0 x1 x2 x3 xs0,
    kernelRun0_B.sl.r_187 c arg1 harg1 arg2 harg2 arg3 harg3 arg4 harg4 arg8 harg8 arg9 x0 x1 x2 x3 xs0]

/-- The ranks of the groups. -/
def rk : ℕ → VI := nth [kernelRun0_B.sl.r_195 c arg1 harg1 arg2 harg2 arg3 harg3 arg4 harg4 arg8 harg8 arg9 x0 x1 x2 x3 xs0,
    kernelRun0_B.sl.r_196 c arg1 harg1 arg2 harg2 arg3 harg3 arg4 harg4 arg8 harg8 arg9 x0 x1 x2 x3 xs0,
    kernelRun0_B.sl.r_197 c arg1 harg1 arg2 harg2 arg3 harg3 arg4 harg4 arg8 harg8 arg9 x0 x1 x2 x3 xs0,
    kernelRun0_B.sl.r_198 c arg1 harg1 arg2 harg2 arg3 harg3 arg4 harg4 arg8 harg8 arg9 x0 x1 x2 x3 xs0,
    kernelRun0_B.sl.r_199 c arg1 harg1 arg2 harg2 arg3 harg3 arg4 harg4 arg8 harg8 arg9 x0 x1 x2 x3 xs0,
    kernelRun0_B.sl.r_200 c arg1 harg1 arg2 harg2 arg3 harg3 arg4 harg4 arg8 harg8 arg9 x0 x1 x2 x3 xs0,
    kernelRun0_B.sl.r_202 c arg1 harg1 arg2 harg2 arg3 harg3 arg4 harg4 arg8 harg8 arg9 x0 x1 x2 x3 xs0,
    kernelRun0_B.sl.r_201 c arg1 harg1 arg2 harg2 arg3 harg3 arg4 harg4 arg8 harg8 arg9 x0 x1 x2 x3 xs0]

/-- What the first round chooses among. -/
def m0 : ℕ → V := nth [kernelRun0_B.sl.r_210 c arg1 harg1 arg2 harg2 arg3 harg3 arg4 harg4 arg8 harg8 arg9 x0 x1 x2 x3 xs0,
    kernelRun0_B.sl.r_211 c arg1 harg1 arg2 harg2 arg3 harg3 arg4 harg4 arg8 harg8 arg9 x0 x1 x2 x3 xs0,
    kernelRun0_B.sl.r_212 c arg1 harg1 arg2 harg2 arg3 harg3 arg4 harg4 arg8 harg8 arg9 x0 x1 x2 x3 xs0,
    kernelRun0_B.sl.r_213 c arg1 harg1 arg2 harg2 arg3 harg3 arg4 harg4 arg8 harg8 arg9 x0 x1 x2 x3 xs0,
    kernelRun0_B.sl.r_214 c arg1 harg1 arg2 harg2 arg3 harg3 arg4 harg4 arg8 harg8 arg9 x0 x1 x2 x3 xs0,
    kernelRun0_B.sl.r_215 c arg1 harg1 arg2 harg2 arg3 harg3 arg4 harg4 arg8 harg8 arg9 x0 x1 x2 x3 xs0,
    kernelRun0_B.sl.r_216 c arg1 harg1 arg2 harg2 arg3 harg3 arg4 harg4 arg8 harg8 arg9 x0 x1 x2 x3 xs0,
    kernelRun0_B.sl.r_217 c arg1 harg1 arg2 harg2 arg3 harg3 arg4 harg4 arg8 harg8 arg9 x0 x1 x2 x3 xs0,
    kernelRun0_B.sl.r_218 c arg1 harg1 arg2 harg2 arg3 harg3 arg4 harg4 arg8 harg8 arg9 x0 x1 x2 x3 xs0,
    kernelRun0_B.sl.r_219 c arg1 harg1 arg2 harg2 arg3 harg3 arg4 harg4 arg8 harg8 arg9 x0 x1 x2 x3 xs0,
    kernelRun0_B.sl.r_220 c arg1 harg1 arg2 harg2 arg3 harg3 arg4 harg4 arg8 harg8 arg9 x0 x1 x2 x3 xs0,
    kernelRun0_B.sl.r_221 c arg1 harg1 arg2 harg2 arg3 harg3 arg4 harg4 arg8 harg8 arg9 x0 x1 x2 x3 xs0,
    kernelRun0_B.sl.r_222 c arg1 harg1 arg2 harg2 arg3 harg3 arg4 harg4 arg8 harg8 arg9 x0 x1 x2 x3 xs0,
    kernelRun0_B.sl.r_223 c arg1 harg1 arg2 harg2 arg3 harg3 arg4 harg4 arg8 harg8 arg9 x0 x1 x2 x3 xs0,
    kernelRun0_B.sl.r_224 c arg1 harg1 arg2 harg2 arg3 harg3 arg4 harg4 arg8 harg8 arg9 x0 x1 x2 x3 xs0,
    kernelRun0_B.sl.r_225 c arg1 harg1 arg2 harg2 arg3 harg3 arg4 harg4 arg8 harg8 arg9 x0 x1 x2 x3 xs0,
    kernelRun0_B.sl.r_226 c arg1 harg1 arg2 harg2 arg3 harg3 arg4 harg4 arg8 harg8 arg9 x0 x1 x2 x3 xs0,
    kernelRun0_B.sl.r_227 c arg1 harg1 arg2 harg2 arg3 harg3 arg4 harg4 arg8 harg8 arg9 x0 x1 x2 x3 xs0,
    kernelRun0_B.sl.r_228 c arg1 harg1 arg2 harg2 arg3 harg3 arg4 harg4 arg8 harg8 arg9 x0 x1 x2 x3 xs0,
    kernelRun0_B.sl.r_229 c arg1 harg1 arg2 harg2 arg3 harg3 arg4 harg4 arg8 harg8 arg9 x0 x1 x2 x3 xs0,
    kernelRun0_B.sl.r_230 c arg1 harg1 arg2 harg2 arg3 harg3 arg4 harg4 arg8 harg8 arg9 x0 x1 x2 x3 xs0,
    kernelRun0_B.sl.r_231 c arg1 harg1 arg2 harg2 arg3 harg3 arg4 harg4 arg8 harg8 arg9 x0 x1 x2 x3 xs0,
    kernelRun0_B.sl.r_232 c arg1 harg1 arg2 harg2 arg3 harg3 arg4 harg4 arg8 harg8 arg9 x0 x1 x2 x3 xs0,
    kernelRun0_B.sl.r_233 c arg1 harg1 arg2 harg2 arg3 harg3 arg4 harg4 arg8 harg8 arg9 x0 x1 x2 x3 xs0,
    kernelRun0_B.sl.r_234 c arg1 harg1 arg2 harg2 arg3 harg3 arg4 harg4 arg8 harg8 arg9 x0 x1 x2 x3 xs0,
    kernelRun0_B.sl.r_235 c arg1 harg1 arg2 harg2 arg3 harg3 arg4 harg4 arg8 harg8 arg9 x0 x1 x2 x3 xs0,
    kernelRun0_B.sl.r_236 c arg1 harg1 arg2 harg2 arg3 harg3 arg4 harg4 arg8 harg8 arg9 x0 x1 x2 x3 xs0,
    kernelRun0_B.sl.r_237 c arg1 harg1 arg2 harg2 arg3 harg3 arg4 harg4 arg8 harg8 arg9 x0 x1 x2 x3 xs0,
    kernelRun0_B.sl.r_238 c arg1 harg1 arg2 harg2 arg3 harg3 arg4 harg4 arg8 harg8 arg9 x0 x1 x2 x3 xs0,
    kernelRun0_B.sl.r_239 c arg1 harg1 arg2 harg2 arg3 harg3 arg4 harg4 arg8 harg8 arg9 x0 x1 x2 x3 xs0,
    kernelRun0_B.sl.r_240 c arg1 harg1 arg2 harg2 arg3 harg3 arg4 harg4 arg8 harg8 arg9 x0 x1 x2 x3 xs0,
    kernelRun0_B.sl.r_241 c arg1 harg1 arg2 harg2 arg3 harg3 arg4 harg4 arg8 harg8 arg9 x0 x1 x2 x3 xs0]

/-- What the second round chooses among. -/
def m1 : ℕ → V := nth [kernelRun0_B.sl.r_297 c arg1 harg1 arg2 harg2 arg3 harg3 arg4 harg4 arg8 harg8 arg9 x0 x1 x2 x3 xs0,
    kernelRun0_B.sl.r_298 c arg1 harg1 arg2 harg2 arg3 harg3 arg4 harg4 arg8 harg8 arg9 x0 x1 x2 x3 xs0,
    kernelRun0_B.sl.r_299 c arg1 harg1 arg2 harg2 arg3 harg3 arg4 harg4 arg8 harg8 arg9 x0 x1 x2 x3 xs0,
    kernelRun0_B.sl.r_300 c arg1 harg1 arg2 harg2 arg3 harg3 arg4 harg4 arg8 harg8 arg9 x0 x1 x2 x3 xs0,
    kernelRun0_B.sl.r_301 c arg1 harg1 arg2 harg2 arg3 harg3 arg4 harg4 arg8 harg8 arg9 x0 x1 x2 x3 xs0,
    kernelRun0_B.sl.r_302 c arg1 harg1 arg2 harg2 arg3 harg3 arg4 harg4 arg8 harg8 arg9 x0 x1 x2 x3 xs0,
    kernelRun0_B.sl.r_303 c arg1 harg1 arg2 harg2 arg3 harg3 arg4 harg4 arg8 harg8 arg9 x0 x1 x2 x3 xs0,
    kernelRun0_B.sl.r_304 c arg1 harg1 arg2 harg2 arg3 harg3 arg4 harg4 arg8 harg8 arg9 x0 x1 x2 x3 xs0,
    kernelRun0_B.sl.r_305 c arg1 harg1 arg2 harg2 arg3 harg3 arg4 harg4 arg8 harg8 arg9 x0 x1 x2 x3 xs0,
    kernelRun0_B.sl.r_306 c arg1 harg1 arg2 harg2 arg3 harg3 arg4 harg4 arg8 harg8 arg9 x0 x1 x2 x3 xs0,
    kernelRun0_B.sl.r_307 c arg1 harg1 arg2 harg2 arg3 harg3 arg4 harg4 arg8 harg8 arg9 x0 x1 x2 x3 xs0,
    kernelRun0_B.sl.r_308 c arg1 harg1 arg2 harg2 arg3 harg3 arg4 harg4 arg8 harg8 arg9 x0 x1 x2 x3 xs0,
    kernelRun0_B.sl.r_309 c arg1 harg1 arg2 harg2 arg3 harg3 arg4 harg4 arg8 harg8 arg9 x0 x1 x2 x3 xs0,
    kernelRun0_B.sl.r_310 c arg1 harg1 arg2 harg2 arg3 harg3 arg4 harg4 arg8 harg8 arg9 x0 x1 x2 x3 xs0,
    kernelRun0_B.sl.r_311 c arg1 harg1 arg2 harg2 arg3 harg3 arg4 harg4 arg8 harg8 arg9 x0 x1 x2 x3 xs0,
    kernelRun0_B.sl.r_312 c arg1 harg1 arg2 harg2 arg3 harg3 arg4 harg4 arg8 harg8 arg9 x0 x1 x2 x3 xs0,
    kernelRun0_B.sl.r_313 c arg1 harg1 arg2 harg2 arg3 harg3 arg4 harg4 arg8 harg8 arg9 x0 x1 x2 x3 xs0,
    kernelRun0_B.sl.r_314 c arg1 harg1 arg2 harg2 arg3 harg3 arg4 harg4 arg8 harg8 arg9 x0 x1 x2 x3 xs0,
    kernelRun0_B.sl.r_315 c arg1 harg1 arg2 harg2 arg3 harg3 arg4 harg4 arg8 harg8 arg9 x0 x1 x2 x3 xs0,
    kernelRun0_B.sl.r_316 c arg1 harg1 arg2 harg2 arg3 harg3 arg4 harg4 arg8 harg8 arg9 x0 x1 x2 x3 xs0,
    kernelRun0_B.sl.r_317 c arg1 harg1 arg2 harg2 arg3 harg3 arg4 harg4 arg8 harg8 arg9 x0 x1 x2 x3 xs0,
    kernelRun0_B.sl.r_318 c arg1 harg1 arg2 harg2 arg3 harg3 arg4 harg4 arg8 harg8 arg9 x0 x1 x2 x3 xs0,
    kernelRun0_B.sl.r_319 c arg1 harg1 arg2 harg2 arg3 harg3 arg4 harg4 arg8 harg8 arg9 x0 x1 x2 x3 xs0,
    kernelRun0_B.sl.r_320 c arg1 harg1 arg2 harg2 arg3 harg3 arg4 harg4 arg8 harg8 arg9 x0 x1 x2 x3 xs0,
    kernelRun0_B.sl.r_321 c arg1 harg1 arg2 harg2 arg3 harg3 arg4 harg4 arg8 harg8 arg9 x0 x1 x2 x3 xs0,
    kernelRun0_B.sl.r_322 c arg1 harg1 arg2 harg2 arg3 harg3 arg4 harg4 arg8 harg8 arg9 x0 x1 x2 x3 xs0,
    kernelRun0_B.sl.r_323 c arg1 harg1 arg2 harg2 arg3 harg3 arg4 harg4 arg8 harg8 arg9 x0 x1 x2 x3 xs0,
    kernelRun0_B.sl.r_324 c arg1 harg1 arg2 harg2 arg3 harg3 arg4 harg4 arg8 harg8 arg9 x0 x1 x2 x3 xs0,
    kernelRun0_B.sl.r_325 c arg1 harg1 arg2 harg2 arg3 harg3 arg4 harg4 arg8 harg8 arg9 x0 x1 x2 x3 xs0,
    kernelRun0_B.sl.r_326 c arg1 harg1 arg2 harg2 arg3 harg3 arg4 harg4 arg8 harg8 arg9 x0 x1 x2 x3 xs0,
    kernelRun0_B.sl.r_327 c arg1 harg1 arg2 harg2 arg3 harg3 arg4 harg4 arg8 harg8 arg9 x0 x1 x2 x3 xs0,
    kernelRun0_B.sl.r_328 c arg1 harg1 arg2 harg2 arg3 harg3 arg4 harg4 arg8 harg8 arg9 x0 x1 x2 x3 xs0]

/-- What the third round chooses among. -/
def m2 : ℕ → V := nth [kernelRun0_B.sl.r_382 c arg1 harg1 arg2 harg2 arg3 harg3 arg4 harg4 arg8 harg8 arg9 x0 x1 x2 x3 xs0,
    kernelRun0_B.sl.r_383 c arg1 harg1 arg2 harg2 arg3 harg3 arg4 harg4 arg8 harg8 arg9 x0 x1 x2 x3 xs0,
    kernelRun0_B.sl.r_384 c arg1 harg1 arg2 harg2 arg3 harg3 arg4 harg4 arg8 harg8 arg9 x0 x1 x2 x3 xs0,
    kernelRun0_B.sl.r_385 c arg1 harg1 arg2 harg2 arg3 harg3 arg4 harg4 arg8 harg8 arg9 x0 x1 x2 x3 xs0,
    kernelRun0_B.sl.r_386 c arg1 harg1 arg2 harg2 arg3 harg3 arg4 harg4 arg8 harg8 arg9 x0 x1 x2 x3 xs0,
    kernelRun0_B.sl.r_387 c arg1 harg1 arg2 harg2 arg3 harg3 arg4 harg4 arg8 harg8 arg9 x0 x1 x2 x3 xs0,
    kernelRun0_B.sl.r_388 c arg1 harg1 arg2 harg2 arg3 harg3 arg4 harg4 arg8 harg8 arg9 x0 x1 x2 x3 xs0,
    kernelRun0_B.sl.r_389 c arg1 harg1 arg2 harg2 arg3 harg3 arg4 harg4 arg8 harg8 arg9 x0 x1 x2 x3 xs0,
    kernelRun0_B.sl.r_390 c arg1 harg1 arg2 harg2 arg3 harg3 arg4 harg4 arg8 harg8 arg9 x0 x1 x2 x3 xs0,
    kernelRun0_B.sl.r_392 c arg1 harg1 arg2 harg2 arg3 harg3 arg4 harg4 arg8 harg8 arg9 x0 x1 x2 x3 xs0,
    kernelRun0_B.sl.r_393 c arg1 harg1 arg2 harg2 arg3 harg3 arg4 harg4 arg8 harg8 arg9 x0 x1 x2 x3 xs0,
    kernelRun0_B.sl.r_394 c arg1 harg1 arg2 harg2 arg3 harg3 arg4 harg4 arg8 harg8 arg9 x0 x1 x2 x3 xs0,
    kernelRun0_B.sl.r_395 c arg1 harg1 arg2 harg2 arg3 harg3 arg4 harg4 arg8 harg8 arg9 x0 x1 x2 x3 xs0,
    kernelRun0_B.sl.r_396 c arg1 harg1 arg2 harg2 arg3 harg3 arg4 harg4 arg8 harg8 arg9 x0 x1 x2 x3 xs0,
    kernelRun0_B.sl.r_397 c arg1 harg1 arg2 harg2 arg3 harg3 arg4 harg4 arg8 harg8 arg9 x0 x1 x2 x3 xs0,
    kernelRun0_B.sl.r_398 c arg1 harg1 arg2 harg2 arg3 harg3 arg4 harg4 arg8 harg8 arg9 x0 x1 x2 x3 xs0,
    kernelRun0_B.sl.r_399 c arg1 harg1 arg2 harg2 arg3 harg3 arg4 harg4 arg8 harg8 arg9 x0 x1 x2 x3 xs0,
    kernelRun0_B.sl.r_400 c arg1 harg1 arg2 harg2 arg3 harg3 arg4 harg4 arg8 harg8 arg9 x0 x1 x2 x3 xs0,
    kernelRun0_B.sl.r_401 c arg1 harg1 arg2 harg2 arg3 harg3 arg4 harg4 arg8 harg8 arg9 x0 x1 x2 x3 xs0,
    kernelRun0_B.sl.r_403 c arg1 harg1 arg2 harg2 arg3 harg3 arg4 harg4 arg8 harg8 arg9 x0 x1 x2 x3 xs0,
    kernelRun0_B.sl.r_404 c arg1 harg1 arg2 harg2 arg3 harg3 arg4 harg4 arg8 harg8 arg9 x0 x1 x2 x3 xs0,
    kernelRun0_B.sl.r_405 c arg1 harg1 arg2 harg2 arg3 harg3 arg4 harg4 arg8 harg8 arg9 x0 x1 x2 x3 xs0,
    kernelRun0_B.sl.r_406 c arg1 harg1 arg2 harg2 arg3 harg3 arg4 harg4 arg8 harg8 arg9 x0 x1 x2 x3 xs0,
    kernelRun0_B.sl.r_407 c arg1 harg1 arg2 harg2 arg3 harg3 arg4 harg4 arg8 harg8 arg9 x0 x1 x2 x3 xs0,
    kernelRun0_B.sl.r_408 c arg1 harg1 arg2 harg2 arg3 harg3 arg4 harg4 arg8 harg8 arg9 x0 x1 x2 x3 xs0,
    kernelRun0_B.sl.r_409 c arg1 harg1 arg2 harg2 arg3 harg3 arg4 harg4 arg8 harg8 arg9 x0 x1 x2 x3 xs0,
    kernelRun0_B.sl.r_410 c arg1 harg1 arg2 harg2 arg3 harg3 arg4 harg4 arg8 harg8 arg9 x0 x1 x2 x3 xs0,
    kernelRun0_B.sl.r_411 c arg1 harg1 arg2 harg2 arg3 harg3 arg4 harg4 arg8 harg8 arg9 x0 x1 x2 x3 xs0,
    kernelRun0_B.sl.r_412 c arg1 harg1 arg2 harg2 arg3 harg3 arg4 harg4 arg8 harg8 arg9 x0 x1 x2 x3 xs0,
    kernelRun0_B.sl.r_414 c arg1 harg1 arg2 harg2 arg3 harg3 arg4 harg4 arg8 harg8 arg9 x0 x1 x2 x3 xs0,
    kernelRun0_B.sl.r_415 c arg1 harg1 arg2 harg2 arg3 harg3 arg4 harg4 arg8 harg8 arg9 x0 x1 x2 x3 xs0,
    kernelRun0_B.sl.r_416 c arg1 harg1 arg2 harg2 arg3 harg3 arg4 harg4 arg8 harg8 arg9 x0 x1 x2 x3 xs0]

/-- What the fourth round chooses among. -/
def m3 : ℕ → V := nth [kernelRun0_B.sl.r_472 c arg1 harg1 arg2 harg2 arg3 harg3 arg4 harg4 arg8 harg8 arg9 x0 x1 x2 x3 xs0,
    kernelRun0_B.sl.r_473 c arg1 harg1 arg2 harg2 arg3 harg3 arg4 harg4 arg8 harg8 arg9 x0 x1 x2 x3 xs0,
    kernelRun0_B.sl.r_474 c arg1 harg1 arg2 harg2 arg3 harg3 arg4 harg4 arg8 harg8 arg9 x0 x1 x2 x3 xs0,
    kernelRun0_B.sl.r_475 c arg1 harg1 arg2 harg2 arg3 harg3 arg4 harg4 arg8 harg8 arg9 x0 x1 x2 x3 xs0,
    kernelRun0_B.sl.r_476 c arg1 harg1 arg2 harg2 arg3 harg3 arg4 harg4 arg8 harg8 arg9 x0 x1 x2 x3 xs0,
    kernelRun0_B.sl.r_477 c arg1 harg1 arg2 harg2 arg3 harg3 arg4 harg4 arg8 harg8 arg9 x0 x1 x2 x3 xs0,
    kernelRun0_B.sl.r_479 c arg1 harg1 arg2 harg2 arg3 harg3 arg4 harg4 arg8 harg8 arg9 x0 x1 x2 x3 xs0,
    kernelRun0_B.sl.r_480 c arg1 harg1 arg2 harg2 arg3 harg3 arg4 harg4 arg8 harg8 arg9 x0 x1 x2 x3 xs0,
    kernelRun0_B.sl.r_481 c arg1 harg1 arg2 harg2 arg3 harg3 arg4 harg4 arg8 harg8 arg9 x0 x1 x2 x3 xs0,
    kernelRun0_B.sl.r_482 c arg1 harg1 arg2 harg2 arg3 harg3 arg4 harg4 arg8 harg8 arg9 x0 x1 x2 x3 xs0,
    kernelRun0_B.sl.r_483 c arg1 harg1 arg2 harg2 arg3 harg3 arg4 harg4 arg8 harg8 arg9 x0 x1 x2 x3 xs0,
    kernelRun0_B.sl.r_484 c arg1 harg1 arg2 harg2 arg3 harg3 arg4 harg4 arg8 harg8 arg9 x0 x1 x2 x3 xs0,
    kernelRun0_B.sl.r_485 c arg1 harg1 arg2 harg2 arg3 harg3 arg4 harg4 arg8 harg8 arg9 x0 x1 x2 x3 xs0,
    kernelRun0_B.sl.r_486 c arg1 harg1 arg2 harg2 arg3 harg3 arg4 harg4 arg8 harg8 arg9 x0 x1 x2 x3 xs0,
    kernelRun0_B.sl.r_487 c arg1 harg1 arg2 harg2 arg3 harg3 arg4 harg4 arg8 harg8 arg9 x0 x1 x2 x3 xs0,
    kernelRun0_B.sl.r_488 c arg1 harg1 arg2 harg2 arg3 harg3 arg4 harg4 arg8 harg8 arg9 x0 x1 x2 x3 xs0,
    kernelRun0_B.sl.r_490 c arg1 harg1 arg2 harg2 arg3 harg3 arg4 harg4 arg8 harg8 arg9 x0 x1 x2 x3 xs0,
    kernelRun0_B.sl.r_491 c arg1 harg1 arg2 harg2 arg3 harg3 arg4 harg4 arg8 harg8 arg9 x0 x1 x2 x3 xs0,
    kernelRun0_B.sl.r_492 c arg1 harg1 arg2 harg2 arg3 harg3 arg4 harg4 arg8 harg8 arg9 x0 x1 x2 x3 xs0,
    kernelRun0_B.sl.r_493 c arg1 harg1 arg2 harg2 arg3 harg3 arg4 harg4 arg8 harg8 arg9 x0 x1 x2 x3 xs0,
    kernelRun0_B.sl.r_494 c arg1 harg1 arg2 harg2 arg3 harg3 arg4 harg4 arg8 harg8 arg9 x0 x1 x2 x3 xs0,
    kernelRun0_B.sl.r_495 c arg1 harg1 arg2 harg2 arg3 harg3 arg4 harg4 arg8 harg8 arg9 x0 x1 x2 x3 xs0,
    kernelRun0_B.sl.r_496 c arg1 harg1 arg2 harg2 arg3 harg3 arg4 harg4 arg8 harg8 arg9 x0 x1 x2 x3 xs0,
    kernelRun0_B.sl.r_497 c arg1 harg1 arg2 harg2 arg3 harg3 arg4 harg4 arg8 harg8 arg9 x0 x1 x2 x3 xs0,
    kernelRun0_B.sl.r_498 c arg1 harg1 arg2 harg2 arg3 harg3 arg4 harg4 arg8 harg8 arg9 x0 x1 x2 x3 xs0,
    kernelRun0_B.sl.r_499 c arg1 harg1 arg2 harg2 arg3 harg3 arg4 harg4 arg8 harg8 arg9 x0 x1 x2 x3 xs0,
    kernelRun0_B.sl.r_501 c arg1 harg1 arg2 harg2 arg3 harg3 arg4 harg4 arg8 harg8 arg9 x0 x1 x2 x3 xs0,
    kernelRun0_B.sl.r_502 c arg1 harg1 arg2 harg2 arg3 harg3 arg4 harg4 arg8 harg8 arg9 x0 x1 x2 x3 xs0,
    kernelRun0_B.sl.r_503 c arg1 harg1 arg2 harg2 arg3 harg3 arg4 harg4 arg8 harg8 arg9 x0 x1 x2 x3 xs0,
    kernelRun0_B.sl.r_504 c arg1 harg1 arg2 harg2 arg3 harg3 arg4 harg4 arg8 harg8 arg9 x0 x1 x2 x3 xs0,
    kernelRun0_B.sl.r_505 c arg1 harg1 arg2 harg2 arg3 harg3 arg4 harg4 arg8 harg8 arg9 x0 x1 x2 x3 xs0,
    kernelRun0_B.sl.r_506 c arg1 harg1 arg2 harg2 arg3 harg3 arg4 harg4 arg8 harg8 arg9 x0 x1 x2 x3 xs0]

theorem sc_eq : ∀ e < 32, sc c arg1 harg1 arg3 harg3 arg4 harg4 arg8 harg8 arg9 x0 x2 x3 xs0 e = vscore (lo c arg3 harg3 arg4 harg4 arg8 harg8 arg9 x2 x3 xs0 e) (x0 (ix1 (Fin.ofNat 32 e))) := by
  intro e he
  interval_cases e <;> simp only [sc, lo, nth, vscore, smem_word, smem_word', Nat.reduceMul, Nat.reduceAdd, Nat.reduceSub, Nat.reduceDiv,
    Nat.reducePow, kernelRun0_B.sl.r_49, kernelRun0_B.sl.r_50, kernelRun0_B.sl.r_51, kernelRun0_B.sl.r_52,
    kernelRun0_B.sl.r_53, kernelRun0_B.sl.r_54, kernelRun0_B.sl.r_55, kernelRun0_B.sl.r_56, kernelRun0_B.sl.r_57,
    kernelRun0_B.sl.r_58, kernelRun0_B.sl.r_59, kernelRun0_B.sl.r_60, kernelRun0_B.sl.r_61, kernelRun0_B.sl.r_62,
    kernelRun0_B.sl.r_63, kernelRun0_B.sl.r_64, kernelRun0_B.sl.r_65, kernelRun0_B.sl.r_66, kernelRun0_B.sl.r_67,
    kernelRun0_B.sl.r_68, kernelRun0_B.sl.r_69, kernelRun0_B.sl.r_70, kernelRun0_B.sl.r_71, kernelRun0_B.sl.r_72,
    kernelRun0_B.sl.r_73, kernelRun0_B.sl.r_74, kernelRun0_B.sl.r_75, kernelRun0_B.sl.r_76, kernelRun0_B.sl.r_77,
    kernelRun0_B.sl.r_78, kernelRun0_B.sl.r_79, kernelRun0_B.sl.r_80, kernelRun0_B.sl.r_81, kernelRun0_B.sl.r_82,
    kernelRun0_B.sl.r_83, kernelRun0_B.sl.r_84, kernelRun0_B.sl.r_85, kernelRun0_B.sl.r_86, kernelRun0_B.sl.r_87,
    kernelRun0_B.sl.r_88, kernelRun0_B.sl.r_89, kernelRun0_B.sl.r_90, kernelRun0_B.sl.r_91, kernelRun0_B.sl.r_92,
    kernelRun0_B.sl.r_93, kernelRun0_B.sl.r_94, kernelRun0_B.sl.r_95, kernelRun0_B.sl.r_96, kernelRun0_B.sl.r_97,
    kernelRun0_B.sl.r_98, kernelRun0_B.sl.r_99, kernelRun0_B.sl.r_100, kernelRun0_B.sl.r_101, kernelRun0_B.sl.r_102,
    kernelRun0_B.sl.r_103, kernelRun0_B.sl.r_104, kernelRun0_B.sl.r_105, kernelRun0_B.sl.r_106,
    kernelRun0_B.sl.r_107, kernelRun0_B.sl.r_108, kernelRun0_B.sl.r_109, kernelRun0_B.sl.r_110,
    kernelRun0_B.sl.r_111, kernelRun0_B.sl.r_112, kernelRun0_B.sl.r_113, kernelRun0_B.sl.r_114,
    kernelRun0_B.sl.r_115, kernelRun0_B.sl.r_116, kernelRun0_B.sl.r_117, kernelRun0_B.sl.r_118,
    kernelRun0_B.sl.r_119, kernelRun0_B.sl.r_120, kernelRun0_B.sl.r_121, kernelRun0_B.sl.r_122,
    kernelRun0_B.sl.r_123, kernelRun0_B.sl.r_124, kernelRun0_B.sl.r_125, kernelRun0_B.sl.r_126,
    kernelRun0_B.sl.r_127, kernelRun0_B.sl.r_128, kernelRun0_B.sl.r_129, kernelRun0_B.sl.r_130,
    kernelRun0_B.sl.r_131, kernelRun0_B.sl.r_132, kernelRun0_B.sl.r_133, kernelRun0_B.sl.r_134,
    kernelRun0_B.sl.r_135, kernelRun0_B.sl.r_136, kernelRun0_B.sl.r_137, kernelRun0_B.sl.r_138,
    kernelRun0_B.sl.r_139, kernelRun0_B.sl.r_140, kernelRun0_B.sl.r_141, kernelRun0_B.sl.r_142,
    kernelRun0_B.sl.r_143, kernelRun0_B.sl.r_144, kernelRun0_B.sl.r_145, kernelRun0_B.sl.r_146,
    kernelRun0_B.sl.r_147, kernelRun0_B.sl.r_148, kernelRun0_B.sl.r_149, kernelRun0_B.sl.r_150,
    kernelRun0_B.sl.r_151, kernelRun0_B.sl.r_152, kernelRun0_B.sl.r_153, kernelRun0_B.sl.r_154,
    kernelRun0_B.sl.r_155, kernelRun0_B.sl.r_156, kernelRun0_B.sl.r_157, kernelRun0_B.sl.r_158,
    kernelRun0_B.sl.r_159, kernelRun0_B.sl.r_160, kernelRun0_B.sl.r_161, kernelRun0_B.sl.r_162,
    kernelRun0_B.sl.r_163, kernelRun0_B.sl.r_164, kernelRun0_B.sl.r_165, kernelRun0_B.sl.r_166,
    kernelRun0_B.sl.r_167, kernelRun0_B.sl.r_168, kernelRun0_B.sl.r_169, kernelRun0_B.sl.r_170,
    kernelRun0_B.sl.r_171, kernelRun0_B.sl.r_172, kernelRun0_B.sl.r_173, kernelRun0_B.sl.r_174,
    kernelRun0_B.sl.r_175, kernelRun0_B.sl.r_176, k0_pay90, k0_pay91, k0_pay92, k0_pay93, k0_pay94, k0_pay95,
    k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153]

theorem ch_eq : ∀ e < 32, ch c arg1 harg1 arg2 harg2 arg3 harg3 arg4 harg4 arg8 harg8 arg9 x0 x1 x2 x3 xs0 e = vchoice (sc c arg1 harg1 arg3 harg3 arg4 harg4 arg8 harg8 arg9 x0 x2 x3 xs0 e) (x1 (ix1 (Fin.ofNat 32 e))) := by
  intro e he
  interval_cases e <;> simp only [ch, sc, nth, vchoice, smem_word, smem_word', Nat.reduceMul, Nat.reduceAdd, Nat.reduceSub, Nat.reduceDiv,
    Nat.reducePow, kernelRun0_B.sl.r_49, kernelRun0_B.sl.r_50, kernelRun0_B.sl.r_51, kernelRun0_B.sl.r_52,
    kernelRun0_B.sl.r_53, kernelRun0_B.sl.r_54, kernelRun0_B.sl.r_55, kernelRun0_B.sl.r_56, kernelRun0_B.sl.r_57,
    kernelRun0_B.sl.r_58, kernelRun0_B.sl.r_59, kernelRun0_B.sl.r_60, kernelRun0_B.sl.r_61, kernelRun0_B.sl.r_62,
    kernelRun0_B.sl.r_63, kernelRun0_B.sl.r_64, kernelRun0_B.sl.r_65, kernelRun0_B.sl.r_66, kernelRun0_B.sl.r_67,
    kernelRun0_B.sl.r_68, kernelRun0_B.sl.r_69, kernelRun0_B.sl.r_70, kernelRun0_B.sl.r_71, kernelRun0_B.sl.r_72,
    kernelRun0_B.sl.r_73, kernelRun0_B.sl.r_74, kernelRun0_B.sl.r_75, kernelRun0_B.sl.r_76, kernelRun0_B.sl.r_77,
    kernelRun0_B.sl.r_78, kernelRun0_B.sl.r_79, kernelRun0_B.sl.r_80, kernelRun0_B.sl.r_81, kernelRun0_B.sl.r_82,
    kernelRun0_B.sl.r_83, kernelRun0_B.sl.r_84, kernelRun0_B.sl.r_85, kernelRun0_B.sl.r_86, kernelRun0_B.sl.r_87,
    kernelRun0_B.sl.r_88, kernelRun0_B.sl.r_89, kernelRun0_B.sl.r_90, kernelRun0_B.sl.r_91, kernelRun0_B.sl.r_92,
    kernelRun0_B.sl.r_93, kernelRun0_B.sl.r_94, kernelRun0_B.sl.r_95, kernelRun0_B.sl.r_96, kernelRun0_B.sl.r_97,
    kernelRun0_B.sl.r_98, kernelRun0_B.sl.r_99, kernelRun0_B.sl.r_100, kernelRun0_B.sl.r_101, kernelRun0_B.sl.r_102,
    kernelRun0_B.sl.r_103, kernelRun0_B.sl.r_104, kernelRun0_B.sl.r_105, kernelRun0_B.sl.r_106,
    kernelRun0_B.sl.r_107, kernelRun0_B.sl.r_108, kernelRun0_B.sl.r_109, kernelRun0_B.sl.r_110,
    kernelRun0_B.sl.r_111, kernelRun0_B.sl.r_112, kernelRun0_B.sl.r_113, kernelRun0_B.sl.r_114,
    kernelRun0_B.sl.r_115, kernelRun0_B.sl.r_116, kernelRun0_B.sl.r_117, kernelRun0_B.sl.r_118,
    kernelRun0_B.sl.r_119, kernelRun0_B.sl.r_120, kernelRun0_B.sl.r_121, kernelRun0_B.sl.r_122,
    kernelRun0_B.sl.r_123, kernelRun0_B.sl.r_124, kernelRun0_B.sl.r_125, kernelRun0_B.sl.r_126,
    kernelRun0_B.sl.r_127, kernelRun0_B.sl.r_128, kernelRun0_B.sl.r_129, kernelRun0_B.sl.r_130,
    kernelRun0_B.sl.r_131, kernelRun0_B.sl.r_132, kernelRun0_B.sl.r_133, kernelRun0_B.sl.r_134,
    kernelRun0_B.sl.r_135, kernelRun0_B.sl.r_136, kernelRun0_B.sl.r_137, kernelRun0_B.sl.r_138,
    kernelRun0_B.sl.r_139, kernelRun0_B.sl.r_140, kernelRun0_B.sl.r_141, kernelRun0_B.sl.r_142,
    kernelRun0_B.sl.r_143, kernelRun0_B.sl.r_144, kernelRun0_B.sl.r_145, kernelRun0_B.sl.r_146,
    kernelRun0_B.sl.r_147, kernelRun0_B.sl.r_148, kernelRun0_B.sl.r_149, kernelRun0_B.sl.r_150,
    kernelRun0_B.sl.r_151, kernelRun0_B.sl.r_152, kernelRun0_B.sl.r_153, kernelRun0_B.sl.r_154,
    kernelRun0_B.sl.r_155, kernelRun0_B.sl.r_156, kernelRun0_B.sl.r_157, kernelRun0_B.sl.r_158,
    kernelRun0_B.sl.r_159, kernelRun0_B.sl.r_160, kernelRun0_B.sl.r_161, kernelRun0_B.sl.r_162,
    kernelRun0_B.sl.r_163, kernelRun0_B.sl.r_164, kernelRun0_B.sl.r_165, kernelRun0_B.sl.r_166,
    kernelRun0_B.sl.r_167, kernelRun0_B.sl.r_168, kernelRun0_B.sl.r_169, kernelRun0_B.sl.r_170,
    kernelRun0_B.sl.r_171, kernelRun0_B.sl.r_172, kernelRun0_B.sl.r_173, kernelRun0_B.sl.r_174,
    kernelRun0_B.sl.r_175, kernelRun0_B.sl.r_176, k0_pay90, k0_pay91, k0_pay92, k0_pay93, k0_pay94, k0_pay95,
    k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115,
    k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135,
    k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153]

theorem gr_eq : ∀ e < 8, gr c arg1 harg1 arg2 harg2 arg3 harg3 arg4 harg4 arg8 harg8 arg9 x0 x1 x2 x3 xs0 e = vgroup (ch c arg1 harg1 arg2 harg2 arg3 harg3 arg4 harg4 arg8 harg8 arg9 x0 x1 x2 x3 xs0) e := by
  intro e he
  interval_cases e <;> simp only [gr, ch, nth, vgroup, Nat.reduceMul, Nat.reduceAdd, Nat.reduceSub, Nat.reduceDiv, Nat.reducePow,
    kernelRun0_B.sl.r_177, kernelRun0_B.sl.r_178, kernelRun0_B.sl.r_179, kernelRun0_B.sl.r_180,
    kernelRun0_B.sl.r_181, kernelRun0_B.sl.r_182, kernelRun0_B.sl.r_183, kernelRun0_B.sl.r_184,
    kernelRun0_B.sl.r_185, kernelRun0_B.sl.r_186, kernelRun0_B.sl.r_187, k0_pay154, k0_pay155, k0_pay156, k0_pay157,
    k0_pay158, k0_pay159, k0_pay160, k0_pay161, k0_pay162, k0_pay163, k0_pay164]

theorem rk_eq : ∀ e < 8, rk c arg1 harg1 arg2 harg2 arg3 harg3 arg4 harg4 arg8 harg8 arg9 x0 x1 x2 x3 xs0 e = vgrank (gr c arg1 harg1 arg2 harg2 arg3 harg3 arg4 harg4 arg8 harg8 arg9 x0 x1 x2 x3 xs0) e := by
  intro e he
  interval_cases e <;> simp only [rk, gr, nth, vgrank, vbit, List.range, List.range.loop, List.foldl, Nat.reduceMul, Nat.reduceAdd,
    Nat.reduceSub, Nat.reduceDiv, Nat.reducePow, kernelRun0_B.sl.r_188, kernelRun0_B.sl.r_189,
    kernelRun0_B.sl.r_190, kernelRun0_B.sl.r_191, kernelRun0_B.sl.r_192, kernelRun0_B.sl.r_193,
    kernelRun0_B.sl.r_194, kernelRun0_B.sl.r_195, kernelRun0_B.sl.r_196, kernelRun0_B.sl.r_197,
    kernelRun0_B.sl.r_198, kernelRun0_B.sl.r_199, kernelRun0_B.sl.r_200, kernelRun0_B.sl.r_201,
    kernelRun0_B.sl.r_202, k0_pay165, k0_pay166, k0_pay167, k0_pay168, k0_pay169, k0_pay170, k0_pay171, k0_pay172,
    k0_pay173, k0_pay174, k0_pay175, k0_pay176, k0_pay177, k0_pay178, k0_pay179, k0_pay180, k0_pay181, k0_pay182,
    k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212,
    k0_pay213]

theorem m0_eq : ∀ e < 32, m0 c arg1 harg1 arg2 harg2 arg3 harg3 arg4 harg4 arg8 harg8 arg9 x0 x1 x2 x3 xs0 e = vkept (rk c arg1 harg1 arg2 harg2 arg3 harg3 arg4 harg4 arg8 harg8 arg9 x0 x1 x2 x3 xs0) (ch c arg1 harg1 arg2 harg2 arg3 harg3 arg4 harg4 arg8 harg8 arg9 x0 x1 x2 x3 xs0) e := by
  intro e he
  interval_cases e <;> simp only [m0, rk, ch, nth, vkept, kernelRun0_B.sl.cst_644, Nat.reduceMul, Nat.reduceAdd, Nat.reduceSub, Nat.reduceDiv,
    Nat.reducePow, kernelRun0_B.sl.r_203, kernelRun0_B.sl.r_204, kernelRun0_B.sl.r_205, kernelRun0_B.sl.r_206,
    kernelRun0_B.sl.r_207, kernelRun0_B.sl.r_208, kernelRun0_B.sl.r_209, kernelRun0_B.sl.r_210,
    kernelRun0_B.sl.r_211, kernelRun0_B.sl.r_212, kernelRun0_B.sl.r_213, kernelRun0_B.sl.r_214,
    kernelRun0_B.sl.r_215, kernelRun0_B.sl.r_216, kernelRun0_B.sl.r_217, kernelRun0_B.sl.r_218,
    kernelRun0_B.sl.r_219, kernelRun0_B.sl.r_220, kernelRun0_B.sl.r_221, kernelRun0_B.sl.r_222,
    kernelRun0_B.sl.r_223, kernelRun0_B.sl.r_224, kernelRun0_B.sl.r_225, kernelRun0_B.sl.r_226,
    kernelRun0_B.sl.r_227, kernelRun0_B.sl.r_228, kernelRun0_B.sl.r_229, kernelRun0_B.sl.r_230,
    kernelRun0_B.sl.r_231, kernelRun0_B.sl.r_232, kernelRun0_B.sl.r_233, kernelRun0_B.sl.r_234,
    kernelRun0_B.sl.r_235, kernelRun0_B.sl.r_236, kernelRun0_B.sl.r_237, kernelRun0_B.sl.r_238,
    kernelRun0_B.sl.r_239, kernelRun0_B.sl.r_240, kernelRun0_B.sl.r_241, k0_pay214, k0_pay215, k0_pay216, k0_pay217,
    k0_pay218, k0_pay219, k0_pay220, k0_pay221, k0_pay222, k0_pay223, k0_pay224, k0_pay225, k0_pay226, k0_pay227,
    k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247,
    k0_pay248, k0_pay249, k0_pay250, k0_pay251, k0_pay252, k0_pay253] <;> rfl

theorem idx0 : kernelRun0_B.sl.r_295 c arg1 harg1 arg2 harg2 arg3 harg3 arg4 harg4 arg8 harg8 arg9 x0 x1 x2 x3 xs0 = vtw (m0 c arg1 harg1 arg2 harg2 arg3 harg3 arg4 harg4 arg8 harg8 arg9 x0 x1 x2 x3 xs0) vid 5 0 := by
  simp only [m0, nth, vtw, vtv, vid, Nat.reduceMul, Nat.reduceAdd, Nat.reduceSub, Nat.reduceDiv, Nat.reducePow,
    kernelRun0_B.sl.r_242, kernelRun0_B.sl.r_243, kernelRun0_B.sl.r_244, kernelRun0_B.sl.r_245,
    kernelRun0_B.sl.r_246, kernelRun0_B.sl.r_247, kernelRun0_B.sl.r_248, kernelRun0_B.sl.r_249,
    kernelRun0_B.sl.r_250, kernelRun0_B.sl.r_251, kernelRun0_B.sl.r_252, kernelRun0_B.sl.r_253,
    kernelRun0_B.sl.r_254, kernelRun0_B.sl.r_255, kernelRun0_B.sl.r_256, kernelRun0_B.sl.r_257,
    kernelRun0_B.sl.r_258, kernelRun0_B.sl.r_259, kernelRun0_B.sl.r_260, kernelRun0_B.sl.r_261,
    kernelRun0_B.sl.r_262, kernelRun0_B.sl.r_263, kernelRun0_B.sl.r_264, kernelRun0_B.sl.r_265,
    kernelRun0_B.sl.r_266, kernelRun0_B.sl.r_267, kernelRun0_B.sl.r_268, kernelRun0_B.sl.r_269,
    kernelRun0_B.sl.r_270, kernelRun0_B.sl.r_271, kernelRun0_B.sl.r_272, kernelRun0_B.sl.r_273,
    kernelRun0_B.sl.r_274, kernelRun0_B.sl.r_275, kernelRun0_B.sl.r_276, kernelRun0_B.sl.r_277,
    kernelRun0_B.sl.r_278, kernelRun0_B.sl.r_279, kernelRun0_B.sl.r_280, kernelRun0_B.sl.r_281,
    kernelRun0_B.sl.r_282, kernelRun0_B.sl.r_283, kernelRun0_B.sl.r_284, kernelRun0_B.sl.r_285,
    kernelRun0_B.sl.r_286, kernelRun0_B.sl.r_287, kernelRun0_B.sl.r_288, kernelRun0_B.sl.r_289,
    kernelRun0_B.sl.r_290, kernelRun0_B.sl.r_291, kernelRun0_B.sl.r_292, kernelRun0_B.sl.r_293,
    kernelRun0_B.sl.r_294, kernelRun0_B.sl.r_295, kernelRun0_B.sl.r_296, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380]

theorem sel0 : kernelRun0_B.sl.r_296 c arg1 harg1 arg2 harg2 arg3 harg3 arg4 harg4 arg8 harg8 arg9 x0 x1 x2 x3 xs0 = vtw (m0 c arg1 harg1 arg2 harg2 arg3 harg3 arg4 harg4 arg8 harg8 arg9 x0 x1 x2 x3 xs0) (sc c arg1 harg1 arg3 harg3 arg4 harg4 arg8 harg8 arg9 x0 x2 x3 xs0) 5 0 := by
  simp only [m0, sc, nth, vtw, vtv, Nat.reduceMul, Nat.reduceAdd, Nat.reduceSub, Nat.reduceDiv, Nat.reducePow,
    kernelRun0_B.sl.r_242, kernelRun0_B.sl.r_243, kernelRun0_B.sl.r_244, kernelRun0_B.sl.r_245,
    kernelRun0_B.sl.r_246, kernelRun0_B.sl.r_247, kernelRun0_B.sl.r_248, kernelRun0_B.sl.r_249,
    kernelRun0_B.sl.r_250, kernelRun0_B.sl.r_251, kernelRun0_B.sl.r_252, kernelRun0_B.sl.r_253,
    kernelRun0_B.sl.r_254, kernelRun0_B.sl.r_255, kernelRun0_B.sl.r_256, kernelRun0_B.sl.r_257,
    kernelRun0_B.sl.r_258, kernelRun0_B.sl.r_259, kernelRun0_B.sl.r_260, kernelRun0_B.sl.r_261,
    kernelRun0_B.sl.r_262, kernelRun0_B.sl.r_263, kernelRun0_B.sl.r_264, kernelRun0_B.sl.r_265,
    kernelRun0_B.sl.r_266, kernelRun0_B.sl.r_267, kernelRun0_B.sl.r_268, kernelRun0_B.sl.r_269,
    kernelRun0_B.sl.r_270, kernelRun0_B.sl.r_271, kernelRun0_B.sl.r_272, kernelRun0_B.sl.r_273,
    kernelRun0_B.sl.r_274, kernelRun0_B.sl.r_275, kernelRun0_B.sl.r_276, kernelRun0_B.sl.r_277,
    kernelRun0_B.sl.r_278, kernelRun0_B.sl.r_279, kernelRun0_B.sl.r_280, kernelRun0_B.sl.r_281,
    kernelRun0_B.sl.r_282, kernelRun0_B.sl.r_283, kernelRun0_B.sl.r_284, kernelRun0_B.sl.r_285,
    kernelRun0_B.sl.r_286, kernelRun0_B.sl.r_287, kernelRun0_B.sl.r_288, kernelRun0_B.sl.r_289,
    kernelRun0_B.sl.r_290, kernelRun0_B.sl.r_291, kernelRun0_B.sl.r_292, kernelRun0_B.sl.r_293,
    kernelRun0_B.sl.r_294, kernelRun0_B.sl.r_295, kernelRun0_B.sl.r_296, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380]

theorem m1_eq : ∀ e < 32, m1 c arg1 harg1 arg2 harg2 arg3 harg3 arg4 harg4 arg8 harg8 arg9 x0 x1 x2 x3 xs0 e = vmask (m0 c arg1 harg1 arg2 harg2 arg3 harg3 arg4 harg4 arg8 harg8 arg9 x0 x1 x2 x3 xs0) (kernelRun0_B.sl.r_295 c arg1 harg1 arg2 harg2 arg3 harg3 arg4 harg4 arg8 harg8 arg9 x0 x1 x2 x3 xs0) e := by
  intro e he
  interval_cases e <;> simp only [m1, m0, nth, vmask, vid, kernelRun0_B.sl.cst_909, Nat.reduceMul, Nat.reduceAdd, Nat.reduceSub, Nat.reduceDiv,
    Nat.reducePow, kernelRun0_B.sl.r_242, kernelRun0_B.sl.r_243, kernelRun0_B.sl.r_244, kernelRun0_B.sl.r_245,
    kernelRun0_B.sl.r_246, kernelRun0_B.sl.r_247, kernelRun0_B.sl.r_248, kernelRun0_B.sl.r_249,
    kernelRun0_B.sl.r_250, kernelRun0_B.sl.r_251, kernelRun0_B.sl.r_252, kernelRun0_B.sl.r_253,
    kernelRun0_B.sl.r_254, kernelRun0_B.sl.r_255, kernelRun0_B.sl.r_256, kernelRun0_B.sl.r_257,
    kernelRun0_B.sl.r_258, kernelRun0_B.sl.r_259, kernelRun0_B.sl.r_260, kernelRun0_B.sl.r_261,
    kernelRun0_B.sl.r_262, kernelRun0_B.sl.r_263, kernelRun0_B.sl.r_264, kernelRun0_B.sl.r_265,
    kernelRun0_B.sl.r_266, kernelRun0_B.sl.r_267, kernelRun0_B.sl.r_268, kernelRun0_B.sl.r_269,
    kernelRun0_B.sl.r_270, kernelRun0_B.sl.r_271, kernelRun0_B.sl.r_272, kernelRun0_B.sl.r_273,
    kernelRun0_B.sl.r_274, kernelRun0_B.sl.r_275, kernelRun0_B.sl.r_276, kernelRun0_B.sl.r_277,
    kernelRun0_B.sl.r_278, kernelRun0_B.sl.r_279, kernelRun0_B.sl.r_280, kernelRun0_B.sl.r_281,
    kernelRun0_B.sl.r_282, kernelRun0_B.sl.r_283, kernelRun0_B.sl.r_284, kernelRun0_B.sl.r_285,
    kernelRun0_B.sl.r_286, kernelRun0_B.sl.r_287, kernelRun0_B.sl.r_288, kernelRun0_B.sl.r_289,
    kernelRun0_B.sl.r_290, kernelRun0_B.sl.r_291, kernelRun0_B.sl.r_292, kernelRun0_B.sl.r_293,
    kernelRun0_B.sl.r_294, kernelRun0_B.sl.r_295, kernelRun0_B.sl.r_296, kernelRun0_B.sl.r_297,
    kernelRun0_B.sl.r_298, kernelRun0_B.sl.r_299, kernelRun0_B.sl.r_300, kernelRun0_B.sl.r_301,
    kernelRun0_B.sl.r_302, kernelRun0_B.sl.r_303, kernelRun0_B.sl.r_304, kernelRun0_B.sl.r_305,
    kernelRun0_B.sl.r_306, kernelRun0_B.sl.r_307, kernelRun0_B.sl.r_308, kernelRun0_B.sl.r_309,
    kernelRun0_B.sl.r_310, kernelRun0_B.sl.r_311, kernelRun0_B.sl.r_312, kernelRun0_B.sl.r_313,
    kernelRun0_B.sl.r_314, kernelRun0_B.sl.r_315, kernelRun0_B.sl.r_316, kernelRun0_B.sl.r_317,
    kernelRun0_B.sl.r_318, kernelRun0_B.sl.r_319, kernelRun0_B.sl.r_320, kernelRun0_B.sl.r_321,
    kernelRun0_B.sl.r_322, kernelRun0_B.sl.r_323, kernelRun0_B.sl.r_324, kernelRun0_B.sl.r_325,
    kernelRun0_B.sl.r_326, kernelRun0_B.sl.r_327, kernelRun0_B.sl.r_328, k0_pay254, k0_pay255, k0_pay256, k0_pay257,
    k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277,
    k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307,
    k0_pay308, k0_pay309, k0_pay310, k0_pay311, k0_pay312, k0_pay313, k0_pay314, k0_pay315, k0_pay316, k0_pay317,
    k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337,
    k0_pay338, k0_pay339, k0_pay340, k0_pay341, k0_pay342, k0_pay343, k0_pay344, k0_pay345, k0_pay346, k0_pay347,
    k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367,
    k0_pay368, k0_pay369, k0_pay370, k0_pay371, k0_pay372, k0_pay373, k0_pay374, k0_pay375, k0_pay376, k0_pay377,
    k0_pay378, k0_pay379, k0_pay380, k0_pay381, k0_pay382, k0_pay383, k0_pay384, k0_pay385, k0_pay386, k0_pay387,
    k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407,
    k0_pay408, k0_pay409, k0_pay410, k0_pay411, k0_pay412] <;> rfl

theorem idx1 : kernelRun0_B.sl.r_380 c arg1 harg1 arg2 harg2 arg3 harg3 arg4 harg4 arg8 harg8 arg9 x0 x1 x2 x3 xs0 = vtw (m1 c arg1 harg1 arg2 harg2 arg3 harg3 arg4 harg4 arg8 harg8 arg9 x0 x1 x2 x3 xs0) vid 5 0 := by
  simp only [m1, nth, vtw, vtv, vid, Nat.reduceMul, Nat.reduceAdd, Nat.reduceSub, Nat.reduceDiv, Nat.reducePow,
    kernelRun0_B.sl.r_329, kernelRun0_B.sl.r_330, kernelRun0_B.sl.r_331, kernelRun0_B.sl.r_332,
    kernelRun0_B.sl.r_333, kernelRun0_B.sl.r_334, kernelRun0_B.sl.r_335, kernelRun0_B.sl.r_336,
    kernelRun0_B.sl.r_337, kernelRun0_B.sl.r_338, kernelRun0_B.sl.r_339, kernelRun0_B.sl.r_340,
    kernelRun0_B.sl.r_341, kernelRun0_B.sl.r_342, kernelRun0_B.sl.r_343, kernelRun0_B.sl.r_344,
    kernelRun0_B.sl.r_345, kernelRun0_B.sl.r_346, kernelRun0_B.sl.r_347, kernelRun0_B.sl.r_348,
    kernelRun0_B.sl.r_349, kernelRun0_B.sl.r_350, kernelRun0_B.sl.r_351, kernelRun0_B.sl.r_352,
    kernelRun0_B.sl.r_353, kernelRun0_B.sl.r_354, kernelRun0_B.sl.r_355, kernelRun0_B.sl.r_356,
    kernelRun0_B.sl.r_357, kernelRun0_B.sl.r_358, kernelRun0_B.sl.r_359, kernelRun0_B.sl.r_360,
    kernelRun0_B.sl.r_361, kernelRun0_B.sl.r_362, kernelRun0_B.sl.r_363, kernelRun0_B.sl.r_364,
    kernelRun0_B.sl.r_365, kernelRun0_B.sl.r_366, kernelRun0_B.sl.r_367, kernelRun0_B.sl.r_368,
    kernelRun0_B.sl.r_369, kernelRun0_B.sl.r_370, kernelRun0_B.sl.r_371, kernelRun0_B.sl.r_372,
    kernelRun0_B.sl.r_373, kernelRun0_B.sl.r_374, kernelRun0_B.sl.r_375, kernelRun0_B.sl.r_376,
    kernelRun0_B.sl.r_377, kernelRun0_B.sl.r_378, kernelRun0_B.sl.r_379, kernelRun0_B.sl.r_380,
    kernelRun0_B.sl.r_381, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492, k0_pay493, k0_pay494, k0_pay495, k0_pay496, k0_pay497, k0_pay498, k0_pay499, k0_pay500,
    k0_pay501, k0_pay502, k0_pay503, k0_pay504, k0_pay505, k0_pay506, k0_pay507, k0_pay508, k0_pay509, k0_pay510,
    k0_pay511, k0_pay512, k0_pay513, k0_pay514, k0_pay515, k0_pay516, k0_pay517, k0_pay518, k0_pay519, k0_pay520,
    k0_pay521, k0_pay522, k0_pay523, k0_pay524, k0_pay525, k0_pay526, k0_pay527, k0_pay528, k0_pay529, k0_pay530,
    k0_pay531, k0_pay532, k0_pay533, k0_pay534, k0_pay535, k0_pay536, k0_pay537]

theorem sel1 : kernelRun0_B.sl.r_381 c arg1 harg1 arg2 harg2 arg3 harg3 arg4 harg4 arg8 harg8 arg9 x0 x1 x2 x3 xs0 = vtw (m1 c arg1 harg1 arg2 harg2 arg3 harg3 arg4 harg4 arg8 harg8 arg9 x0 x1 x2 x3 xs0) (sc c arg1 harg1 arg3 harg3 arg4 harg4 arg8 harg8 arg9 x0 x2 x3 xs0) 5 0 := by
  simp only [m1, sc, nth, vtw, vtv, Nat.reduceMul, Nat.reduceAdd, Nat.reduceSub, Nat.reduceDiv, Nat.reducePow,
    kernelRun0_B.sl.r_329, kernelRun0_B.sl.r_330, kernelRun0_B.sl.r_331, kernelRun0_B.sl.r_332,
    kernelRun0_B.sl.r_333, kernelRun0_B.sl.r_334, kernelRun0_B.sl.r_335, kernelRun0_B.sl.r_336,
    kernelRun0_B.sl.r_337, kernelRun0_B.sl.r_338, kernelRun0_B.sl.r_339, kernelRun0_B.sl.r_340,
    kernelRun0_B.sl.r_341, kernelRun0_B.sl.r_342, kernelRun0_B.sl.r_343, kernelRun0_B.sl.r_344,
    kernelRun0_B.sl.r_345, kernelRun0_B.sl.r_346, kernelRun0_B.sl.r_347, kernelRun0_B.sl.r_348,
    kernelRun0_B.sl.r_349, kernelRun0_B.sl.r_350, kernelRun0_B.sl.r_351, kernelRun0_B.sl.r_352,
    kernelRun0_B.sl.r_353, kernelRun0_B.sl.r_354, kernelRun0_B.sl.r_355, kernelRun0_B.sl.r_356,
    kernelRun0_B.sl.r_357, kernelRun0_B.sl.r_358, kernelRun0_B.sl.r_359, kernelRun0_B.sl.r_360,
    kernelRun0_B.sl.r_361, kernelRun0_B.sl.r_362, kernelRun0_B.sl.r_363, kernelRun0_B.sl.r_364,
    kernelRun0_B.sl.r_365, kernelRun0_B.sl.r_366, kernelRun0_B.sl.r_367, kernelRun0_B.sl.r_368,
    kernelRun0_B.sl.r_369, kernelRun0_B.sl.r_370, kernelRun0_B.sl.r_371, kernelRun0_B.sl.r_372,
    kernelRun0_B.sl.r_373, kernelRun0_B.sl.r_374, kernelRun0_B.sl.r_375, kernelRun0_B.sl.r_376,
    kernelRun0_B.sl.r_377, kernelRun0_B.sl.r_378, kernelRun0_B.sl.r_379, kernelRun0_B.sl.r_380,
    kernelRun0_B.sl.r_381, k0_pay413, k0_pay414, k0_pay415, k0_pay416, k0_pay417, k0_pay418, k0_pay419, k0_pay420,
    k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440,
    k0_pay441, k0_pay442, k0_pay443, k0_pay444, k0_pay445, k0_pay446, k0_pay447, k0_pay448, k0_pay449, k0_pay450,
    k0_pay451, k0_pay452, k0_pay453, k0_pay454, k0_pay455, k0_pay456, k0_pay457, k0_pay458, k0_pay459, k0_pay460,
    k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480,
    k0_pay481, k0_pay482, k0_pay483, k0_pay484, k0_pay485, k0_pay486, k0_pay487, k0_pay488, k0_pay489, k0_pay490,
    k0_pay491, k0_pay492, k0_pay493, k0_pay494, k0_pay495, k0_pay496, k0_pay497, k0_pay498, k0_pay499, k0_pay500,
    k0_pay501, k0_pay502, k0_pay503, k0_pay504, k0_pay505, k0_pay506, k0_pay507, k0_pay508, k0_pay509, k0_pay510,
    k0_pay511, k0_pay512, k0_pay513, k0_pay514, k0_pay515, k0_pay516, k0_pay517, k0_pay518, k0_pay519, k0_pay520,
    k0_pay521, k0_pay522, k0_pay523, k0_pay524, k0_pay525, k0_pay526, k0_pay527, k0_pay528, k0_pay529, k0_pay530,
    k0_pay531, k0_pay532, k0_pay533, k0_pay534, k0_pay535, k0_pay536, k0_pay537]

theorem m2_eq : ∀ e < 32, m2 c arg1 harg1 arg2 harg2 arg3 harg3 arg4 harg4 arg8 harg8 arg9 x0 x1 x2 x3 xs0 e = vmask (m1 c arg1 harg1 arg2 harg2 arg3 harg3 arg4 harg4 arg8 harg8 arg9 x0 x1 x2 x3 xs0) (kernelRun0_B.sl.r_380 c arg1 harg1 arg2 harg2 arg3 harg3 arg4 harg4 arg8 harg8 arg9 x0 x1 x2 x3 xs0) e := by
  intro e he
  interval_cases e <;> simp only [m2, m1, nth, vmask, vid, kernelRun0_B.sl.cst_909, Nat.reduceMul, Nat.reduceAdd, Nat.reduceSub, Nat.reduceDiv,
    Nat.reducePow, kernelRun0_B.sl.r_329, kernelRun0_B.sl.r_330, kernelRun0_B.sl.r_331, kernelRun0_B.sl.r_332,
    kernelRun0_B.sl.r_333, kernelRun0_B.sl.r_334, kernelRun0_B.sl.r_335, kernelRun0_B.sl.r_336,
    kernelRun0_B.sl.r_337, kernelRun0_B.sl.r_338, kernelRun0_B.sl.r_339, kernelRun0_B.sl.r_340,
    kernelRun0_B.sl.r_341, kernelRun0_B.sl.r_342, kernelRun0_B.sl.r_343, kernelRun0_B.sl.r_344,
    kernelRun0_B.sl.r_345, kernelRun0_B.sl.r_346, kernelRun0_B.sl.r_347, kernelRun0_B.sl.r_348,
    kernelRun0_B.sl.r_349, kernelRun0_B.sl.r_350, kernelRun0_B.sl.r_351, kernelRun0_B.sl.r_352,
    kernelRun0_B.sl.r_353, kernelRun0_B.sl.r_354, kernelRun0_B.sl.r_355, kernelRun0_B.sl.r_356,
    kernelRun0_B.sl.r_357, kernelRun0_B.sl.r_358, kernelRun0_B.sl.r_359, kernelRun0_B.sl.r_360,
    kernelRun0_B.sl.r_361, kernelRun0_B.sl.r_362, kernelRun0_B.sl.r_363, kernelRun0_B.sl.r_364,
    kernelRun0_B.sl.r_365, kernelRun0_B.sl.r_366, kernelRun0_B.sl.r_367, kernelRun0_B.sl.r_368,
    kernelRun0_B.sl.r_369, kernelRun0_B.sl.r_370, kernelRun0_B.sl.r_371, kernelRun0_B.sl.r_372,
    kernelRun0_B.sl.r_373, kernelRun0_B.sl.r_374, kernelRun0_B.sl.r_375, kernelRun0_B.sl.r_376,
    kernelRun0_B.sl.r_377, kernelRun0_B.sl.r_378, kernelRun0_B.sl.r_379, kernelRun0_B.sl.r_380,
    kernelRun0_B.sl.r_381, kernelRun0_B.sl.r_382, kernelRun0_B.sl.r_383, kernelRun0_B.sl.r_384,
    kernelRun0_B.sl.r_385, kernelRun0_B.sl.r_386, kernelRun0_B.sl.r_387, kernelRun0_B.sl.r_388,
    kernelRun0_B.sl.r_389, kernelRun0_B.sl.r_390, kernelRun0_B.sl.r_391, kernelRun0_B.sl.r_392,
    kernelRun0_B.sl.r_393, kernelRun0_B.sl.r_394, kernelRun0_B.sl.r_395, kernelRun0_B.sl.r_396,
    kernelRun0_B.sl.r_397, kernelRun0_B.sl.r_398, kernelRun0_B.sl.r_399, kernelRun0_B.sl.r_400,
    kernelRun0_B.sl.r_401, kernelRun0_B.sl.r_402, kernelRun0_B.sl.r_403, kernelRun0_B.sl.r_404,
    kernelRun0_B.sl.r_405, kernelRun0_B.sl.r_406, kernelRun0_B.sl.r_407, kernelRun0_B.sl.r_408,
    kernelRun0_B.sl.r_409, kernelRun0_B.sl.r_410, kernelRun0_B.sl.r_411, kernelRun0_B.sl.r_412,
    kernelRun0_B.sl.r_413, kernelRun0_B.sl.r_414, kernelRun0_B.sl.r_415, kernelRun0_B.sl.r_416, k0_pay413,
    k0_pay414, k0_pay415, k0_pay416, k0_pay417, k0_pay418, k0_pay419, k0_pay420, k0_pay421, k0_pay422, k0_pay423,
    k0_pay424, k0_pay425, k0_pay426, k0_pay427, k0_pay428, k0_pay429, k0_pay430, k0_pay431, k0_pay432, k0_pay433,
    k0_pay434, k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452, k0_pay453,
    k0_pay454, k0_pay455, k0_pay456, k0_pay457, k0_pay458, k0_pay459, k0_pay460, k0_pay461, k0_pay462, k0_pay463,
    k0_pay464, k0_pay465, k0_pay466, k0_pay467, k0_pay468, k0_pay469, k0_pay470, k0_pay471, k0_pay472, k0_pay473,
    k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493,
    k0_pay494, k0_pay495, k0_pay496, k0_pay497, k0_pay498, k0_pay499, k0_pay500, k0_pay501, k0_pay502, k0_pay503,
    k0_pay504, k0_pay505, k0_pay506, k0_pay507, k0_pay508, k0_pay509, k0_pay510, k0_pay511, k0_pay512, k0_pay513,
    k0_pay514, k0_pay515, k0_pay516, k0_pay517, k0_pay518, k0_pay519, k0_pay520, k0_pay521, k0_pay522, k0_pay523,
    k0_pay524, k0_pay525, k0_pay526, k0_pay527, k0_pay528, k0_pay529, k0_pay530, k0_pay531, k0_pay532, k0_pay533,
    k0_pay534, k0_pay535, k0_pay536, k0_pay537, k0_pay538, k0_pay539, k0_pay540, k0_pay541, k0_pay542, k0_pay543,
    k0_pay544, k0_pay545, k0_pay546, k0_pay547, k0_pay548, k0_pay549, k0_pay550, k0_pay551, k0_pay552, k0_pay553,
    k0_pay554, k0_pay555, k0_pay556, k0_pay557, k0_pay558, k0_pay559, k0_pay560, k0_pay561, k0_pay562, k0_pay563,
    k0_pay564, k0_pay565, k0_pay566, k0_pay567, k0_pay568, k0_pay569, k0_pay570, k0_pay571, k0_pay572, k0_pay573,
    k0_pay574, k0_pay575] <;> rfl

theorem idx2 : kernelRun0_B.sl.r_470 c arg1 harg1 arg2 harg2 arg3 harg3 arg4 harg4 arg8 harg8 arg9 x0 x1 x2 x3 xs0 = vtw (m2 c arg1 harg1 arg2 harg2 arg3 harg3 arg4 harg4 arg8 harg8 arg9 x0 x1 x2 x3 xs0) vid 5 0 := by
  simp only [m2, nth, vtw, vtv, vid, Nat.reduceMul, Nat.reduceAdd, Nat.reduceSub, Nat.reduceDiv, Nat.reducePow,
    kernelRun0_B.sl.r_417, kernelRun0_B.sl.r_418, kernelRun0_B.sl.r_419, kernelRun0_B.sl.r_420,
    kernelRun0_B.sl.r_421, kernelRun0_B.sl.r_422, kernelRun0_B.sl.r_423, kernelRun0_B.sl.r_424,
    kernelRun0_B.sl.r_425, kernelRun0_B.sl.r_426, kernelRun0_B.sl.r_427, kernelRun0_B.sl.r_428,
    kernelRun0_B.sl.r_429, kernelRun0_B.sl.r_430, kernelRun0_B.sl.r_431, kernelRun0_B.sl.r_432,
    kernelRun0_B.sl.r_433, kernelRun0_B.sl.r_434, kernelRun0_B.sl.r_435, kernelRun0_B.sl.r_436,
    kernelRun0_B.sl.r_437, kernelRun0_B.sl.r_438, kernelRun0_B.sl.r_439, kernelRun0_B.sl.r_440,
    kernelRun0_B.sl.r_441, kernelRun0_B.sl.r_442, kernelRun0_B.sl.r_443, kernelRun0_B.sl.r_444,
    kernelRun0_B.sl.r_445, kernelRun0_B.sl.r_446, kernelRun0_B.sl.r_447, kernelRun0_B.sl.r_448,
    kernelRun0_B.sl.r_449, kernelRun0_B.sl.r_450, kernelRun0_B.sl.r_451, kernelRun0_B.sl.r_452,
    kernelRun0_B.sl.r_453, kernelRun0_B.sl.r_454, kernelRun0_B.sl.r_455, kernelRun0_B.sl.r_456,
    kernelRun0_B.sl.r_457, kernelRun0_B.sl.r_458, kernelRun0_B.sl.r_459, kernelRun0_B.sl.r_460,
    kernelRun0_B.sl.r_461, kernelRun0_B.sl.r_462, kernelRun0_B.sl.r_463, kernelRun0_B.sl.r_464,
    kernelRun0_B.sl.r_465, kernelRun0_B.sl.r_466, kernelRun0_B.sl.r_467, kernelRun0_B.sl.r_468,
    kernelRun0_B.sl.r_469, kernelRun0_B.sl.r_470, kernelRun0_B.sl.r_471, k0_pay576, k0_pay577, k0_pay578, k0_pay579,
    k0_pay580, k0_pay581, k0_pay582, k0_pay583, k0_pay584, k0_pay585, k0_pay586, k0_pay587, k0_pay588, k0_pay589,
    k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609,
    k0_pay610, k0_pay611, k0_pay612, k0_pay613, k0_pay614, k0_pay615, k0_pay616, k0_pay617, k0_pay618, k0_pay619,
    k0_pay620, k0_pay621, k0_pay622, k0_pay623, k0_pay624, k0_pay625, k0_pay626, k0_pay627, k0_pay628, k0_pay629,
    k0_pay630, k0_pay631, k0_pay632, k0_pay633, k0_pay634, k0_pay635, k0_pay636, k0_pay637, k0_pay638, k0_pay639,
    k0_pay640, k0_pay641, k0_pay642, k0_pay643, k0_pay644, k0_pay645, k0_pay646, k0_pay647, k0_pay648, k0_pay649,
    k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669,
    k0_pay670, k0_pay671, k0_pay672, k0_pay673, k0_pay674, k0_pay675, k0_pay676, k0_pay677, k0_pay678, k0_pay679,
    k0_pay680, k0_pay681, k0_pay682, k0_pay683, k0_pay684, k0_pay685, k0_pay686, k0_pay687, k0_pay688, k0_pay689,
    k0_pay690, k0_pay691, k0_pay692, k0_pay693, k0_pay694, k0_pay695, k0_pay696, k0_pay697, k0_pay698, k0_pay699,
    k0_pay700, k0_pay701, k0_pay702]

theorem sel2 : kernelRun0_B.sl.r_471 c arg1 harg1 arg2 harg2 arg3 harg3 arg4 harg4 arg8 harg8 arg9 x0 x1 x2 x3 xs0 = vtw (m2 c arg1 harg1 arg2 harg2 arg3 harg3 arg4 harg4 arg8 harg8 arg9 x0 x1 x2 x3 xs0) (sc c arg1 harg1 arg3 harg3 arg4 harg4 arg8 harg8 arg9 x0 x2 x3 xs0) 5 0 := by
  simp only [m2, sc, nth, vtw, vtv, Nat.reduceMul, Nat.reduceAdd, Nat.reduceSub, Nat.reduceDiv, Nat.reducePow,
    kernelRun0_B.sl.r_417, kernelRun0_B.sl.r_418, kernelRun0_B.sl.r_419, kernelRun0_B.sl.r_420,
    kernelRun0_B.sl.r_421, kernelRun0_B.sl.r_422, kernelRun0_B.sl.r_423, kernelRun0_B.sl.r_424,
    kernelRun0_B.sl.r_425, kernelRun0_B.sl.r_426, kernelRun0_B.sl.r_427, kernelRun0_B.sl.r_428,
    kernelRun0_B.sl.r_429, kernelRun0_B.sl.r_430, kernelRun0_B.sl.r_431, kernelRun0_B.sl.r_432,
    kernelRun0_B.sl.r_433, kernelRun0_B.sl.r_434, kernelRun0_B.sl.r_435, kernelRun0_B.sl.r_436,
    kernelRun0_B.sl.r_437, kernelRun0_B.sl.r_438, kernelRun0_B.sl.r_439, kernelRun0_B.sl.r_440,
    kernelRun0_B.sl.r_441, kernelRun0_B.sl.r_442, kernelRun0_B.sl.r_443, kernelRun0_B.sl.r_444,
    kernelRun0_B.sl.r_445, kernelRun0_B.sl.r_446, kernelRun0_B.sl.r_447, kernelRun0_B.sl.r_448,
    kernelRun0_B.sl.r_449, kernelRun0_B.sl.r_450, kernelRun0_B.sl.r_451, kernelRun0_B.sl.r_452,
    kernelRun0_B.sl.r_453, kernelRun0_B.sl.r_454, kernelRun0_B.sl.r_455, kernelRun0_B.sl.r_456,
    kernelRun0_B.sl.r_457, kernelRun0_B.sl.r_458, kernelRun0_B.sl.r_459, kernelRun0_B.sl.r_460,
    kernelRun0_B.sl.r_461, kernelRun0_B.sl.r_462, kernelRun0_B.sl.r_463, kernelRun0_B.sl.r_464,
    kernelRun0_B.sl.r_465, kernelRun0_B.sl.r_466, kernelRun0_B.sl.r_467, kernelRun0_B.sl.r_468,
    kernelRun0_B.sl.r_469, kernelRun0_B.sl.r_470, kernelRun0_B.sl.r_471, k0_pay576, k0_pay577, k0_pay578, k0_pay579,
    k0_pay580, k0_pay581, k0_pay582, k0_pay583, k0_pay584, k0_pay585, k0_pay586, k0_pay587, k0_pay588, k0_pay589,
    k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609,
    k0_pay610, k0_pay611, k0_pay612, k0_pay613, k0_pay614, k0_pay615, k0_pay616, k0_pay617, k0_pay618, k0_pay619,
    k0_pay620, k0_pay621, k0_pay622, k0_pay623, k0_pay624, k0_pay625, k0_pay626, k0_pay627, k0_pay628, k0_pay629,
    k0_pay630, k0_pay631, k0_pay632, k0_pay633, k0_pay634, k0_pay635, k0_pay636, k0_pay637, k0_pay638, k0_pay639,
    k0_pay640, k0_pay641, k0_pay642, k0_pay643, k0_pay644, k0_pay645, k0_pay646, k0_pay647, k0_pay648, k0_pay649,
    k0_pay650, k0_pay651, k0_pay652, k0_pay653, k0_pay654, k0_pay655, k0_pay656, k0_pay657, k0_pay658, k0_pay659,
    k0_pay660, k0_pay661, k0_pay662, k0_pay663, k0_pay664, k0_pay665, k0_pay666, k0_pay667, k0_pay668, k0_pay669,
    k0_pay670, k0_pay671, k0_pay672, k0_pay673, k0_pay674, k0_pay675, k0_pay676, k0_pay677, k0_pay678, k0_pay679,
    k0_pay680, k0_pay681, k0_pay682, k0_pay683, k0_pay684, k0_pay685, k0_pay686, k0_pay687, k0_pay688, k0_pay689,
    k0_pay690, k0_pay691, k0_pay692, k0_pay693, k0_pay694, k0_pay695, k0_pay696, k0_pay697, k0_pay698, k0_pay699,
    k0_pay700, k0_pay701, k0_pay702]

theorem m3_eq : ∀ e < 32, m3 c arg1 harg1 arg2 harg2 arg3 harg3 arg4 harg4 arg8 harg8 arg9 x0 x1 x2 x3 xs0 e = vmask (m2 c arg1 harg1 arg2 harg2 arg3 harg3 arg4 harg4 arg8 harg8 arg9 x0 x1 x2 x3 xs0) (kernelRun0_B.sl.r_470 c arg1 harg1 arg2 harg2 arg3 harg3 arg4 harg4 arg8 harg8 arg9 x0 x1 x2 x3 xs0) e := by
  intro e he
  interval_cases e <;> simp only [m3, m2, nth, vmask, vid, kernelRun0_B.sl.cst_909, Nat.reduceMul, Nat.reduceAdd, Nat.reduceSub, Nat.reduceDiv,
    Nat.reducePow, kernelRun0_B.sl.r_417, kernelRun0_B.sl.r_418, kernelRun0_B.sl.r_419, kernelRun0_B.sl.r_420,
    kernelRun0_B.sl.r_421, kernelRun0_B.sl.r_422, kernelRun0_B.sl.r_423, kernelRun0_B.sl.r_424,
    kernelRun0_B.sl.r_425, kernelRun0_B.sl.r_426, kernelRun0_B.sl.r_427, kernelRun0_B.sl.r_428,
    kernelRun0_B.sl.r_429, kernelRun0_B.sl.r_430, kernelRun0_B.sl.r_431, kernelRun0_B.sl.r_432,
    kernelRun0_B.sl.r_433, kernelRun0_B.sl.r_434, kernelRun0_B.sl.r_435, kernelRun0_B.sl.r_436,
    kernelRun0_B.sl.r_437, kernelRun0_B.sl.r_438, kernelRun0_B.sl.r_439, kernelRun0_B.sl.r_440,
    kernelRun0_B.sl.r_441, kernelRun0_B.sl.r_442, kernelRun0_B.sl.r_443, kernelRun0_B.sl.r_444,
    kernelRun0_B.sl.r_445, kernelRun0_B.sl.r_446, kernelRun0_B.sl.r_447, kernelRun0_B.sl.r_448,
    kernelRun0_B.sl.r_449, kernelRun0_B.sl.r_450, kernelRun0_B.sl.r_451, kernelRun0_B.sl.r_452,
    kernelRun0_B.sl.r_453, kernelRun0_B.sl.r_454, kernelRun0_B.sl.r_455, kernelRun0_B.sl.r_456,
    kernelRun0_B.sl.r_457, kernelRun0_B.sl.r_458, kernelRun0_B.sl.r_459, kernelRun0_B.sl.r_460,
    kernelRun0_B.sl.r_461, kernelRun0_B.sl.r_462, kernelRun0_B.sl.r_463, kernelRun0_B.sl.r_464,
    kernelRun0_B.sl.r_465, kernelRun0_B.sl.r_466, kernelRun0_B.sl.r_467, kernelRun0_B.sl.r_468,
    kernelRun0_B.sl.r_469, kernelRun0_B.sl.r_470, kernelRun0_B.sl.r_471, kernelRun0_B.sl.r_472,
    kernelRun0_B.sl.r_473, kernelRun0_B.sl.r_474, kernelRun0_B.sl.r_475, kernelRun0_B.sl.r_476,
    kernelRun0_B.sl.r_477, kernelRun0_B.sl.r_478, kernelRun0_B.sl.r_479, kernelRun0_B.sl.r_480,
    kernelRun0_B.sl.r_481, kernelRun0_B.sl.r_482, kernelRun0_B.sl.r_483, kernelRun0_B.sl.r_484,
    kernelRun0_B.sl.r_485, kernelRun0_B.sl.r_486, kernelRun0_B.sl.r_487, kernelRun0_B.sl.r_488,
    kernelRun0_B.sl.r_489, kernelRun0_B.sl.r_490, kernelRun0_B.sl.r_491, kernelRun0_B.sl.r_492,
    kernelRun0_B.sl.r_493, kernelRun0_B.sl.r_494, kernelRun0_B.sl.r_495, kernelRun0_B.sl.r_496,
    kernelRun0_B.sl.r_497, kernelRun0_B.sl.r_498, kernelRun0_B.sl.r_499, kernelRun0_B.sl.r_500,
    kernelRun0_B.sl.r_501, kernelRun0_B.sl.r_502, kernelRun0_B.sl.r_503, kernelRun0_B.sl.r_504,
    kernelRun0_B.sl.r_505, kernelRun0_B.sl.r_506, k0_pay576, k0_pay577, k0_pay578, k0_pay579, k0_pay580, k0_pay581,
    k0_pay582, k0_pay583, k0_pay584, k0_pay585, k0_pay586, k0_pay587, k0_pay588, k0_pay589, k0_pay590, k0_pay591,
    k0_pay592, k0_pay593, k0_pay594, k0_pay595, k0_pay596, k0_pay597, k0_pay598, k0_pay599, k0_pay600, k0_pay601,
    k0_pay602, k0_pay603, k0_pay604, k0_pay605, k0_pay606, k0_pay607, k0_pay608, k0_pay609, k0_pay610, k0_pay611,
    k0_pay612, k0_pay613, k0_pay614, k0_pay615, k0_pay616, k0_pay617, k0_pay618, k0_pay619, k0_pay620, k0_pay621,
    k0_pay622, k0_pay623, k0_pay624, k0_pay625, k0_pay626, k0_pay627, k0_pay628, k0_pay629, k0_pay630, k0_pay631,
    k0_pay632, k0_pay633, k0_pay634, k0_pay635, k0_pay636, k0_pay637, k0_pay638, k0_pay639, k0_pay640, k0_pay641,
    k0_pay642, k0_pay643, k0_pay644, k0_pay645, k0_pay646, k0_pay647, k0_pay648, k0_pay649, k0_pay650, k0_pay651,
    k0_pay652, k0_pay653, k0_pay654, k0_pay655, k0_pay656, k0_pay657, k0_pay658, k0_pay659, k0_pay660, k0_pay661,
    k0_pay662, k0_pay663, k0_pay664, k0_pay665, k0_pay666, k0_pay667, k0_pay668, k0_pay669, k0_pay670, k0_pay671,
    k0_pay672, k0_pay673, k0_pay674, k0_pay675, k0_pay676, k0_pay677, k0_pay678, k0_pay679, k0_pay680, k0_pay681,
    k0_pay682, k0_pay683, k0_pay684, k0_pay685, k0_pay686, k0_pay687, k0_pay688, k0_pay689, k0_pay690, k0_pay691,
    k0_pay692, k0_pay693, k0_pay694, k0_pay695, k0_pay696, k0_pay697, k0_pay698, k0_pay699, k0_pay700, k0_pay701,
    k0_pay702, k0_pay703, k0_pay704, k0_pay705, k0_pay706, k0_pay707, k0_pay708, k0_pay709, k0_pay710, k0_pay711,
    k0_pay712, k0_pay713, k0_pay714, k0_pay715, k0_pay716, k0_pay717, k0_pay718, k0_pay719, k0_pay720, k0_pay721,
    k0_pay722, k0_pay723, k0_pay724, k0_pay725, k0_pay726, k0_pay727, k0_pay728, k0_pay729, k0_pay730, k0_pay731,
    k0_pay732, k0_pay733, k0_pay734, k0_pay735, k0_pay736, k0_pay737] <;> rfl

theorem idx3 : kernelRun0_B.sl.r_558 c arg1 harg1 arg2 harg2 arg3 harg3 arg4 harg4 arg8 harg8 arg9 x0 x1 x2 x3 xs0 = vtw (m3 c arg1 harg1 arg2 harg2 arg3 harg3 arg4 harg4 arg8 harg8 arg9 x0 x1 x2 x3 xs0) vid 5 0 := by
  simp only [m3, nth, vtw, vtv, vid, Nat.reduceMul, Nat.reduceAdd, Nat.reduceSub, Nat.reduceDiv, Nat.reducePow,
    kernelRun0_B.sl.r_507, kernelRun0_B.sl.r_508, kernelRun0_B.sl.r_509, kernelRun0_B.sl.r_510,
    kernelRun0_B.sl.r_511, kernelRun0_B.sl.r_512, kernelRun0_B.sl.r_513, kernelRun0_B.sl.r_514,
    kernelRun0_B.sl.r_515, kernelRun0_B.sl.r_516, kernelRun0_B.sl.r_517, kernelRun0_B.sl.r_518,
    kernelRun0_B.sl.r_519, kernelRun0_B.sl.r_520, kernelRun0_B.sl.r_521, kernelRun0_B.sl.r_522,
    kernelRun0_B.sl.r_523, kernelRun0_B.sl.r_524, kernelRun0_B.sl.r_525, kernelRun0_B.sl.r_526,
    kernelRun0_B.sl.r_527, kernelRun0_B.sl.r_528, kernelRun0_B.sl.r_529, kernelRun0_B.sl.r_530,
    kernelRun0_B.sl.r_531, kernelRun0_B.sl.r_532, kernelRun0_B.sl.r_533, kernelRun0_B.sl.r_534,
    kernelRun0_B.sl.r_535, kernelRun0_B.sl.r_536, kernelRun0_B.sl.r_537, kernelRun0_B.sl.r_538,
    kernelRun0_B.sl.r_539, kernelRun0_B.sl.r_540, kernelRun0_B.sl.r_541, kernelRun0_B.sl.r_542,
    kernelRun0_B.sl.r_543, kernelRun0_B.sl.r_544, kernelRun0_B.sl.r_545, kernelRun0_B.sl.r_546,
    kernelRun0_B.sl.r_547, kernelRun0_B.sl.r_548, kernelRun0_B.sl.r_549, kernelRun0_B.sl.r_550,
    kernelRun0_B.sl.r_551, kernelRun0_B.sl.r_552, kernelRun0_B.sl.r_553, kernelRun0_B.sl.r_554,
    kernelRun0_B.sl.r_555, kernelRun0_B.sl.r_556, kernelRun0_B.sl.r_557, kernelRun0_B.sl.r_558,
    kernelRun0_B.sl.r_559, k0_pay738, k0_pay739, k0_pay740, k0_pay741, k0_pay742, k0_pay743, k0_pay744, k0_pay745,
    k0_pay746, k0_pay747, k0_pay748, k0_pay749, k0_pay750, k0_pay751, k0_pay752, k0_pay753, k0_pay754, k0_pay755,
    k0_pay756, k0_pay757, k0_pay758, k0_pay759, k0_pay760, k0_pay761, k0_pay762, k0_pay763, k0_pay764, k0_pay765,
    k0_pay766, k0_pay767, k0_pay768, k0_pay769, k0_pay770, k0_pay771, k0_pay772, k0_pay773, k0_pay774, k0_pay775,
    k0_pay776, k0_pay777, k0_pay778, k0_pay779, k0_pay780, k0_pay781, k0_pay782, k0_pay783, k0_pay784, k0_pay785,
    k0_pay786, k0_pay787, k0_pay788, k0_pay789, k0_pay790, k0_pay791, k0_pay792, k0_pay793, k0_pay794, k0_pay795,
    k0_pay796, k0_pay797, k0_pay798, k0_pay799, k0_pay800, k0_pay801, k0_pay802, k0_pay803, k0_pay804, k0_pay805,
    k0_pay806, k0_pay807, k0_pay808, k0_pay809, k0_pay810, k0_pay811, k0_pay812, k0_pay813, k0_pay814, k0_pay815,
    k0_pay816, k0_pay817, k0_pay818, k0_pay819, k0_pay820, k0_pay821, k0_pay822, k0_pay823, k0_pay824, k0_pay825,
    k0_pay826, k0_pay827, k0_pay828, k0_pay829, k0_pay830, k0_pay831, k0_pay832, k0_pay833, k0_pay834, k0_pay835,
    k0_pay836, k0_pay837, k0_pay838, k0_pay839, k0_pay840, k0_pay841, k0_pay842, k0_pay843, k0_pay844, k0_pay845,
    k0_pay846, k0_pay847, k0_pay848, k0_pay849, k0_pay850, k0_pay851, k0_pay852, k0_pay853, k0_pay854, k0_pay855,
    k0_pay856, k0_pay857, k0_pay858, k0_pay859, k0_pay860, k0_pay861, k0_pay862, k0_pay863, k0_pay864]

theorem sel3 : kernelRun0_B.sl.r_559 c arg1 harg1 arg2 harg2 arg3 harg3 arg4 harg4 arg8 harg8 arg9 x0 x1 x2 x3 xs0 = vtw (m3 c arg1 harg1 arg2 harg2 arg3 harg3 arg4 harg4 arg8 harg8 arg9 x0 x1 x2 x3 xs0) (sc c arg1 harg1 arg3 harg3 arg4 harg4 arg8 harg8 arg9 x0 x2 x3 xs0) 5 0 := by
  simp only [m3, sc, nth, vtw, vtv, Nat.reduceMul, Nat.reduceAdd, Nat.reduceSub, Nat.reduceDiv, Nat.reducePow,
    kernelRun0_B.sl.r_507, kernelRun0_B.sl.r_508, kernelRun0_B.sl.r_509, kernelRun0_B.sl.r_510,
    kernelRun0_B.sl.r_511, kernelRun0_B.sl.r_512, kernelRun0_B.sl.r_513, kernelRun0_B.sl.r_514,
    kernelRun0_B.sl.r_515, kernelRun0_B.sl.r_516, kernelRun0_B.sl.r_517, kernelRun0_B.sl.r_518,
    kernelRun0_B.sl.r_519, kernelRun0_B.sl.r_520, kernelRun0_B.sl.r_521, kernelRun0_B.sl.r_522,
    kernelRun0_B.sl.r_523, kernelRun0_B.sl.r_524, kernelRun0_B.sl.r_525, kernelRun0_B.sl.r_526,
    kernelRun0_B.sl.r_527, kernelRun0_B.sl.r_528, kernelRun0_B.sl.r_529, kernelRun0_B.sl.r_530,
    kernelRun0_B.sl.r_531, kernelRun0_B.sl.r_532, kernelRun0_B.sl.r_533, kernelRun0_B.sl.r_534,
    kernelRun0_B.sl.r_535, kernelRun0_B.sl.r_536, kernelRun0_B.sl.r_537, kernelRun0_B.sl.r_538,
    kernelRun0_B.sl.r_539, kernelRun0_B.sl.r_540, kernelRun0_B.sl.r_541, kernelRun0_B.sl.r_542,
    kernelRun0_B.sl.r_543, kernelRun0_B.sl.r_544, kernelRun0_B.sl.r_545, kernelRun0_B.sl.r_546,
    kernelRun0_B.sl.r_547, kernelRun0_B.sl.r_548, kernelRun0_B.sl.r_549, kernelRun0_B.sl.r_550,
    kernelRun0_B.sl.r_551, kernelRun0_B.sl.r_552, kernelRun0_B.sl.r_553, kernelRun0_B.sl.r_554,
    kernelRun0_B.sl.r_555, kernelRun0_B.sl.r_556, kernelRun0_B.sl.r_557, kernelRun0_B.sl.r_558,
    kernelRun0_B.sl.r_559, k0_pay738, k0_pay739, k0_pay740, k0_pay741, k0_pay742, k0_pay743, k0_pay744, k0_pay745,
    k0_pay746, k0_pay747, k0_pay748, k0_pay749, k0_pay750, k0_pay751, k0_pay752, k0_pay753, k0_pay754, k0_pay755,
    k0_pay756, k0_pay757, k0_pay758, k0_pay759, k0_pay760, k0_pay761, k0_pay762, k0_pay763, k0_pay764, k0_pay765,
    k0_pay766, k0_pay767, k0_pay768, k0_pay769, k0_pay770, k0_pay771, k0_pay772, k0_pay773, k0_pay774, k0_pay775,
    k0_pay776, k0_pay777, k0_pay778, k0_pay779, k0_pay780, k0_pay781, k0_pay782, k0_pay783, k0_pay784, k0_pay785,
    k0_pay786, k0_pay787, k0_pay788, k0_pay789, k0_pay790, k0_pay791, k0_pay792, k0_pay793, k0_pay794, k0_pay795,
    k0_pay796, k0_pay797, k0_pay798, k0_pay799, k0_pay800, k0_pay801, k0_pay802, k0_pay803, k0_pay804, k0_pay805,
    k0_pay806, k0_pay807, k0_pay808, k0_pay809, k0_pay810, k0_pay811, k0_pay812, k0_pay813, k0_pay814, k0_pay815,
    k0_pay816, k0_pay817, k0_pay818, k0_pay819, k0_pay820, k0_pay821, k0_pay822, k0_pay823, k0_pay824, k0_pay825,
    k0_pay826, k0_pay827, k0_pay828, k0_pay829, k0_pay830, k0_pay831, k0_pay832, k0_pay833, k0_pay834, k0_pay835,
    k0_pay836, k0_pay837, k0_pay838, k0_pay839, k0_pay840, k0_pay841, k0_pay842, k0_pay843, k0_pay844, k0_pay845,
    k0_pay846, k0_pay847, k0_pay848, k0_pay849, k0_pay850, k0_pay851, k0_pay852, k0_pay853, k0_pay854, k0_pay855,
    k0_pay856, k0_pay857, k0_pay858, k0_pay859, k0_pay860, k0_pay861, k0_pay862, k0_pay863, k0_pay864]

theorem tot : kernelRun0_B.sl.r_560 c arg1 harg1 arg2 harg2 arg3 harg3 arg4 harg4 arg8 harg8 arg9 x0 x1 x2 x3 xs0 = addf (addf (addf (kernelRun0_B.sl.r_296 c arg1 harg1 arg2 harg2 arg3 harg3 arg4 harg4 arg8 harg8 arg9 x0 x1 x2 x3 xs0) (kernelRun0_B.sl.r_381 c arg1 harg1 arg2 harg2 arg3 harg3 arg4 harg4 arg8 harg8 arg9 x0 x1 x2 x3 xs0)) (kernelRun0_B.sl.r_471 c arg1 harg1 arg2 harg2 arg3 harg3 arg4 harg4 arg8 harg8 arg9 x0 x1 x2 x3 xs0)) (kernelRun0_B.sl.r_559 c arg1 harg1 arg2 harg2 arg3 harg3 arg4 harg4 arg8 harg8 arg9 x0 x1 x2 x3 xs0) := by
  simp only [Nat.reduceMul, Nat.reduceAdd, Nat.reduceSub, Nat.reduceDiv, Nat.reducePow, kernelRun0_B.sl.r_559,
    kernelRun0_B.sl.r_560, k0_pay846, k0_pay847, k0_pay848, k0_pay849, k0_pay850, k0_pay851, k0_pay852, k0_pay853,
    k0_pay854, k0_pay855, k0_pay856, k0_pay857, k0_pay858, k0_pay859, k0_pay860, k0_pay861, k0_pay862, k0_pay864,
    k0_pay865]

end Cert.RouteB
-- ==== Proof.StoredB.lean ====
/- The matrix product of the router's body at the later steps, which find the weights widened: what it stores, named by what it means. -/
module

public import proofs.«01_k».proof.Proof.Logit
public import proofs.«01_k».proof.Proof.Gen.KernelIdeal.Frame

@[expose] public section

set_option maxRecDepth 16384

noncomputable section

namespace Cert.RouteB

open Idealize.ShloMosaic Idealize.ShloMosaic.ValueKit Cert.KernelIdeal Cert.KernelIdeal.Gen Cert.Model

variable (c : Dev nD) (arg3 : Memref sig .tc .vmem S1024x2816 .fp8e4m3) (harg3 : arg3.IsWhole) (arg4 : Memref sig .tc .vmem S1x22x1024 .f32) (harg4 : arg4.IsWhole) (arg8 : Memref sig .tc .vmem S11x64x256 .bf16) (harg8 : arg8.IsWhole)
  (x2 : Vec Ideal S1024x2816 .fp8e4m3) (x3 : Vec Ideal S1x22x1024 .f32) (xs0 : Vec Ideal S11x64x256 .bf16)

/-- The rows of logits the body stores. -/
theorem stored : (kernelRun0_B.sl.HS1_8 c arg3 harg3 arg4 harg4 arg8 harg8 x2 x3 xs0 : List (View.Piece (Elt Ideal) S288x128 .f32)) =
    [⟨Rect.unit ![252, 0] S32x128.size inb_S288x128_S32x128_252_0, half1 (chunk (tw xs0) x2 x3 3)⟩,
     ⟨Rect.unit ![216, 0] S32x128.size inb_S288x128_S32x128_216_0, half0 (chunk (tw xs0) x2 x3 3)⟩,
     ⟨Rect.unit ![180, 0] S32x128.size inb_S288x128_S32x128_180_0, half1 (chunk (tw xs0) x2 x3 2)⟩,
     ⟨Rect.unit ![144, 0] S32x128.size inb_S288x128_S32x128_144_0, half0 (chunk (tw xs0) x2 x3 2)⟩,
     ⟨Rect.unit ![108, 0] S32x128.size inb_S288x128_S32x128_108_0, half1 (chunk (tw xs0) x2 x3 1)⟩,
     ⟨Rect.unit ![72, 0] S32x128.size inb_S288x128_S32x128_72_0, half0 (chunk (tw xs0) x2 x3 1)⟩,
     ⟨Rect.unit ![36, 0] S32x128.size inb_S288x128_S32x128_36_0, half1 (chunk (tw xs0) x2 x3 0)⟩,
     ⟨Rect.unit ![0, 0] S32x128.size inb_S288x128_S32x128_0_0, half0 (chunk (tw xs0) x2 x3 0)⟩] := by
  simp only [half0, half1, chunk, acc, part0, part1, mm, load_x, load_x', load_s, load_s', load_w, load_w', Nat.reduceMul, Nat.reduceAdd,
    kernelRun0_B.sl.HS1_8, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48,
    k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89]

end Cert.RouteB
-- ==== Proof.OutB.lean ====
/- The blocks the router's body stores at the later steps, which find the weights widened. -/
module

public import proofs.«01_k».proof.Proof.RouteB
public import proofs.«01_k».proof.Proof.Combine
public import proofs.«01_k».proof.Proof.StoredB
public import proofs.«01_k».proof.Proof.LogitAt

@[expose] public section

set_option maxRecDepth 16384

noncomputable section

namespace Cert.RouteB

open Idealize.ShloMosaic Idealize.ShloMosaic.ValueKit Cert.KernelIdeal Cert.KernelIdeal.Gen Cert.Model Cert.Spec

variable (c : Dev nD) (i : grid0.Coords) (arg1 : Memref sig .tc .smem S32 .f32) (harg1 : arg1.IsWhole) (arg2 : Memref sig .tc .smem S32 .f32) (harg2 : arg2.IsWhole) (arg3 : Memref sig .tc .vmem S1024x2816 .fp8e4m3) (harg3 : arg3.IsWhole) (arg4 : Memref sig .tc .vmem S1x22x1024 .f32) (harg4 : arg4.IsWhole) (arg5 : Memref sig .tc .vmem S32x2816 .fp8e4m3) (harg5 : arg5.IsWhole) (arg6 : Memref sig .tc .vmem S1x4x1024 .i32) (harg6 : arg6.IsWhole) (arg7 : Memref sig .tc .vmem S1x4x1024 .f32) (harg7 : arg7.IsWhole) (arg8 : Memref sig .tc .vmem S11x64x256 .bf16) (harg8 : arg8.IsWhole) (arg9 : Memref sig .tc .vmem S288x128 .f32) (harg9 : arg9.IsWhole) (arg10 : Memref sig .tc .vmem S32x128 .i32) (harg10 : arg10.IsWhole) (arg11 : Memref sig .tc .vmem S32x128 .f32) (harg11 : arg11.IsWhole) (hc0 : ¬cond0_0 i)
  (x0 : Vec Ideal S32 .f32) (x1 : Vec Ideal S32 .f32) (x2 : Vec Ideal S1024x2816 .fp8e4m3) (x3 : Vec Ideal S1x22x1024 .f32) (x4 : Vec Ideal S32x2816 .fp8e4m3) (xs0 : Vec Ideal S11x64x256 .bf16)

theorem routed : Routed x0 x1 (lo c arg3 harg3 arg4 harg4 arg8 harg8 arg9 x2 x3 xs0) (sc c arg1 harg1 arg3 harg3 arg4 harg4 arg8 harg8 arg9 x0 x2 x3 xs0) (ch c arg1 harg1 arg2 harg2 arg3 harg3 arg4 harg4 arg8 harg8 arg9 x0 x1 x2 x3 xs0) (gr c arg1 harg1 arg2 harg2 arg3 harg3 arg4 harg4 arg8 harg8 arg9 x0 x1 x2 x3 xs0)
    (m0 c arg1 harg1 arg2 harg2 arg3 harg3 arg4 harg4 arg8 harg8 arg9 x0 x1 x2 x3 xs0) (m1 c arg1 harg1 arg2 harg2 arg3 harg3 arg4 harg4 arg8 harg8 arg9 x0 x1 x2 x3 xs0) (m2 c arg1 harg1 arg2 harg2 arg3 harg3 arg4 harg4 arg8 harg8 arg9 x0 x1 x2 x3 xs0) (m3 c arg1 harg1 arg2 harg2 arg3 harg3 arg4 harg4 arg8 harg8 arg9 x0 x1 x2 x3 xs0) (rk c arg1 harg1 arg2 harg2 arg3 harg3 arg4 harg4 arg8 harg8 arg9 x0 x1 x2 x3 xs0)
    (kernelRun0_B.sl.r_295 c arg1 harg1 arg2 harg2 arg3 harg3 arg4 harg4 arg8 harg8 arg9 x0 x1 x2 x3 xs0) (kernelRun0_B.sl.r_380 c arg1 harg1 arg2 harg2 arg3 harg3 arg4 harg4 arg8 harg8 arg9 x0 x1 x2 x3 xs0) (kernelRun0_B.sl.r_470 c arg1 harg1 arg2 harg2 arg3 harg3 arg4 harg4 arg8 harg8 arg9 x0 x1 x2 x3 xs0) (kernelRun0_B.sl.r_558 c arg1 harg1 arg2 harg2 arg3 harg3 arg4 harg4 arg8 harg8 arg9 x0 x1 x2 x3 xs0) (kernelRun0_B.sl.r_296 c arg1 harg1 arg2 harg2 arg3 harg3 arg4 harg4 arg8 harg8 arg9 x0 x1 x2 x3 xs0) (kernelRun0_B.sl.r_381 c arg1 harg1 arg2 harg2 arg3 harg3 arg4 harg4 arg8 harg8 arg9 x0 x1 x2 x3 xs0) (kernelRun0_B.sl.r_471 c arg1 harg1 arg2 harg2 arg3 harg3 arg4 harg4 arg8 harg8 arg9 x0 x1 x2 x3 xs0) (kernelRun0_B.sl.r_559 c arg1 harg1 arg2 harg2 arg3 harg3 arg4 harg4 arg8 harg8 arg9 x0 x1 x2 x3 xs0) (kernelRun0_B.sl.r_560 c arg1 harg1 arg2 harg2 arg3 harg3 arg4 harg4 arg8 harg8 arg9 x0 x1 x2 x3 xs0) :=
  ⟨sc_eq c arg1 harg1 arg3 harg3 arg4 harg4 arg8 harg8 arg9 x0 x2 x3 xs0, ch_eq c arg1 harg1 arg2 harg2 arg3 harg3 arg4 harg4 arg8 harg8 arg9 x0 x1 x2 x3 xs0, gr_eq c arg1 harg1 arg2 harg2 arg3 harg3 arg4 harg4 arg8 harg8 arg9 x0 x1 x2 x3 xs0, rk_eq c arg1 harg1 arg2 harg2 arg3 harg3 arg4 harg4 arg8 harg8 arg9 x0 x1 x2 x3 xs0, m0_eq c arg1 harg1 arg2 harg2 arg3 harg3 arg4 harg4 arg8 harg8 arg9 x0 x1 x2 x3 xs0,
    idx0 c arg1 harg1 arg2 harg2 arg3 harg3 arg4 harg4 arg8 harg8 arg9 x0 x1 x2 x3 xs0, sel0 c arg1 harg1 arg2 harg2 arg3 harg3 arg4 harg4 arg8 harg8 arg9 x0 x1 x2 x3 xs0, m1_eq c arg1 harg1 arg2 harg2 arg3 harg3 arg4 harg4 arg8 harg8 arg9 x0 x1 x2 x3 xs0, idx1 c arg1 harg1 arg2 harg2 arg3 harg3 arg4 harg4 arg8 harg8 arg9 x0 x1 x2 x3 xs0, sel1 c arg1 harg1 arg2 harg2 arg3 harg3 arg4 harg4 arg8 harg8 arg9 x0 x1 x2 x3 xs0, m2_eq c arg1 harg1 arg2 harg2 arg3 harg3 arg4 harg4 arg8 harg8 arg9 x0 x1 x2 x3 xs0,
    idx2 c arg1 harg1 arg2 harg2 arg3 harg3 arg4 harg4 arg8 harg8 arg9 x0 x1 x2 x3 xs0, sel2 c arg1 harg1 arg2 harg2 arg3 harg3 arg4 harg4 arg8 harg8 arg9 x0 x1 x2 x3 xs0, m3_eq c arg1 harg1 arg2 harg2 arg3 harg3 arg4 harg4 arg8 harg8 arg9 x0 x1 x2 x3 xs0, idx3 c arg1 harg1 arg2 harg2 arg3 harg3 arg4 harg4 arg8 harg8 arg9 x0 x1 x2 x3 xs0, sel3 c arg1 harg1 arg2 harg2 arg3 harg3 arg4 harg4 arg8 harg8 arg9 x0 x1 x2 x3 xs0, tot c arg1 harg1 arg2 harg2 arg3 harg3 arg4 harg4 arg8 harg8 arg9 x0 x1 x2 x3 xs0⟩

theorem stored_rows : (kernelRun0_B.sl.HS1_8 c arg3 harg3 arg4 harg4 arg8 harg8 x2 x3 xs0 : List (View.Piece (Elt Ideal) S288x128 .f32)) =
    [⟨Rect.unit ![252, 0] S32x128.size inb_S288x128_S32x128_252_0, rowsOf (tw xs0) x2 x3 7⟩,
     ⟨Rect.unit ![216, 0] S32x128.size inb_S288x128_S32x128_216_0, rowsOf (tw xs0) x2 x3 6⟩,
     ⟨Rect.unit ![180, 0] S32x128.size inb_S288x128_S32x128_180_0, rowsOf (tw xs0) x2 x3 5⟩,
     ⟨Rect.unit ![144, 0] S32x128.size inb_S288x128_S32x128_144_0, rowsOf (tw xs0) x2 x3 4⟩,
     ⟨Rect.unit ![108, 0] S32x128.size inb_S288x128_S32x128_108_0, rowsOf (tw xs0) x2 x3 3⟩,
     ⟨Rect.unit ![72, 0] S32x128.size inb_S288x128_S32x128_72_0, rowsOf (tw xs0) x2 x3 2⟩,
     ⟨Rect.unit ![36, 0] S32x128.size inb_S288x128_S32x128_36_0, rowsOf (tw xs0) x2 x3 1⟩,
     ⟨Rect.unit ![0, 0] S32x128.size inb_S288x128_S32x128_0_0, rowsOf (tw xs0) x2 x3 0⟩] := stored c arg3 harg3 arg4 harg4 arg8 harg8 x2 x3 xs0

theorem lo_at (p : S8x128.Idx) : ∀ e < 32, lo c arg3 harg3 arg4 harg4 arg8 harg8 arg9 x2 x3 xs0 e p = rowsOf (tw xs0) x2 x3 (p 0) (ix2 (Fin.ofNat 32 e) (p 1)) := by
  intro e he
  have h := fun k hk inb => read36 arg9.view (rowsOf (tw xs0) x2 x3) _ _ _ _ _ _ _ _ (kernelRun0_B.sl.HS1_8 c arg3 harg3 arg4 harg4 arg8 harg8 x2 x3 xs0 : List (View.Piece (Elt Ideal) S288x128 .f32))
    (stored_rows c arg3 harg3 arg4 harg4 arg8 harg8 x2 x3 xs0) k hk inb p
  generalize rowsOf (tw xs0) x2 x3 = R at h ⊢
  interval_cases e <;> simp only [lo, nth, kernelRun0_B.sl.v779, kernelRun0_B.sl.v787, kernelRun0_B.sl.v795, kernelRun0_B.sl.v803, kernelRun0_B.sl.v811, kernelRun0_B.sl.v819, kernelRun0_B.sl.v827, kernelRun0_B.sl.v835, kernelRun0_B.sl.v843, kernelRun0_B.sl.v851, kernelRun0_B.sl.v859, kernelRun0_B.sl.v867, kernelRun0_B.sl.v875, kernelRun0_B.sl.v883, kernelRun0_B.sl.v891, kernelRun0_B.sl.v899, kernelRun0_B.sl.v907, kernelRun0_B.sl.v915, kernelRun0_B.sl.v923, kernelRun0_B.sl.v931, kernelRun0_B.sl.v939, kernelRun0_B.sl.v947, kernelRun0_B.sl.v955, kernelRun0_B.sl.v963, kernelRun0_B.sl.v971, kernelRun0_B.sl.v979, kernelRun0_B.sl.v987, kernelRun0_B.sl.v995, kernelRun0_B.sl.v1003, kernelRun0_B.sl.v1011, kernelRun0_B.sl.v1019, kernelRun0_B.sl.v1027] <;> exact h _ (by decide) _

theorem ids_stored : (kernelRun0_B.sl.HS2_4 c arg1 harg1 arg2 harg2 arg3 harg3 arg4 harg4 arg8 harg8 arg9 x0 x1 x2 x3 xs0 : List (View.Piece (Elt Ideal) S32x128 .i32)) =
    [⟨{ off := ![3, 0], size := S8x128.size, stride := ![4, 1], inb := inb_S32x128_S8x128_3_0_s_4_1, stride_pos := spos_4_1 }, iq (kernelRun0_B.sl.r_558 c arg1 harg1 arg2 harg2 arg3 harg3 arg4 harg4 arg8 harg8 arg9 x0 x1 x2 x3 xs0)⟩,
     ⟨{ off := ![2, 0], size := S8x128.size, stride := ![4, 1], inb := inb_S32x128_S8x128_2_0_s_4_1, stride_pos := spos_4_1 }, iq (kernelRun0_B.sl.r_470 c arg1 harg1 arg2 harg2 arg3 harg3 arg4 harg4 arg8 harg8 arg9 x0 x1 x2 x3 xs0)⟩,
     ⟨{ off := ![1, 0], size := S8x128.size, stride := ![4, 1], inb := inb_S32x128_S8x128_1_0_s_4_1, stride_pos := spos_4_1 }, iq (kernelRun0_B.sl.r_380 c arg1 harg1 arg2 harg2 arg3 harg3 arg4 harg4 arg8 harg8 arg9 x0 x1 x2 x3 xs0)⟩,
     ⟨{ off := ![0, 0], size := S8x128.size, stride := ![4, 1], inb := inb_S32x128_S8x128_0_0_s_4_1, stride_pos := spos_4_1 }, iq (kernelRun0_B.sl.r_295 c arg1 harg1 arg2 harg2 arg3 harg3 arg4 harg4 arg8 harg8 arg9 x0 x1 x2 x3 xs0)⟩] := by
  simp only [kernelRun0_B.sl.HS2_4, iq, k0_pay866, k0_pay868, k0_pay870, k0_pay872]

theorem weights_stored : (kernelRun0_B.sl.HS3_4 c arg1 harg1 arg2 harg2 arg3 harg3 arg4 harg4 arg8 harg8 arg9 x0 x1 x2 x3 xs0 : List (View.Piece (Elt Ideal) S32x128 .f32)) =
    [⟨{ off := ![3, 0], size := S8x128.size, stride := ![4, 1], inb := inb_S32x128_S8x128_3_0_s_4_1, stride_pos := spos_4_1 }, wq (kernelRun0_B.sl.r_559 c arg1 harg1 arg2 harg2 arg3 harg3 arg4 harg4 arg8 harg8 arg9 x0 x1 x2 x3 xs0) (kernelRun0_B.sl.r_560 c arg1 harg1 arg2 harg2 arg3 harg3 arg4 harg4 arg8 harg8 arg9 x0 x1 x2 x3 xs0)⟩,
     ⟨{ off := ![2, 0], size := S8x128.size, stride := ![4, 1], inb := inb_S32x128_S8x128_2_0_s_4_1, stride_pos := spos_4_1 }, wq (kernelRun0_B.sl.r_471 c arg1 harg1 arg2 harg2 arg3 harg3 arg4 harg4 arg8 harg8 arg9 x0 x1 x2 x3 xs0) (kernelRun0_B.sl.r_560 c arg1 harg1 arg2 harg2 arg3 harg3 arg4 harg4 arg8 harg8 arg9 x0 x1 x2 x3 xs0)⟩,
     ⟨{ off := ![1, 0], size := S8x128.size, stride := ![4, 1], inb := inb_S32x128_S8x128_1_0_s_4_1, stride_pos := spos_4_1 }, wq (kernelRun0_B.sl.r_381 c arg1 harg1 arg2 harg2 arg3 harg3 arg4 harg4 arg8 harg8 arg9 x0 x1 x2 x3 xs0) (kernelRun0_B.sl.r_560 c arg1 harg1 arg2 harg2 arg3 harg3 arg4 harg4 arg8 harg8 arg9 x0 x1 x2 x3 xs0)⟩,
     ⟨{ off := ![0, 0], size := S8x128.size, stride := ![4, 1], inb := inb_S32x128_S8x128_0_0_s_4_1, stride_pos := spos_4_1 }, wq (kernelRun0_B.sl.r_296 c arg1 harg1 arg2 harg2 arg3 harg3 arg4 harg4 arg8 harg8 arg9 x0 x1 x2 x3 xs0) (kernelRun0_B.sl.r_560 c arg1 harg1 arg2 harg2 arg3 harg3 arg4 harg4 arg8 harg8 arg9 x0 x1 x2 x3 xs0)⟩] := by
  simp only [kernelRun0_B.sl.HS3_4, wq, k0_pay867, k0_pay869, k0_pay871, k0_pay873, kernelRun0_B.sl.r_560]

theorem ids_run : (kernelRun0_B c i arg1 harg1 arg2 harg2 arg3 harg3 arg4 harg4 arg5 harg5 arg6 harg6 arg7 harg7 arg8 harg8 arg9 harg9 arg10 harg10 arg11 harg11 hc0 x0 x1 x2 x3 x4 xs0).1 =
    [⟨Rect.unit ![0, 0, 896] S1x4x128.size inb_S1x4x1024_S1x4x128_0_0_896, shapeCast S1x4x128 (arg10.view.readCov (kernelRun0_B.sl.HS2_4 c arg1 harg1 arg2 harg2 arg3 harg3 arg4 harg4 arg8 harg8 arg9 x0 x1 x2 x3 xs0) (Rect.unit (s := S32x128) ![28, 0] S4x128.size inb_S32x128_S4x128_28_0).toLoadRect) shapeCasts_S4x128_S1x4x128⟩,
     ⟨Rect.unit ![0, 0, 768] S1x4x128.size inb_S1x4x1024_S1x4x128_0_0_768, shapeCast S1x4x128 (arg10.view.readCov (kernelRun0_B.sl.HS2_4 c arg1 harg1 arg2 harg2 arg3 harg3 arg4 harg4 arg8 harg8 arg9 x0 x1 x2 x3 xs0) (Rect.unit (s := S32x128) ![24, 0] S4x128.size inb_S32x128_S4x128_24_0).toLoadRect) shapeCasts_S4x128_S1x4x128⟩,
     ⟨Rect.unit ![0, 0, 640] S1x4x128.size inb_S1x4x1024_S1x4x128_0_0_640, shapeCast S1x4x128 (arg10.view.readCov (kernelRun0_B.sl.HS2_4 c arg1 harg1 arg2 harg2 arg3 harg3 arg4 harg4 arg8 harg8 arg9 x0 x1 x2 x3 xs0) (Rect.unit (s := S32x128) ![20, 0] S4x128.size inb_S32x128_S4x128_20_0).toLoadRect) shapeCasts_S4x128_S1x4x128⟩,
     ⟨Rect.unit ![0, 0, 512] S1x4x128.size inb_S1x4x1024_S1x4x128_0_0_512, shapeCast S1x4x128 (arg10.view.readCov (kernelRun0_B.sl.HS2_4 c arg1 harg1 arg2 harg2 arg3 harg3 arg4 harg4 arg8 harg8 arg9 x0 x1 x2 x3 xs0) (Rect.unit (s := S32x128) ![16, 0] S4x128.size inb_S32x128_S4x128_16_0).toLoadRect) shapeCasts_S4x128_S1x4x128⟩,
     ⟨Rect.unit ![0, 0, 384] S1x4x128.size inb_S1x4x1024_S1x4x128_0_0_384, shapeCast S1x4x128 (arg10.view.readCov (kernelRun0_B.sl.HS2_4 c arg1 harg1 arg2 harg2 arg3 harg3 arg4 harg4 arg8 harg8 arg9 x0 x1 x2 x3 xs0) (Rect.unit (s := S32x128) ![12, 0] S4x128.size inb_S32x128_S4x128_12_0).toLoadRect) shapeCasts_S4x128_S1x4x128⟩,
     ⟨Rect.unit ![0, 0, 256] S1x4x128.size inb_S1x4x1024_S1x4x128_0_0_256, shapeCast S1x4x128 (arg10.view.readCov (kernelRun0_B.sl.HS2_4 c arg1 harg1 arg2 harg2 arg3 harg3 arg4 harg4 arg8 harg8 arg9 x0 x1 x2 x3 xs0) (Rect.unit (s := S32x128) ![8, 0] S4x128.size inb_S32x128_S4x128_8_0).toLoadRect) shapeCasts_S4x128_S1x4x128⟩,
     ⟨Rect.unit ![0, 0, 128] S1x4x128.size inb_S1x4x1024_S1x4x128_0_0_128, shapeCast S1x4x128 (arg10.view.readCov (kernelRun0_B.sl.HS2_4 c arg1 harg1 arg2 harg2 arg3 harg3 arg4 harg4 arg8 harg8 arg9 x0 x1 x2 x3 xs0) (Rect.unit (s := S32x128) ![4, 0] S4x128.size inb_S32x128_S4x128_4_0).toLoadRect) shapeCasts_S4x128_S1x4x128⟩,
     ⟨Rect.unit ![0, 0, 0] S1x4x128.size inb_S1x4x1024_S1x4x128_0_0_0, shapeCast S1x4x128 (arg10.view.readCov (kernelRun0_B.sl.HS2_4 c arg1 harg1 arg2 harg2 arg3 harg3 arg4 harg4 arg8 harg8 arg9 x0 x1 x2 x3 xs0) (Rect.unit (s := S32x128) ![0, 0] S4x128.size inb_S32x128_S4x128_0_0).toLoadRect) shapeCasts_S4x128_S1x4x128⟩] := by
  refine Eq.trans rfl ?_
  rfl

theorem weights_run : (kernelRun0_B c i arg1 harg1 arg2 harg2 arg3 harg3 arg4 harg4 arg5 harg5 arg6 harg6 arg7 harg7 arg8 harg8 arg9 harg9 arg10 harg10 arg11 harg11 hc0 x0 x1 x2 x3 x4 xs0).2.1 =
    [⟨Rect.unit ![0, 0, 896] S1x4x128.size inb_S1x4x1024_S1x4x128_0_0_896, shapeCast S1x4x128 (arg11.view.readCov (kernelRun0_B.sl.HS3_4 c arg1 harg1 arg2 harg2 arg3 harg3 arg4 harg4 arg8 harg8 arg9 x0 x1 x2 x3 xs0) (Rect.unit (s := S32x128) ![28, 0] S4x128.size inb_S32x128_S4x128_28_0).toLoadRect) shapeCasts_S4x128_S1x4x128⟩,
     ⟨Rect.unit ![0, 0, 768] S1x4x128.size inb_S1x4x1024_S1x4x128_0_0_768, shapeCast S1x4x128 (arg11.view.readCov (kernelRun0_B.sl.HS3_4 c arg1 harg1 arg2 harg2 arg3 harg3 arg4 harg4 arg8 harg8 arg9 x0 x1 x2 x3 xs0) (Rect.unit (s := S32x128) ![24, 0] S4x128.size inb_S32x128_S4x128_24_0).toLoadRect) shapeCasts_S4x128_S1x4x128⟩,
     ⟨Rect.unit ![0, 0, 640] S1x4x128.size inb_S1x4x1024_S1x4x128_0_0_640, shapeCast S1x4x128 (arg11.view.readCov (kernelRun0_B.sl.HS3_4 c arg1 harg1 arg2 harg2 arg3 harg3 arg4 harg4 arg8 harg8 arg9 x0 x1 x2 x3 xs0) (Rect.unit (s := S32x128) ![20, 0] S4x128.size inb_S32x128_S4x128_20_0).toLoadRect) shapeCasts_S4x128_S1x4x128⟩,
     ⟨Rect.unit ![0, 0, 512] S1x4x128.size inb_S1x4x1024_S1x4x128_0_0_512, shapeCast S1x4x128 (arg11.view.readCov (kernelRun0_B.sl.HS3_4 c arg1 harg1 arg2 harg2 arg3 harg3 arg4 harg4 arg8 harg8 arg9 x0 x1 x2 x3 xs0) (Rect.unit (s := S32x128) ![16, 0] S4x128.size inb_S32x128_S4x128_16_0).toLoadRect) shapeCasts_S4x128_S1x4x128⟩,
     ⟨Rect.unit ![0, 0, 384] S1x4x128.size inb_S1x4x1024_S1x4x128_0_0_384, shapeCast S1x4x128 (arg11.view.readCov (kernelRun0_B.sl.HS3_4 c arg1 harg1 arg2 harg2 arg3 harg3 arg4 harg4 arg8 harg8 arg9 x0 x1 x2 x3 xs0) (Rect.unit (s := S32x128) ![12, 0] S4x128.size inb_S32x128_S4x128_12_0).toLoadRect) shapeCasts_S4x128_S1x4x128⟩,
     ⟨Rect.unit ![0, 0, 256] S1x4x128.size inb_S1x4x1024_S1x4x128_0_0_256, shapeCast S1x4x128 (arg11.view.readCov (kernelRun0_B.sl.HS3_4 c arg1 harg1 arg2 harg2 arg3 harg3 arg4 harg4 arg8 harg8 arg9 x0 x1 x2 x3 xs0) (Rect.unit (s := S32x128) ![8, 0] S4x128.size inb_S32x128_S4x128_8_0).toLoadRect) shapeCasts_S4x128_S1x4x128⟩,
     ⟨Rect.unit ![0, 0, 128] S1x4x128.size inb_S1x4x1024_S1x4x128_0_0_128, shapeCast S1x4x128 (arg11.view.readCov (kernelRun0_B.sl.HS3_4 c arg1 harg1 arg2 harg2 arg3 harg3 arg4 harg4 arg8 harg8 arg9 x0 x1 x2 x3 xs0) (Rect.unit (s := S32x128) ![4, 0] S4x128.size inb_S32x128_S4x128_4_0).toLoadRect) shapeCasts_S4x128_S1x4x128⟩,
     ⟨Rect.unit ![0, 0, 0] S1x4x128.size inb_S1x4x1024_S1x4x128_0_0_0, shapeCast S1x4x128 (arg11.view.readCov (kernelRun0_B.sl.HS3_4 c arg1 harg1 arg2 harg2 arg3 harg3 arg4 harg4 arg8 harg8 arg9 x0 x1 x2 x3 xs0) (Rect.unit (s := S32x128) ![0, 0] S4x128.size inb_S32x128_S4x128_0_0).toLoadRect) shapeCasts_S4x128_S1x4x128⟩] := by
  refine Eq.trans rfl ?_
  rfl

/-- The block of ids. -/
theorem ids_block {Wm : Fin 32 → ℕ → EReal} (hd : Diag (tw xs0) Wm) (y : S1x4x1024.Idx)
    (hC : ∀ e, choiceOf x0 x1 (logitOf Wm x2 x3 (y 2)) e = ⊥ ∨ low < choiceOf x0 x1 (logitOf Wm x2 x3 (y 2)) e) :
    out0_B_5 c i arg1 harg1 arg2 harg2 arg3 harg3 arg4 harg4 arg5 harg5 arg6 harg6 arg7 harg7 arg8 harg8 arg9 harg9 arg10 harg10 arg11 harg11 hc0 x0 x1 x2 x3 x4 xs0 y = ids (choiceOf x0 x1 (logitOf Wm x2 x3 (y 2))) (y 1) := by
  refine (congrFun (View.read_writes_junk_eq_canon VO0_5 (kernelRun0_B c i arg1 harg1 arg2 harg2 arg3 harg3 arg4 harg4 arg5 harg5 arg6 harg6 arg7 harg7 arg8 harg8 arg9 harg9 arg10 harg10 arg11 harg11 hc0 x0 x1 x2 x3 x4 xs0).1) y).trans ?_
  refine (out_tile arg10.view _ _ _ _ _ _ _ _ _ _ _ _ _ _ _ _ _ _ _ (ids_run c i arg1 harg1 arg2 harg2 arg3 harg3 arg4 harg4 arg5 harg5 arg6 harg6 arg7 harg7 arg8 harg8 arg9 harg9 arg10 harg10 arg11 harg11 hc0 x0 x1 x2 x3 x4 xs0) y (cover0_B_5 c i arg1 harg1 arg2 harg2 arg3 harg3 arg4 harg4 arg5 harg5 arg6 harg6 arg7 harg7 arg8 harg8 arg9 harg9 arg10 harg10 arg11 harg11 hc0 x0 x1 x2 x3 x4 xs0 y)).trans ?_
  rw [ids_stored, rows4_rankRow]
  exact ((routed c arg1 harg1 arg2 harg2 arg3 harg3 arg4 harg4 arg8 harg8 arg9 x0 x1 x2 x3 xs0).at (tok y) (fun e he => (lo_at c arg3 harg3 arg4 harg4 arg8 harg8 arg9 x2 x3 xs0 (tok y) e he).trans (logitOf_at hd x2 x3 y e)) hC).1 (y 1)

/-- The block of weights. -/
theorem weights_block {Wm : Fin 32 → ℕ → EReal} (hd : Diag (tw xs0) Wm) (y : S1x4x1024.Idx)
    (hC : ∀ e, choiceOf x0 x1 (logitOf Wm x2 x3 (y 2)) e = ⊥ ∨ low < choiceOf x0 x1 (logitOf Wm x2 x3 (y 2)) e) :
    out0_B_6 c i arg1 harg1 arg2 harg2 arg3 harg3 arg4 harg4 arg5 harg5 arg6 harg6 arg7 harg7 arg8 harg8 arg9 harg9 arg10 harg10 arg11 harg11 hc0 x0 x1 x2 x3 x4 xs0 y = wt (scoreOf x0 (logitOf Wm x2 x3 (y 2))) (choiceOf x0 x1 (logitOf Wm x2 x3 (y 2))) (y 1) := by
  refine (congrFun (View.read_writes_junk_eq_canon VO0_6 (kernelRun0_B c i arg1 harg1 arg2 harg2 arg3 harg3 arg4 harg4 arg5 harg5 arg6 harg6 arg7 harg7 arg8 harg8 arg9 harg9 arg10 harg10 arg11 harg11 hc0 x0 x1 x2 x3 x4 xs0).2.1) y).trans ?_
  refine (out_tile arg11.view _ _ _ _ _ _ _ _ _ _ _ _ _ _ _ _ _ _ _ (weights_run c i arg1 harg1 arg2 harg2 arg3 harg3 arg4 harg4 arg5 harg5 arg6 harg6 arg7 harg7 arg8 harg8 arg9 harg9 arg10 harg10 arg11 harg11 hc0 x0 x1 x2 x3 x4 xs0) y (cover0_B_6 c i arg1 harg1 arg2 harg2 arg3 harg3 arg4 harg4 arg5 harg5 arg6 harg6 arg7 harg7 arg8 harg8 arg9 harg9 arg10 harg10 arg11 harg11 hc0 x0 x1 x2 x3 x4 xs0 y)).trans ?_
  rw [weights_stored, rows4_rankRow]
  exact ((routed c arg1 harg1 arg2 harg2 arg3 harg3 arg4 harg4 arg8 harg8 arg9 x0 x1 x2 x3 xs0).at (tok y) (fun e he => (lo_at c arg3 harg3 arg4 harg4 arg8 harg8 arg9 x2 x3 xs0 (tok y) e he).trans (logitOf_at hd x2 x3 y e)) hC).2 (y 1)

end Cert.RouteB
-- ==== Proof.Carry.lean ====
/- The widened weights that the first step leaves in the scratch stay there, so every step's blocks are known. -/
module

public import proofs.«01_k».proof.Proof.Blocks
public import proofs.«01_k».proof.Proof.WideA
public import proofs.«01_k».proof.Proof.OutA
public import proofs.«01_k».proof.Proof.OutB

@[expose] public section

set_option maxRecDepth 16384

noncomputable section

namespace Cert.KernelIdeal

open Idealize.ShloMosaic Idealize.ShloMosaic.TcCoe Idealize.SL.Sem Cert.KernelIdeal.Gen Cert.Model Cert.Spec

variable (m : (ℓ : Loc nD τ sig) → Buf (Elt Ideal) ℓ)

/-- The weights' codes as the step finds them, an expert to a row. -/
def rows (c : Dev nD) (t : Fin cfg0.N) : Vec Ideal S32x2816 .fp8e4m3 := iblk m c 4 t

theorem rows_same (c : Dev nD) (t s : Fin cfg0.N) : rows m c t = rows m c s := by
  funext y
  rw [← show ix2 (y 0) (y 1) = y from (by funext a; fin_cases a <;> rfl)]
  exact (blk4 m c t (y 0) (y 1)).trans (blk4 m c s (y 0) (y 1)).symm

theorem first_scratch (c : Dev nD) (t : Fin cfg0.N) (h0 : t.val % 32 = 0) (y : S11x64x256.Idx) :
    (outsAt0 m c t.val t.isLt).2.2 y = RouteA.wide (rows m c t) y := by
  rw [outsAt0_A m c t h0]
  dsimp only
  unfold sout0_A_0
  rw [View.read_writes_junk_eq_canon]
  exact RouteA.laid_wide c (ms0_4 t) (hs0_4 t) (rows m c t) y

theorem next_scratch (c : Dev nD) (t : Fin cfg0.N) (h0 : ¬t.val % 32 = 0) (y : S11x64x256.Idx) :
    (outsAt0 m c t.val t.isLt).2.2 y = (outsAt0 m c (t.val - 1) (by omega)).2.2 y := by
  rw [outsAt0_B m c t h0]
  rfl

/-- After every step the scratch holds the widened weights. -/
theorem scratch (c : Dev nD) (n : ℕ) : ∀ (hn : n < cfg0.N) (y : S11x64x256.Idx), (outsAt0 m c n hn).2.2 y = RouteA.wide (rows m c ⟨n, hn⟩) y := by
  induction n with
  | zero => exact fun hn y => first_scratch m c ⟨0, hn⟩ rfl y
  | succ n ih =>
    intro hn y
    by_cases h0 : (n + 1) % 32 = 0
    · exact first_scratch m c ⟨n + 1, hn⟩ h0 y
    · refine (next_scratch m c ⟨n + 1, hn⟩ h0 y).trans ((ih (by omega) y).trans ?_)
      rw [rows_same m c ⟨n, _⟩ ⟨n + 1, hn⟩]

/-- The weight of expert `e` at position `k`. -/
def codes (c : Dev nD) (t : Fin cfg0.N) (e : Fin 32) (k : ℕ) : EReal := rows m c t (ix2 e (Fin.ofNat 2816 k))

/-- The logits of the step's tokens. -/
def lg (c : Dev nD) (t : Fin cfg0.N) (n : Fin 1024) : ℕ → EReal := logitOf (codes m c t) (iblk m c 2 t) (iblk m c 3 t) n

/-- The scores of the step's tokens. -/
def scr (c : Dev nD) (t : Fin cfg0.N) (n : Fin 1024) : ℕ → EReal := scoreOf (iblk m c 0 t) (lg m c t n)

/-- The scores with the biases. -/
def chc (c : Dev nD) (t : Fin cfg0.N) (n : Fin 1024) : ℕ → EReal := choiceOf (iblk m c 0 t) (iblk m c 1 t) (lg m c t n)

/-- The blocks of ids and weights that a step leaves. -/
theorem blocks (c : Dev nD) (t : Fin cfg0.N) (y : S1x4x1024.Idx) (hC : ∀ e, chc m c t (y 2) e = ⊥ ∨ low < chc m c t (y 2) e) :
    (outsAt0 m c t.val t.isLt).1 y = ids (chc m c t (y 2)) (y 1)
    ∧ (outsAt0 m c t.val t.isLt).2.1 y = wt (scr m c t (y 2)) (chc m c t (y 2)) (y 1) := by
  unfold chc scr lg at *
  by_cases h0 : t.val % 32 = 0
  · have hd : Diag (RouteA.wl c (ms0_4 t) (hs0_4 t) scM0_0 (iblk m c 4 t)) (codes m c t) := RouteA.diag_first c (ms0_4 t) (hs0_4 t) scM0_0 (rows m c t)
    refine ⟨(congrFun (congrArg Prod.fst (outsAt0_A m c t h0)) y).trans ?_, (congrFun (congrArg (fun p => p.2.1) (outsAt0_A m c t h0)) y).trans ?_⟩
    · dsimp only
      exact RouteA.ids_block _ _ _ _ _ _ _ _ _ _ _ _ _ _ _ _ _ _ _ _ _ _ _ _ _ _ _ _ _ _ hd y hC
    · dsimp only
      exact RouteA.weights_block _ _ _ _ _ _ _ _ _ _ _ _ _ _ _ _ _ _ _ _ _ _ _ _ _ _ _ _ _ _ hd y hC
  · have hx : ∀ y, (outsAt0 m c (t.val - 1) (by omega)).2.2 y = RouteA.wide (rows m c t) y := fun y => by
      rw [scratch m c (t.val - 1) (by omega) y, rows_same m c _ t]
    have hd : Diag (tw (outsAt0 m c (t.val - 1) (by omega)).2.2) (codes m c t) := RouteA.diag_wide (rows m c t) _ hx
    refine ⟨(congrFun (congrArg Prod.fst (outsAt0_B m c t h0)) y).trans ?_, (congrFun (congrArg (fun p => p.2.1) (outsAt0_B m c t h0)) y).trans ?_⟩
    · dsimp only
      exact RouteB.ids_block _ _ _ _ _ _ _ _ _ _ _ _ _ _ _ _ _ _ _ _ _ _ _ _ _ _ _ _ _ _ _ hd y hC
    · dsimp only
      exact RouteB.weights_block _ _ _ _ _ _ _ _ _ _ _ _ _ _ _ _ _ _ _ _ _ _ _ _ _ _ _ _ _ _ _ hd y hC

end Cert.KernelIdeal
-- ==== Proof.Arrays.lean ====
/- What the router leaves in its two arrays, when every biased score is minus infinity or above the lowest float. -/
module

public import proofs.«01_k».proof.Proof.Carry

@[expose] public section

set_option maxRecDepth 16384

noncomputable section

namespace Cert.KernelIdeal

open Idealize.ShloMosaic Idealize.ShloMosaic.TcCoe Idealize.SL.Sem Cert.KernelIdeal.Gen Cert.Model Cert.Spec
open Idealize.ShloMosaic.Pipeline (Dat)

variable (m : (ℓ : Loc nD τ sig) → Buf (Elt Ideal) ℓ)

/-- The step that routes token `b` of batch `a`. -/
def stepOf (a : Fin 8) (b : Fin 4096) : Fin cfg0.N := ⟨a * 4 + b / 1024, by rw [show cfg0.N = 32 from N_0]; omega⟩

/-- The token's place in the step's block. -/
def placeOf (b : Fin 4096) : Fin 1024 := ⟨b % 1024, by omega⟩

/-- The array of ids. -/
def idsArr (c : Dev nD) (z : S8x4x4096.Idx) : BitVec 32 := ids (chc m c (stepOf (z 0) (z 2)) (placeOf (z 2))) (z 1)

/-- The array of weights. -/
def wtArr (c : Dev nD) (z : S8x4x4096.Idx) : EReal :=
  wt (scr m c (stepOf (z 0) (z 2)) (placeOf (z 2))) (chc m c (stepOf (z 0) (z 2)) (placeOf (z 2))) (z 1)

theorem cut5 (X : S8x4x4096.Idx → BitVec 32) (t : Fin cfg0.N) (j : Fin 4) (n : Fin 1024) :
    X ((win0_5.blk t).view.emb (ix3 0 j n)) = X (ix3 ⟨t / 4, by have := step_lt t; omega⟩ j ⟨t % 4 * 1024 + n, by omega⟩) := by
  blk_point [idx t]

theorem cut6 (X : S8x4x4096.Idx → EReal) (t : Fin cfg0.N) (j : Fin 4) (n : Fin 1024) :
    X ((win0_6.blk t).view.emb (ix3 0 j n)) = X (ix3 ⟨t / 4, by have := step_lt t; omega⟩ j ⟨t % 4 * 1024 + n, by omega⟩) := by
  blk_point [idx t]

theorem step_back (t : Fin cfg0.N) (n : Fin 1024) (h0 h1) : stepOf ⟨t / 4, h0⟩ ⟨t % 4 * 1024 + n, h1⟩ = t :=
  Fin.ext (by simp only [stepOf]; omega)

theorem place_back (t : Fin cfg0.N) (n : Fin 1024) (h1) : placeOf ⟨t % 4 * 1024 + n, h1⟩ = n :=
  Fin.ext (by simp only [placeOf]; omega)

theorem ix_block (y : S1x4x1024.Idx) : y = ix3 (0 : Fin 1) (y 1) (y 2) := by
  funext a
  fin_cases a
  · exact Fin.ext (Nat.lt_one_iff.mp (y 0).isLt)
  · rfl
  · rfl

variable (hC : ∀ (c : Dev nD) t n e, chc m c t n e = ⊥ ∨ low < chc m c t n e)
include hC

theorem arr5 (c : Dev nD) : (dats m 0 c).arrAt 5 (cfgs 0).N = idsArr m c := by
  refine (dats m 0 c).arrAt_eq_of_covers 5 _ (by decide +kernel) fun t _ y => ?_
  blk_simp
  rw [after0_5]
  refine (blocks m c t y (hC c t (y 2))).1.trans ?_
  rw [ix_block y]
  refine Eq.trans ?_ (cut5 (idsArr m c) t (y 1) (y 2)).symm
  exact (congrArg₂ (fun s p => ids (chc m c s p) (y 1)) (step_back t (y 2) _ _) (place_back t (y 2) _)).symm

theorem arr6 (c : Dev nD) : (dats m 0 c).arrAt 6 (cfgs 0).N = wtArr m c := by
  refine (dats m 0 c).arrAt_eq_of_covers 6 _ (by decide +kernel) fun t _ y => ?_
  blk_simp
  rw [after0_6]
  refine (blocks m c t y (hC c t (y 2))).2.trans ?_
  rw [ix_block y]
  refine Eq.trans ?_ (cut6 (wtArr m c) t (y 1) (y 2)).symm
  exact (congrArg₂ (fun s p => wt (scr m c s p) (chc m c s p) (y 1)) (step_back t (y 2) _ _) (place_back t (y 2) _)).symm

omit hC in
theorem tail4 (W : Valuation τ sig (Elt Ideal)) (a : Fin 8) (b : Fin 4096) (j : Fin 4) : (StableHlo.after hostOps1 W (Proc.devRef .tc main_v4) : S8x4096x4.Idx → BitVec 32) (ix3 a b j)
    = (W (Proc.devRef .tc main_v3_0) : S8x4x4096.Idx → BitVec 32) (ix3 a j b) := by
  after_reads_at

omit hC in
theorem tail5 (W : Valuation τ sig (Elt Ideal)) (a : Fin 8) (b : Fin 4096) (j : Fin 4) : (StableHlo.after hostOps1 W (Proc.devRef .tc main_v5) : S8x4096x4.Idx → EReal) (ix3 a b j)
    = (W (Proc.devRef .tc main_v3_1) : S8x4x4096.Idx → EReal) (ix3 a j b) := by
  after_reads_at

/-- At the end the two results hold the chosen experts and their weights. -/
theorem results (ρ : Dev nD → PrngReg) :
    θ_run defs (onTc (τ := τ) (main (F := Ideal))) ⟨m, fun _ => 0, ρ⟩ (fun r => ∀ c : Dev nD,
      (∀ (a : Fin 8) (b : Fin 4096) (j : Fin 4), (r.2.mem ((c.tc : Thread nD τ).loc main_v4) : S8x4096x4.Idx → BitVec 32) (ix3 a b j)
        = ids (chc m c (stepOf a b) (placeOf b)) j)
      ∧ ∀ (a : Fin 8) (b : Fin 4096) (j : Fin 4), (r.2.mem ((c.tc : Thread nD τ).loc main_v5) : S8x4096x4.Idx → EReal) (ix3 a b j)
        = wt (scr m c (stepOf a b) (placeOf b)) (chc m c (stepOf a b) (placeOf b)) j) := by
  refine (θ_run defs _ _).mono (fun r h c => ?_) (run_main m ρ)
  refine ⟨fun a b j => ?_, fun a b j => ?_⟩
  · rw [(h c).2 main_v4 (by decide)]
    refine (tail4 _ a b j).trans ?_
    exact congrFun ((Pipeline.withArrays_arr (cfgs 0).spec winFacts0.arr_inj c (V0 m c) (fun w => (dats m 0 c).arrAt w (cfgs 0).N) 5).trans (arr5 m hC c)) (ix3 a j b)
  · rw [(h c).2 main_v5 (by decide)]
    refine (tail5 _ a b j).trans ?_
    exact congrFun ((Pipeline.withArrays_arr (cfgs 0).spec winFacts0.arr_inj c (V0 m c) (fun w => (dats m 0 c).arrAt w (cfgs 0).N) 6).trans (arr6 m hC c)) (ix3 a j b)

end Cert.KernelIdeal
-- ==== Proof.RefLine.lean ====
/- The host operations of the reference, read at an index: stage by stage, each from any memory before it. -/
module

public import proofs.«01_k».proof.Proof.Gen.ReferenceIdeal.Frame
public import proofs.«01_k».proof.Proof.Spec
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ReferenceIdeal

open Idealize.ShloMosaic Idealize.ShloMosaic.TcCoe Idealize.SL.Sem Cert.Rank Cert.Spec

/-- The memory a stage starts from. -/
abbrev Mem := Valuation τ sig (Elt Ideal)

abbrev rX (V : Mem) : S8x4096x2816.Idx → EReal := V (Proc.devRef .tc main_v0_0)
abbrev rW (V : Mem) : S2816x32.Idx → EReal := V (Proc.devRef .tc main_v0_1)
abbrev rXs (V : Mem) : S8x4096x22.Idx → EReal := V (Proc.devRef .tc main_arg1)
abbrev rWs (V : Mem) : S32.Idx → EReal := V (Proc.devRef .tc main_arg3)
abbrev rB (V : Mem) : S32.Idx → EReal := V (Proc.devRef .tc main_arg4)
abbrev r18 (V : Mem) : S32768x32.Idx → EReal := V (Proc.devRef .tc main_v18)
abbrev r21 (V : Mem) : S32768x32.Idx → EReal := V (Proc.devRef .tc main_v21)
abbrev r22 (V : Mem) : S262144x4.Idx → EReal := V (Proc.devRef .tc main_v22)
abbrev r45 (V : Mem) : S262144x4.Idx → BitVec 1 := V (Proc.devRef .tc main_v45)
abbrev r46 (V : Mem) : S262144x4.Idx → EReal := V (Proc.devRef .tc main_v46)
abbrev r72 (V : Mem) : S32768x8x1.Idx → BitVec 1 := V (Proc.devRef .tc main_v72)
abbrev r73 (V : Mem) : S32768x8x4.Idx → EReal := V (Proc.devRef .tc main_v73)
abbrev r74 (V : Mem) : S32768x8x4.Idx → EReal := V (Proc.devRef .tc main_v74)
abbrev k3 (V : Mem) : S_.Idx → EReal := V (Proc.devRef .tc main_cst_3)
abbrev k7 (V : Mem) : S_.Idx → EReal := V (Proc.devRef .tc main_cst_7)
abbrev k9 (V : Mem) : S_.Idx → BitVec 32 := V (Proc.devRef .tc main_c_9)
abbrev k11 (V : Mem) : S_.Idx → EReal := V (Proc.devRef .tc main_cst_11)
abbrev r102 (V : Mem) : S32768x4x32.Idx → BitVec 1 := V (Proc.devRef .tc main_v102)
abbrev r104 (V : Mem) : S1x1x32.Idx → BitVec 32 := V (Proc.devRef .tc main_v104)
abbrev r105 (V : Mem) : S32768x4x32.Idx → BitVec 32 := V (Proc.devRef .tc main_v105)
abbrev r106 (V : Mem) : S32768x4.Idx → BitVec 32 := V (Proc.devRef .tc main_v106)
abbrev r107 (V : Mem) : S32768x1x32.Idx → EReal := V (Proc.devRef .tc main_v107)
abbrev r108 (V : Mem) : S32768x4x32.Idx → EReal := V (Proc.devRef .tc main_v108)
abbrev r116 (V : Mem) : S8x4096x4.Idx → BitVec 32 := V (Proc.devRef .tc main_v116)
abbrev r117 (V : Mem) : S8x4096x4.Idx → EReal := V (Proc.devRef .tc main_v117)

/-- The score of expert `e` for token `n`. -/
def score (V : Mem) (n : Fin 32768) (e : Fin 32) : EReal :=
  Ideal.div 1 (1 + Ideal.exp (-((∑ t : Fin 22, (∑ k : Fin 128,
      rX V (ix3 ⟨n / 4096, by omega⟩ ⟨n % 4096, by omega⟩ ⟨t * 128 + k, by omega⟩) * rW V (ix2 ⟨t * 128 + k, by omega⟩ e))
    * rXs V (ix3 ⟨n / 4096, by omega⟩ ⟨n % 4096, by omega⟩ t)) * rWs V (ix1 e))))

/-- The score with the expert's bias. -/
def choice (V : Mem) (n : Fin 32768) (e : Fin 32) : EReal := score V n e + rB V (ix1 e)

theorem at18 (V : Mem) (n : Fin 32768) (e : Fin 32) : r18 (StableHlo.after Gen.hostOps1 V) (ix2 n e) = score V n e := by
  unfold r18 score rX rW rXs rWs
  after_reads_at

theorem at21 (V : Mem) (n : Fin 32768) (e : Fin 32) : r21 (StableHlo.after Gen.hostOps1 V) (ix2 n e) = choice V n e := by
  unfold r21 choice score rX rW rXs rWs rB
  after_reads_at

theorem at22 (V : Mem) (i : Fin 262144) (j : Fin 4) :
    r22 (StableHlo.after Gen.hostOps1 V) (ix2 i j) = choice V ⟨i / 8, by omega⟩ ⟨i % 8 * 4 + j, by omega⟩ := by
  unfold r22 choice score rX rW rXs rWs rB
  after_reads_at

open Classical in
theorem at45 (V : Mem) (i : Fin 262144) (j : Fin 4) : r45 (StableHlo.after Gen.hostOps1 V) (ix2 i j)
    = BitVec.ofBool (decide (rank 4 (cyc fun k : Fin 4 => choice V ⟨i / 8, by omega⟩ ⟨i % 8 * 4 + k, by omega⟩) j < 2)) := by
  have h := count_eq 4 (by omega) (cyc fun k : Fin 4 => choice V ⟨i / 8, by omega⟩ ⟨i % 8 * 4 + k, by omega⟩) j _
    fun x => before_bit 4 (by omega) _ x j
  rw [← slt_lit (by have := rank_lt_n (m := cyc fun k : Fin 4 => choice V ⟨i / 8, by omega⟩ ⟨i % 8 * 4 + k, by omega⟩) j.2; omega) (by omega), ← h]
  simp only [cyc_val]
  unfold r45 choice score rX rW rXs rWs rB
  after_reads_at

theorem at46 (V : Mem) (i : Fin 262144) (j : Fin 4) :
    r46 (StableHlo.after Gen.hostOps1_1 V) (ix2 i j) = Scalar.select (r45 V (ix2 i j)) (r22 V (ix2 i j)) (k3 V ix0) := by
  unfold r46 r45 r22 k3
  after_reads_at
  rfl

open Classical in
theorem at72 (V : Mem) (n : Fin 32768) (g : Fin 8) : r72 (StableHlo.after Gen.hostOps1_2 V) (ix3 n g 0)
    = BitVec.ofBool (decide (rank 8 (cyc fun g : Fin 8 => ∑ x : Fin 4, r46 V (ix2 ⟨n * 8 + g, by omega⟩ x)) g < 4)) := by
  have h := count_eq 8 (by omega) (cyc fun g : Fin 8 => ∑ x : Fin 4, r46 V (ix2 ⟨n * 8 + g, by omega⟩ x)) g _
    fun x => before_bit 8 (by omega) _ x g
  rw [← slt_lit (by have := rank_lt_n (m := cyc fun g : Fin 8 => ∑ x : Fin 4, r46 V (ix2 ⟨n * 8 + g, by omega⟩ x)) g.2; omega) (by omega), ← h]
  simp only [cyc_val]
  unfold r46 r72
  after_reads_at

theorem at73 (V : Mem) (n : Fin 32768) (g : Fin 8) (i : Fin 4) :
    r73 (StableHlo.after Gen.hostOps1_2 V) (ix3 n g i) = r21 V (ix2 n ⟨g * 4 + i, by omega⟩) := by
  unfold r73 r21
  after_reads_at

theorem at74 (V : Mem) (n : Fin 32768) (g : Fin 8) (i : Fin 4) :
    r74 (StableHlo.after Gen.hostOps1_3 V) (ix3 n g i) = Scalar.select (r72 V (ix3 n g 0)) (r73 V (ix3 n g i)) (k7 V ix0) := by
  unfold r74 r72 r73 k7
  after_reads_at
  rfl

open Classical in
theorem at102 (V : Mem) (n : Fin 32768) (j : Fin 4) (e : Fin 32) : r102 (StableHlo.after Gen.hostOps1_4 V) (ix3 n j e)
    = BitVec.ofBool (decide (rank 32 (cyc fun k : Fin 32 => r74 V (ix3 n ⟨k / 4, by omega⟩ ⟨k % 4, by omega⟩)) e = j)) := by
  have h := count_eq 32 (by omega) (cyc fun k : Fin 32 => r74 V (ix3 n ⟨k / 4, by omega⟩ ⟨k % 4, by omega⟩)) e _
    fun x => before_bit 32 (by omega) _ x e
  rw [← eq_lit (by have := rank_lt_n (m := cyc fun k : Fin 32 => r74 V (ix3 n ⟨k / 4, by omega⟩ ⟨k % 4, by omega⟩)) e.2; omega) (by omega), ← h]
  simp only [cyc_val]
  unfold r102 r74
  after_reads_at

theorem at104 (V : Mem) (e : Fin 32) : r104 (StableHlo.after Gen.hostOps1_4 V) (ix3 0 0 e) = BitVec.ofNat 32 e := by
  unfold r104
  after_reads_at

theorem at105 (V : Mem) (n : Fin 32768) (j : Fin 4) (e : Fin 32) :
    r105 (StableHlo.after Gen.hostOps1_5 V) (ix3 n j e) = Scalar.select (r102 V (ix3 n j e)) (r104 V (ix3 0 0 e)) (k9 V ix0) := by
  unfold r102 r104 r105 k9
  after_reads_at
  rfl

theorem at106 (V : Mem) (n : Fin 32768) (j : Fin 4) :
    r106 (StableHlo.after Gen.hostOps1_6 V) (ix2 n j) = Finset.fold IntOp.addi 0#32 (fun e : Fin 32 => r105 V (ix3 n j e)) Finset.univ := by
  unfold r105 r106
  after_reads_at

theorem at107 (V : Mem) (n : Fin 32768) (e : Fin 32) : r107 (StableHlo.after Gen.hostOps1_6 V) (ix3 n 0 e) = r18 V (ix2 n e) := by
  unfold r107 r18
  after_reads_at

theorem at108 (V : Mem) (n : Fin 32768) (j : Fin 4) (e : Fin 32) :
    r108 (StableHlo.after Gen.hostOps1_7 V) (ix3 n j e) = Scalar.select (r102 V (ix3 n j e)) (r107 V (ix3 n 0 e)) (k11 V ix0) := by
  unfold r108 r107 r102 k11
  after_reads_at
  rfl

theorem at116 (V : Mem) (a : Fin 8) (b : Fin 4096) (j : Fin 4) :
    r116 (StableHlo.after Gen.hostOps1_8 V) (ix3 a b j) = r106 V (ix2 ⟨a * 4096 + b, by omega⟩ j) := by
  unfold r116 r106
  after_reads_at

theorem at117 (V : Mem) (a : Fin 8) (b : Fin 4096) (j : Fin 4) : r117 (StableHlo.after Gen.hostOps1_8 V) (ix3 a b j)
    = Ideal.div (∑ e : Fin 32, r108 V (ix3 ⟨a * 4096 + b, by omega⟩ j e))
        (∑ i : Fin 4, ∑ e : Fin 32, r108 V (ix3 ⟨a * 4096 + b, by omega⟩ i e)) * Ideal.ofBits .f32 0x40200000#32 := by
  unfold r117 r108
  after_reads_at

theorem k3_at (V : Mem) : k3 (StableHlo.after Gen.hostOps1 V) ix0 = 0 := by
  unfold k3
  after_reads_at

theorem k7_at (V : Mem) : k7 (StableHlo.after Gen.hostOps1_2 V) ix0 = ⊥ := by
  unfold k7
  after_reads_at
  simp [Ideal.ofBits, Ideal.ieee]

theorem k9_at (V : Mem) : k9 (StableHlo.after Gen.hostOps1_4 V) ix0 = 0#32 := by
  unfold k9
  after_reads_at

theorem k11_at (V : Mem) : k11 (StableHlo.after Gen.hostOps1_6 V) ix0 = 0 := by
  unfold k11
  after_reads_at

/-! What a stage does not write, it keeps. -/

theorem keep21 (V : Mem) : r21 (StableHlo.after Gen.hostOps1_1 V) = r21 V := by
  unfold r21
  after_reads_simp

theorem keep18 (V : Mem) : r18 (StableHlo.after Gen.hostOps1_5 (StableHlo.after Gen.hostOps1_4 (StableHlo.after Gen.hostOps1_3
    (StableHlo.after Gen.hostOps1_2 (StableHlo.after Gen.hostOps1_1 V))))) = r18 V := by
  unfold r18
  after_reads_simp

theorem keep102 (V : Mem) : r102 (StableHlo.after Gen.hostOps1_6 (StableHlo.after Gen.hostOps1_5 V)) = r102 V := by
  unfold r102
  after_reads_simp

theorem keep106 (V : Mem) : r106 (StableHlo.after Gen.hostOps1_7 V) = r106 V := by
  unfold r106
  after_reads_simp

/-! ## The stages together -/

theorem select_ofBool {α : Type} (p : Prop) [Decidable p] (x y : α) : Scalar.select (BitVec.ofBool (decide p)) x y = if p then x else y := by
  by_cases h : p <;> simp [h, Scalar.select]

theorem rank_ext {n : ℕ} {m m' : ℕ → EReal} {e : ℕ} (he : e < n) (h : ∀ k < n, m k = m' k) : rank n m e = rank n m' e :=
  rank_congr fun k hk => by unfold Before; rw [h k hk, h e he]

/-- The memory after the two first stages. -/
abbrev V2 (V : Mem) : Mem := StableHlo.after Gen.hostOps1_1 (StableHlo.after Gen.hostOps1 V)
/-- The memory after the four first stages. -/
abbrev V4 (V : Mem) : Mem := StableHlo.after Gen.hostOps1_3 (StableHlo.after Gen.hostOps1_2 (V2 V))
/-- The memory after all stages. -/
abbrev V9 (V : Mem) : Mem := StableHlo.after Gen.hostOps1_8 (StableHlo.after Gen.hostOps1_7 (StableHlo.after Gen.hostOps1_6 (StableHlo.after Gen.hostOps1_5
  (StableHlo.after Gen.hostOps1_4 (V4 V)))))

theorem sum46 (V : Mem) (n : Fin 32768) (g : Fin 8) :
    (∑ x : Fin 4, r46 (V2 V) (ix2 ⟨n * 8 + g, by omega⟩ x)) = best2 (cyc (choice V n)) g := by
  classical
  unfold best2
  rw [Finset.sum_range]
  refine Finset.sum_congr rfl fun x _ => ?_
  have hn : ∀ h, (⟨(n * 8 + g) / 8, h⟩ : Fin 32768) = n := fun h => Fin.ext (by simp only; omega)
  have he : ∀ (k : Fin 4) h, (⟨(n * 8 + g) % 8 * 4 + k, h⟩ : Fin 32) = ⟨g * 4 + k, by omega⟩ := fun k h => Fin.ext (by simp only; omega)
  rw [at46, at45, at22, k3_at, select_ofBool]
  simp only [hn, he]
  rw [cyc_of_lt (choice V n) (show g.val * 4 + x.val < 32 by omega)]
  rw [rank_ext (m' := fun k => cyc (choice V n) (g * 4 + k)) x.2 fun k hk => ?_]
  rw [cyc_of_lt _ hk, cyc_of_lt (choice V n) (show g.val * 4 + k < 32 by omega)]

theorem at74' (V : Mem) (n : Fin 32768) (e : Fin 32) :
    r74 (V4 V) (ix3 n ⟨e / 4, by omega⟩ ⟨e % 4, by omega⟩) = kept (cyc (choice V n)) e := by
  classical
  unfold kept
  rw [at74, at73, at72, k7_at, select_ofBool, keep21, at21, cyc_val]
  rw [rank_ext (m' := best2 (cyc (choice V n))) (by omega) fun k hk => by rw [cyc_of_lt _ hk]; exact sum46 V n ⟨k, hk⟩]
  have he : ∀ h, (⟨e / 4 * 4 + e % 4, h⟩ : Fin 32) = e := fun h => Fin.ext (by simp only; omega)
  simp only [he]

theorem at102' (V : Mem) (n : Fin 32768) (j : Fin 4) (e : Fin 32) {α : Type} (x y : α) :
    Scalar.select (r102 (StableHlo.after Gen.hostOps1_4 (V4 V)) (ix3 n j e)) x y = if rank 32 (kept (cyc (choice V n))) e = j then x else y := by
  classical
  rw [at102, select_ofBool, rank_ext (m' := kept (cyc (choice V n))) e.2 fun k hk => by rw [cyc_of_lt _ hk]; exact at74' V n ⟨k, hk⟩]

/-- The ids that the reference leaves. -/
theorem ids_at (V : Mem) (a : Fin 8) (b : Fin 4096) (j : Fin 4) :
    r116 (V9 V) (ix3 a b j) = ids (cyc (choice V ⟨a * 4096 + b, by omega⟩)) j := by
  unfold ids
  rw [at116, keep106, at106]
  refine Finset.fold_congr fun e _ => ?_
  rw [at105, at104, k9_at, at102']

theorem sel_at (V : Mem) (n : Fin 32768) (j : Fin 4) :
    (∑ e : Fin 32, r108 (StableHlo.after Gen.hostOps1_7 (StableHlo.after Gen.hostOps1_6 (StableHlo.after Gen.hostOps1_5
      (StableHlo.after Gen.hostOps1_4 (V4 V))))) (ix3 n j e)) = sel (cyc (score V n)) (cyc (choice V n)) j := by
  unfold sel
  refine Finset.sum_congr rfl fun e _ => ?_
  rw [at108, at107, k11_at, keep102, at102', cyc_val, keep18, at18]

/-- The weights that the reference leaves. -/
theorem weights_at (V : Mem) (a : Fin 8) (b : Fin 4096) (j : Fin 4) :
    r117 (V9 V) (ix3 a b j) = wt (cyc (score V ⟨a * 4096 + b, by omega⟩)) (cyc (choice V ⟨a * 4096 + b, by omega⟩)) j := by
  unfold wt
  rw [at117]
  simp only [sel_at]

end Cert.ReferenceIdeal
-- ==== Proof.Ref.lean ====
/- What the reference leaves in its two results. -/
module

public import proofs.«01_k».proof.Proof.RefLine

@[expose] public section

set_option maxRecDepth 16384

noncomputable section

namespace Cert.ReferenceIdeal

open Idealize.ShloMosaic Idealize.ShloMosaic.TcCoe Idealize.SL.Sem Cert.Rank Cert.Spec
open Idealize.ShloMosaic.Pipeline (Dat)

variable (m : (ℓ : Loc nD τ sig) → Buf (Elt Ideal) ℓ)

theorem idx : ∀ t : Fin cfg0.N, win0_0.index t = ![0, 0, 0] ∧ win0_1.index t = ![0, 0] ∧ win0_2.index t = ![0, 0, 0] ∧ win0_3.index t = ![0, 0] :=
  (by decide +kernel : ∀ t : Fin grid0.N, _)

/-- The first output of the region: the codes as they are. -/
theorem arr2 (c : Dev nD) : (Gen.dats m 0 c).arrAt 2 (cfgs 0).N = m ((c.tc : Thread nD τ).loc main_arg0) := by
  have h : ∀ x, Gen.k0_pay1 (F := Ideal) x = x := fun x => rfl
  rw [← h (m ((c.tc : Thread nD τ).loc main_arg0))]
  refine (Gen.dats m 0 c).arrAt_eq_of_after_last 2 Gen.t0_0 (by decide +kernel) _ fun j => ?_
  blk_simp
  rw [Gen.after0_2]
  frame_out
  blk_point [Gen.iblk, Gen.V, idx Gen.t0_0]

/-- The second output of the region: the weights' codes as they are. -/
theorem arr3 (c : Dev nD) : (Gen.dats m 0 c).arrAt 3 (cfgs 0).N = m ((c.tc : Thread nD τ).loc main_arg2) := by
  have h : ∀ x, Gen.k0_pay2 (F := Ideal) x = x := fun x => rfl
  rw [← h (m ((c.tc : Thread nD τ).loc main_arg2))]
  refine (Gen.dats m 0 c).arrAt_eq_of_after_last 3 Gen.t0_0 (by decide +kernel) _ fun j => ?_
  blk_simp
  rw [Gen.after0_3]
  frame_out
  blk_point [Gen.iblk, Gen.V, idx Gen.t0_0]

/-- The memory that the host operations start from. -/
def mid (c : Dev nD) : Mem := Pipeline.withArrays (cfgs 0).spec c (Gen.V0 m c) fun w => (Gen.dats m 0 c).arrAt w (cfgs 0).N

theorem midX (c : Dev nD) : rX (mid m c) = m ((c.tc : Thread nD τ).loc main_arg0) :=
  (Pipeline.withArrays_arr (cfgs 0).spec Gen.winFacts0.arr_inj c (Gen.V0 m c) _ 2).trans (arr2 m c)

theorem midW (c : Dev nD) : rW (mid m c) = m ((c.tc : Thread nD τ).loc main_arg2) :=
  (Pipeline.withArrays_arr (cfgs 0).spec Gen.winFacts0.arr_inj c (Gen.V0 m c) _ 3).trans (arr3 m c)

theorem midXs (c : Dev nD) : rXs (mid m c) = m ((c.tc : Thread nD τ).loc main_arg1) :=
  Pipeline.withArrays_of_ne (cfgs 0).spec c (Gen.V0 m c) _ main_arg1 (by decide)

theorem midWs (c : Dev nD) : rWs (mid m c) = m ((c.tc : Thread nD τ).loc main_arg3) :=
  Pipeline.withArrays_of_ne (cfgs 0).spec c (Gen.V0 m c) _ main_arg3 (by decide)

theorem midB (c : Dev nD) : rB (mid m c) = m ((c.tc : Thread nD τ).loc main_arg4) :=
  Pipeline.withArrays_of_ne (cfgs 0).spec c (Gen.V0 m c) _ main_arg4 (by decide)

/-- At the end the two results hold the chosen experts and their weights. -/
theorem results (ρ : Dev nD → PrngReg) :
    θ_run defs (onTc (τ := τ) (main (F := Ideal))) ⟨m, fun _ => 0, ρ⟩ (fun r => ∀ c : Dev nD,
      (∀ (a : Fin 8) (b : Fin 4096) (j : Fin 4), (r.2.mem ((c.tc : Thread nD τ).loc main_v116) : S8x4096x4.Idx → BitVec 32) (ix3 a b j)
        = ids (cyc (choice (mid m c) ⟨a * 4096 + b, by omega⟩)) j)
      ∧ ∀ (a : Fin 8) (b : Fin 4096) (j : Fin 4), (r.2.mem ((c.tc : Thread nD τ).loc main_v117) : S8x4096x4.Idx → EReal) (ix3 a b j)
        = wt (cyc (score (mid m c) ⟨a * 4096 + b, by omega⟩)) (cyc (choice (mid m c) ⟨a * 4096 + b, by omega⟩)) j) := by
  refine (θ_run defs _ _).mono (fun r h c => ?_) (Gen.run_main m ρ)
  have key : ∀ b : Ref sig .tc, b ∈ Pipeline.restRefs sig (cfgs 0).spec → r.2.mem ((c.tc : Thread nD τ).loc b) = V9 (mid m c) (Proc.devRef .tc b) := by
    intro b hb
    rw [(h c).2 b hb]
    simp only [Pipeline.afterTail₀, List.flatten_cons, List.flatten_nil, List.append_nil, StableHlo.after_append]
    rfl
  refine ⟨fun a b j => ?_, fun a b j => ?_⟩
  · rw [key main_v116 (by decide)]
    exact ids_at (mid m c) a b j
  · rw [key main_v117 (by decide)]
    exact weights_at (mid m c) a b j

end Cert.ReferenceIdeal
-- ==== Proof.Match.lean ====
/- The router's scores are the reference's, and the precondition keeps every biased score off the lowest float. -/
module

public import proofs.«01_k».proof.Defs
public import proofs.«01_k».proof.Proof.Arrays
public import proofs.«01_k».proof.Proof.Ref

@[expose] public section

set_option maxRecDepth 16384

noncomputable section

namespace Cert.Match

open Idealize.ShloMosaic Idealize.ShloMosaic.TcCoe Idealize.SL.Sem Cert.Model Cert.Spec

theorem exp_nonneg (x : EReal) : 0 ≤ Ideal.exp x := by
  induction x with
  | bot => exact le_refl _
  | top => exact le_top
  | coe r => exact EReal.coe_nonneg.mpr (Real.exp_nonneg r)

/-- A logistic is never negative. -/
theorem logistic_nonneg (x : EReal) : 0 ≤ Ideal.div 1 (1 + Ideal.exp x) := by
  have h : 0 ≤ 1 + Ideal.exp x := add_nonneg zero_le_one (exp_nonneg x)
  unfold Ideal.div
  split_ifs with h1 h2
  · exact le_top
  · exact absurd zero_lt_one h2
  · rw [one_mul]
    exact EReal.inv_nonneg_of_nonneg h

theorem or_bits : ∀ p q : Bool, IntOp.ori (BitVec.ofBool p) (BitVec.ofBool q) = 1#1 → p = true ∨ q = true := by decide

theorem mul_both {a b c d : EReal} (h : a = c) (h' : b = d) : a * b = c * d := by rw [h, h']

theorem mul_cross {a b c d : EReal} (h : b = c) (h' : a = d) : a * b = c * d := by rw [h, h', mul_comm]

theorem ix1_eq {n : ℕ} {a a' : Fin n} (ha : (a : ℕ) = a') : ix1 a = ix1 a' := by
  rw [Fin.ext ha]

theorem ix2_eq {n k : ℕ} {a a' : Fin n} {b b' : Fin k} (ha : (a : ℕ) = a') (hb : (b : ℕ) = b') : ix2 a b = ix2 a' b' := by
  rw [Fin.ext ha, Fin.ext hb]

theorem ix3_eq {n k l : ℕ} {a a' : Fin n} {b b' : Fin k} {d d' : Fin l} (ha : (a : ℕ) = a') (hb : (b : ℕ) = b') (hd : (d : ℕ) = d') :
    ix3 a b d = ix3 a' b' d' := by
  rw [Fin.ext ha, Fin.ext hb, Fin.ext hd]

theorem pre_facts : Cert.Pre_bias_in_range.Facts := ⟨by decide⟩

/-- The precondition, of one bias. -/
theorem bias_cases [Pre_bias_in_range.Facts] {x0 : FVec Ideal Pre_bias_in_range.S8x4096x2816 .fp8e4m3} {x1 : FVec Ideal Pre_bias_in_range.S8x4096x22 .f32}
    {x2 : FVec Ideal Pre_bias_in_range.S2816x32 .fp8e4m3} {x3 b : FVec Ideal Pre_bias_in_range.S32 .f32}
    (h : Pre_bias_in_range.fn x0 x1 x2 x3 b = fun _ => 1#1) (e : Fin 32) : low < (b (ix1 e) : EReal) ∨ (b (ix1 e) : EReal) = ⊥ := by
  have h := congrFun h (ix1 e)
  have hb : Ideal.ofBits .f32 0xFF800000#32 = (⊥ : EReal) := by simp [Ideal.ofBits, Ideal.ieee]
  rw [← hb]
  unfold low
  revert h
  pointwise [Pre_bias_in_range.fn]
  intro h
  have h := or_bits _ _ h
  simpa using h

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- No biased score lies between minus infinity and the lowest float. -/
theorem apart [Pre_bias_in_range.Facts] (hP : Pre_KernelIdeal_bias_in_range m) (c : Dev KernelIdeal.nD) (t n e) :
    KernelIdeal.chc m c t n e = ⊥ ∨ low < KernelIdeal.chc m c t n e := by
  have hs : 0 ≤ KernelIdeal.scr m c t n e := logistic_nonneg _
  have hb := bias_cases (hP c) (Fin.ofNat 32 e)
  have h : KernelIdeal.chc m c t n e = KernelIdeal.scr m c t n e
      + (m ((c.tc : Thread KernelIdeal.nD KernelIdeal.τ).loc KernelIdeal.main_arg4) : KernelIdeal.S32.Idx → EReal) (ix1 (Fin.ofNat 32 e)) :=
    congrArg (KernelIdeal.scr m c t n e + ·) (KernelIdeal.blk1 m c t (Fin.ofNat 32 e))
  rw [h]
  rcases hb with hb | hb
  · exact Or.inr (hb.trans_le (le_add_of_nonneg_left hs))
  · exact Or.inl ((congrArg (KernelIdeal.scr m c t n e + ·) hb).trans (EReal.add_bot _))

/-- An expert's weight at position `k`, in the argument. -/
theorem codes_at (c : Dev KernelIdeal.nD) (t : Fin KernelIdeal.cfg0.N) (e : Fin 32) (k : ℕ) : KernelIdeal.codes m c t e k
    = (m ((c.tc : Thread KernelIdeal.nD KernelIdeal.τ).loc KernelIdeal.main_arg2) : KernelIdeal.S2816x32.Idx → EReal) (ix2 (Fin.ofNat 2816 k) e) :=
  KernelIdeal.blk4 m c t e (Fin.ofNat 2816 k)

section Agree

variable (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
  (h4 : m' ((c.tc : Thread ReferenceIdeal.nD ReferenceIdeal.τ).loc ReferenceIdeal.main_arg4) = m ((c.tc : Thread KernelIdeal.nD KernelIdeal.τ).loc KernelIdeal.main_arg4))
  (a : Fin 8) (b : Fin 4096)

include h0 h1 h2 h3 in
/-- The scores of a token, on both sides. -/
theorem score_eq : KernelIdeal.scr m c (KernelIdeal.stepOf a b) (KernelIdeal.placeOf b)
    = cyc (ReferenceIdeal.score (ReferenceIdeal.mid m' c) ⟨a * 4096 + b, by omega⟩) := by
  funext e
  refine congrArg (fun z => Ideal.div 1 (1 + Ideal.exp (-z))) ?_
  refine mul_both ?_ ?_
  · unfold KernelIdeal.lg logitOf
    refine Finset.sum_congr rfl fun k _ => ?_
    refine mul_both (Finset.sum_congr rfl fun q _ => ?_) ((KernelIdeal.blk3 m c _ _ _).trans ?_)
    refine mul_cross ((KernelIdeal.blk2 m c _ _ _).trans ?_) ((codes_at m c _ _ _).trans ?_)
    · rw [ReferenceIdeal.midX, h0]
      refine congrArg (m ((c.tc : Thread KernelIdeal.nD KernelIdeal.τ).loc KernelIdeal.main_arg0) : KernelIdeal.S8x4096x2816.Idx → EReal) (ix3_eq ?_ ?_ ?_) <;>
        simp only [KernelIdeal.stepOf, KernelIdeal.placeOf, Fin.ofNat] <;> omega
    · rw [ReferenceIdeal.midW, h2]
      refine congrArg (m ((c.tc : Thread KernelIdeal.nD KernelIdeal.τ).loc KernelIdeal.main_arg2) : KernelIdeal.S2816x32.Idx → EReal) (ix2_eq ?_ rfl)
      simp only [Fin.ofNat]
      omega
    · rw [ReferenceIdeal.midXs, h1]
      refine congrArg (m ((c.tc : Thread KernelIdeal.nD KernelIdeal.τ).loc KernelIdeal.main_arg1) : KernelIdeal.S8x4096x22.Idx → EReal) (ix3_eq ?_ ?_ rfl) <;>
        simp only [KernelIdeal.stepOf, KernelIdeal.placeOf] <;> omega
  · refine (KernelIdeal.blk0 m c _ _).trans ?_
    rw [ReferenceIdeal.midWs, h3]

include h0 h1 h2 h3 h4 in
/-- The biased scores of a token, on both sides. -/
theorem choice_eq : KernelIdeal.chc m c (KernelIdeal.stepOf a b) (KernelIdeal.placeOf b)
    = cyc (ReferenceIdeal.choice (ReferenceIdeal.mid m' c) ⟨a * 4096 + b, by omega⟩) := by
  funext e
  refine congrArg₂ (· + ·) (congrFun (score_eq m m' c h0 h1 h2 h3 a b) e) ((KernelIdeal.blk1 m c _ _).trans ?_)
  rw [ReferenceIdeal.midB, h4]

end Agree

end Cert.Match
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Match
public import Idealize.ShloMosaic.Adequacy
public import Idealize.ShloMosaic.Init

@[expose] public section

noncomputable section

namespace Cert.Proof

open Idealize.ShloMosaic Idealize.ShloMosaic.TcCoe Idealize.SL.Sem Cert.Spec

theorem ix3_self {a b d : ℕ} (z : (⟨3, ![a, b, d]⟩ : Shape).Idx) : z = ix3 (z 0) (z 1) (z 2) := by
  funext i
  fin_cases i <;> rfl

/-- The ids that both programs leave. -/
def idsOf (m : (ℓ : Loc KernelIdeal.nD KernelIdeal.τ KernelIdeal.sig) → Buf (Elt Ideal) ℓ) (c : Dev KernelIdeal.nD) : KernelIdeal.S8x4096x4.Idx → BitVec 32 :=
  fun z => ids (KernelIdeal.chc m c (KernelIdeal.stepOf (z 0) (z 1)) (KernelIdeal.placeOf (z 1))) (z 2)

/-- The weights that both programs leave. -/
def wtOf (m : (ℓ : Loc KernelIdeal.nD KernelIdeal.τ KernelIdeal.sig) → Buf (Elt Ideal) ℓ) (c : Dev KernelIdeal.nD) : KernelIdeal.S8x4096x4.Idx → EReal :=
  fun z => wt (KernelIdeal.scr m c (KernelIdeal.stepOf (z 0) (z 1)) (KernelIdeal.placeOf (z 1)))
    (KernelIdeal.chc m c (KernelIdeal.stepOf (z 0) (z 1)) (KernelIdeal.placeOf (z 1))) (z 2)

theorem algebraic [Pre_bias_in_range.Facts] : algebraic_KernelIdeal_ReferenceIdeal_pre_bias_in_range := by
  intro m g m' g' hP hA
  refine ⟨idsOf m, wtOf m, ?_, ?_⟩
  · refine (θ_run _ _ _).mono (fun r h c => ?_) (θ_run_and (KernelIdeal.results m (Match.apart m hP) g) (KernelIdeal.Gen.frame m g))
    refine ⟨?_, ?_, h.2.1 c⟩
    · funext z
      exact (congrArg _ (ix3_self z)).trans ((h.1 c).1 (z 0) (z 1) (z 2))
    · funext z
      exact (congrArg _ (ix3_self z)).trans ((h.1 c).2 (z 0) (z 1) (z 2))
  · refine (θ_run _ _ _).mono (fun r h c => ?_) (θ_run_and (ReferenceIdeal.results m' g') (ReferenceIdeal.Gen.frame m' g'))
    obtain ⟨h0, h1, h2, h3, h4⟩ := hA c
    refine ⟨?_, ?_, h.2.1 c⟩
    · funext z
      refine (congrArg _ (ix3_self z)).trans (((h.1 c).1 (z 0) (z 1) (z 2)).trans ?_)
      exact (congrArg (fun C => ids C (z 2)) (Match.choice_eq m m' c h0 h1 h2 h3 h4 (z 0) (z 1))).symm
    · funext z
      refine (congrArg _ (ix3_self z)).trans (((h.1 c).2 (z 0) (z 1) (z 2)).trans ?_)
      exact (congrArg₂ (fun S C => wt S C (z 2)) (Match.score_eq m m' c h0 h1 h2 h3 (z 0) (z 1)) (Match.choice_eq m m' c h0 h1 h2 h3 h4 (z 0) (z 1))).symm

theorem claim : Cert.Claim := ⟨Cert.Kernel.Gen.facts, Cert.KernelIdeal.Gen.facts, Cert.ReferenceIdeal.Gen.facts, Match.pre_facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  have := Match.pre_facts
  algebraic⟩

end Cert.Proof

end
